-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v88) = v0 c
          ∧ r.2.mem ((c.tc : Thread Cert.Reference11Ideal.nD Cert.Reference11Ideal.τ).loc Cert.Reference11Ideal.main_v86) = v1 c
          ∧ r.2.mem ((c.tc : Thread Cert.Reference11Ideal.nD Cert.Reference11Ideal.τ).loc Cert.Reference11Ideal.main_v60) = v2 c
          ∧ r.2.mem ((c.tc : Thread Cert.Reference11Ideal.nD Cert.Reference11Ideal.τ).loc Cert.Reference11Ideal.main_v57) = v3 c
          ∧ r.2.mem ((c.tc : Thread Cert.Reference11Ideal.nD Cert.Reference11Ideal.τ).loc Cert.Reference11Ideal.main_v53) = v4 c
          ∧ r.2.mem ((c.tc : Thread Cert.Reference11Ideal.nD Cert.Reference11Ideal.τ).loc Cert.Reference11Ideal.main_v50) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v47) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v121) = v0 c
          ∧ r.2.mem ((c.tc : Thread Cert.Reference14Ideal.nD Cert.Reference14Ideal.τ).loc Cert.Reference14Ideal.main_v122) = v1 c
          ∧ r.2.mem ((c.tc : Thread Cert.Reference14Ideal.nD Cert.Reference14Ideal.τ).loc Cert.Reference14Ideal.main_v94) = v2 c
          ∧ r.2.mem ((c.tc : Thread Cert.Reference14Ideal.nD Cert.Reference14Ideal.τ).loc Cert.Reference14Ideal.main_v89) = v3 c
          ∧ r.2.mem ((c.tc : Thread Cert.Reference14Ideal.nD Cert.Reference14Ideal.τ).loc Cert.Reference14Ideal.main_v120) = v4 c
          ∧ r.2.mem ((c.tc : Thread Cert.Reference14Ideal.nD Cert.Reference14Ideal.τ).loc Cert.Reference14Ideal.main_v91) = v5 c
          ∧ r.2.mem ((c.tc : Thread Cert.Reference14Ideal.nD Cert.Reference14Ideal.τ).loc Cert.Reference14Ideal.main_v61) = v6 c
          ∧ r.2.mem ((c.tc : Thread Cert.Reference14Ideal.nD Cert.Reference14Ideal.τ).loc Cert.Reference14Ideal.main_v58) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x1024 .bf16) (main_arg2 : FVec F S8192x512 .bf16) (main_arg3 : FVec F S8192x512 .f32) : IVec S8192x1024 1 × IVec S8192x1024 1 × IVec S8192x512 1 × IVec S8192x512 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := Host.absf main_arg3
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  (main_v3, main_v7, main_v11, main_v14)
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg3
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v2, main_v6, main_v10)
-- ==== Kernel.lean ====
abbrev S8192x1024 : Shape := ⟨2, ![8192, 1024]⟩
abbrev S8192x512 : Shape := ⟨2, ![8192, 512]⟩
abbrev S8192x4x256 : Shape := ⟨3, ![8192, 4, 256]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S2048x256 : Shape := ⟨2, ![2048, 256]⟩
abbrev S1024x256 : Shape := ⟨2, ![1024, 256]⟩
abbrev S1024x128 : Shape := ⟨2, ![1024, 128]⟩
abbrev S2048x128 : Shape := ⟨2, ![2048, 128]⟩
abbrev S1x2048x1 : Shape := ⟨3, ![1, 2048, 1]⟩
abbrev S8192x256 : Shape := ⟨2, ![8192, 256]⟩
abbrev S256x256 : Shape := ⟨2, ![256, 256]⟩
abbrev S256x128 : Shape := ⟨2, ![256, 128]⟩
abbrev S256x1024 : Shape := ⟨2, ![256, 1024]⟩
abbrev S1x256x1 : Shape := ⟨3, ![1, 256, 1]⟩
abbrev S256x1 : Shape := ⟨2, ![256, 1]⟩
abbrev S256 : Shape := ⟨1, ![256]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩

abbrev nBuf : Space → Nat
  | .hbm => 79
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x4x256, .f32⟩
  | .hbm, ⟨8, _⟩ => ⟨S8192x4x256, .f32⟩
  | .hbm, ⟨9, _⟩ => ⟨S4x8192x8192, .f32⟩
  | .hbm, ⟨10, _⟩ => ⟨S_, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x8192x8192, .i1⟩
  | .hbm, ⟨41, _⟩ => ⟨S4x8192x8192, .f32⟩
  | .hbm, ⟨42, _⟩ => ⟨S4x8192x8192, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x8192, .f32⟩
  | .hbm, ⟨59, _⟩ => ⟨S4x8192x8192, .f32⟩
  | .hbm, ⟨60, _⟩ => ⟨S8192x4x128, .f32⟩
  | .hbm, ⟨61, _⟩ => ⟨S4x128x8192, .f32⟩
  | .hbm, ⟨62, _⟩ => ⟨S8192x4x128, .f32⟩
  | .hbm, ⟨63, _⟩ => ⟨S8192x512, .f32⟩
  | .hbm, ⟨64, _⟩ => ⟨S4x8192x8192, .f32⟩
  | .hbm, ⟨65, _⟩ => ⟨S4x8192x8192, .f32⟩
  | .hbm, ⟨66, _⟩ => ⟨S4x8192x8192, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x1, .f32⟩
  | .hbm, ⟨71, _⟩ => ⟨S4x8192x1, .f32⟩
  | .hbm, ⟨72, _⟩ => ⟨S_, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S8192x1024, .f32⟩
  | .hbm, ⟨77, _⟩ => ⟨S8192x1024, .f32⟩
  | .hbm, ⟨78, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S1x2048x1, .f32⟩
  | .local _ .vmem, ⟨9, _⟩ => ⟨S1x2048x1, .f32⟩
  | .local _ .vmem, ⟨10, _⟩ => ⟨S2048x128, .f32⟩
  | .local _ .vmem, ⟨11, _⟩ => ⟨S2048x128, .f32⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44_0 : Ref sig .tc := ⟨.hbm, 76, rfl⟩
abbrev main_v44_1 : Ref sig .tc := ⟨.hbm, 77, rfl⟩
abbrev main_v44_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg1 : BitVec 32 := BitVec.ofNat 32 (i 1).val
  let arg2 : BitVec 32 := BitVec.ofNat 32 (i 2).val
  let c2_i32 : BitVec 32 := 2#32
  let v8 : BitVec 32 := Scalar.muli arg2 c2_i32
  let v9 : BitVec 1 := Scalar.cmpi .slt arg1 v8
  let v10 : BitVec 32 := Scalar.extui v9
  let c0_i32_4 : BitVec 32 := 0#32
  let v11 : BitVec 1 := Scalar.cmpi .ne v10 c0_i32_4
  v11

def k0_mult1 (i : grid0.Coords) : BitVec 32 :=
  let arg2 : BitVec 32 := BitVec.ofNat 32 (i 2).val
  let c2048_i32 : BitVec 32 := 2048#32
  let v69 : BitVec 32 := Scalar.muli arg2 c2048_i32
  let c0_i32_45 : BitVec 32 := 0#32
  let v70 : BitVec 32 := Scalar.addi v69 c0_i32_45
  v70
def k0_off1 (i : grid0.Coords) (c0_i32_45 : BitVec 32) : Fin 2 → Nat :=
  let arg2 : BitVec 32 := BitVec.ofNat 32 (i 2).val
  let c2048_i32 : BitVec 32 := 2048#32
  let v69 : BitVec 32 := Scalar.muli arg2 c2048_i32
  let v70 : BitVec 32 := Scalar.addi v69 c0_i32_45
  let v71 : BitVec 32 := v70
  let v72 : Index := Scalar.indexCast v71
  let c0_46 : Index := 0#32
  ![v72.toNat, 0]
def k0_mult2 (i : grid0.Coords) : BitVec 32 :=
  let arg2 : BitVec 32 := BitVec.ofNat 32 (i 2).val
  let c2048_i32_78 : BitVec 32 := 2048#32
  let v119 : BitVec 32 := Scalar.muli arg2 c2048_i32_78
  let c256_i32 : BitVec 32 := 256#32
  let v120 : BitVec 32 := Scalar.addi v119 c256_i32
  v120
def k0_mult3 (i : grid0.Coords) : BitVec 32 :=
  let arg2 : BitVec 32 := BitVec.ofNat 32 (i 2).val
  let c2048_i32_111 : BitVec 32 := 2048#32
  let v169 : BitVec 32 := Scalar.muli arg2 c2048_i32_111
  let c512_i32 : BitVec 32 := 512#32
  let v170 : BitVec 32 := Scalar.addi v169 c512_i32
  v170
def k0_mult4 (i : grid0.Coords) : BitVec 32 :=
  let arg2 : BitVec 32 := BitVec.ofNat 32 (i 2).val
  let c2048_i32_144 : BitVec 32 := 2048#32
  let v219 : BitVec 32 := Scalar.muli arg2 c2048_i32_144
  let c768_i32 : BitVec 32 := 768#32
  let v220 : BitVec 32 := Scalar.addi v219 c768_i32
  v220
def k0_mult5 (i : grid0.Coords) : BitVec 32 :=
  let arg2 : BitVec 32 := BitVec.ofNat 32 (i 2).val
  let c2048_i32_177 : BitVec 32 := 2048#32
  let v269 : BitVec 32 := Scalar.muli arg2 c2048_i32_177
  let c1024_i32 : BitVec 32 := 1024#32
  let v270 : BitVec 32 := Scalar.addi v269 c1024_i32
  v270
def k0_mult6 (i : grid0.Coords) : BitVec 32 :=
  let arg2 : BitVec 32 := BitVec.ofNat 32 (i 2).val
  let c2048_i32_210 : BitVec 32 := 2048#32
  let v319 : BitVec 32 := Scalar.muli arg2 c2048_i32_210
  let c1280_i32 : BitVec 32 := 1280#32
  let v320 : BitVec 32 := Scalar.addi v319 c1280_i32
  v320
def k0_mult7 (i : grid0.Coords) : BitVec 32 :=
  let arg2 : BitVec 32 := BitVec.ofNat 32 (i 2).val
  let c2048_i32_243 : BitVec 32 := 2048#32
  let v369 : BitVec 32 := Scalar.muli arg2 c2048_i32_243
  let c1536_i32 : BitVec 32 := 1536#32
  let v370 : BitVec 32 := Scalar.addi v369 c1536_i32
  v370
def k0_mult8 (i : grid0.Coords) : BitVec 32 :=
  let arg2 : BitVec 32 := BitVec.ofNat 32 (i 2).val
  let c2048_i32_267 : BitVec 32 := 2048#32
  let v412 : BitVec 32 := Scalar.muli arg2 c2048_i32_267
  let c1792_i32 : BitVec 32 := 1792#32
  let v413 : BitVec 32 := Scalar.addi v412 c1792_i32
  v413
def k0_cond4 (i : grid0.Coords) : BitVec 1 :=
  let arg1 : BitVec 32 := BitVec.ofNat 32 (i 1).val
  let arg2 : BitVec 32 := BitVec.ofNat 32 (i 2).val
  let c2_i32_5 : BitVec 32 := 2#32
  let v12 : BitVec 32 := Scalar.muli arg2 c2_i32_5
  let c0_i32_6 : BitVec 32 := 0#32
  let v13 : BitVec 32 := Scalar.addi v12 c0_i32_6
  let v14 : BitVec 1 := Scalar.cmpi .eq arg1 v13
  let v15 : BitVec 32 := Scalar.extui v14
  let c0_i32_7 : BitVec 32 := 0#32
  let v16 : BitVec 1 := Scalar.cmpi .ne v15 c0_i32_7
  v16

def k0_mult9 (i : grid0.Coords) : BitVec 32 :=
  let arg2 : BitVec 32 := BitVec.ofNat 32 (i 2).val
  let c2048_i32 : BitVec 32 := 2048#32
  let v73 : BitVec 32 := Scalar.muli arg2 c2048_i32
  let c0_i32_39 : BitVec 32 := 0#32
  let v74 : BitVec 32 := Scalar.addi v73 c0_i32_39
  v74
def k0_off2 (i : grid0.Coords) (c0_i32_39 : BitVec 32) : Fin 2 → Nat :=
  let arg2 : BitVec 32 := BitVec.ofNat 32 (i 2).val
  let c2048_i32 : BitVec 32 := 2048#32
  let v73 : BitVec 32 := Scalar.muli arg2 c2048_i32
  let v74 : BitVec 32 := Scalar.addi v73 c0_i32_39
  let v75 : BitVec 32 := v74
  let v76 : Index := Scalar.indexCast v75
  let c0_40 : Index := 0#32
  ![v76.toNat, 0]
def k0_mult10 (i : grid0.Coords) : BitVec 32 :=
  let arg2 : BitVec 32 := BitVec.ofNat 32 (i 2).val
  let c2048_i32_75 : BitVec 32 := 2048#32
  let v134 : BitVec 32 := Scalar.muli arg2 c2048_i32_75
  let c256_i32_76 : BitVec 32 := 256#32
  let v135 : BitVec 32 := Scalar.addi v134 c256_i32_76
  v135
def k0_mult11 (i : grid0.Coords) : BitVec 32 :=
  let arg2 : BitVec 32 := BitVec.ofNat 32 (i 2).val
  let c2048_i32_112 : BitVec 32 := 2048#32
  let v195 : BitVec 32 := Scalar.muli arg2 c2048_i32_112
  let c512_i32_113 : BitVec 32 := 512#32
  let v196 : BitVec 32 := Scalar.addi v195 c512_i32_113
  v196
def k0_mult12 (i : grid0.Coords) : BitVec 32 :=
  let arg2 : BitVec 32 := BitVec.ofNat 32 (i 2).val
  let c2048_i32_149 : BitVec 32 := 2048#32
  let v256 : BitVec 32 := Scalar.muli arg2 c2048_i32_149
  let c768_i32_150 : BitVec 32 := 768#32
  let v257 : BitVec 32 := Scalar.addi v256 c768_i32_150
  v257
def k0_mult13 (i : grid0.Coords) : BitVec 32 :=
  let arg2 : BitVec 32 := BitVec.ofNat 32 (i 2).val
  let c2048_i32_183 : BitVec 32 := 2048#32
  let v306 : BitVec 32 := Scalar.muli arg2 c2048_i32_183
  let c1024_i32 : BitVec 32 := 1024#32
  let v307 : BitVec 32 := Scalar.addi v306 c1024_i32
  v307
def k0_mult14 (i : grid0.Coords) : BitVec 32 :=
  let arg2 : BitVec 32 := BitVec.ofNat 32 (i 2).val
  let c2048_i32_216 : BitVec 32 := 2048#32
  let v356 : BitVec 32 := Scalar.muli arg2 c2048_i32_216
  let c1280_i32 : BitVec 32 := 1280#32
  let v357 : BitVec 32 := Scalar.addi v356 c1280_i32
  v357
def k0_mult15 (i : grid0.Coords) : BitVec 32 :=
  let arg2 : BitVec 32 := BitVec.ofNat 32 (i 2).val
  let c2048_i32_249 : BitVec 32 := 2048#32
  let v406 : BitVec 32 := Scalar.muli arg2 c2048_i32_249
  let c1536_i32 : BitVec 32 := 1536#32
  let v407 : BitVec 32 := Scalar.addi v406 c1536_i32
  v407
def k0_mult16 (i : grid0.Coords) : BitVec 32 :=
  let arg2 : BitVec 32 := BitVec.ofNat 32 (i 2).val
  let c2048_i32_282 : BitVec 32 := 2048#32
  let v456 : BitVec 32 := Scalar.muli arg2 c2048_i32_282
  let c1792_i32 : BitVec 32 := 1792#32
  let v457 : BitVec 32 := Scalar.addi v456 c1792_i32
  v457
def k0_cond5 (i : grid0.Coords) : BitVec 1 :=
  let arg1 : BitVec 32 := BitVec.ofNat 32 (i 1).val
  let arg2 : BitVec 32 := BitVec.ofNat 32 (i 2).val
  let c2_i32_8 : BitVec 32 := 2#32
  let v17 : BitVec 32 := Scalar.muli arg2 c2_i32_8
  let c1_i32 : BitVec 32 := 1#32
  let v18 : BitVec 32 := Scalar.addi v17 c1_i32
  let v19 : BitVec 1 := Scalar.cmpi .eq arg1 v18
  let v20 : BitVec 32 := Scalar.extui v19
  let c0_i32_9 : BitVec 32 := 0#32
  let v21 : BitVec 1 := Scalar.cmpi .ne v20 c0_i32_9
  v21

def k0_mult17 (i : grid0.Coords) : BitVec 32 :=
  let arg2 : BitVec 32 := BitVec.ofNat 32 (i 2).val
  let c2048_i32 : BitVec 32 := 2048#32
  let v73 : BitVec 32 := Scalar.muli arg2 c2048_i32
  let c1024_i32 : BitVec 32 := 1024#32
  let v74 : BitVec 32 := Scalar.addi v73 c1024_i32
  v74
def k0_off3 (i : grid0.Coords) (c1024_i32 : BitVec 32) : Fin 2 → Nat :=
  let arg2 : BitVec 32 := BitVec.ofNat 32 (i 2).val
  let c2048_i32 : BitVec 32 := 2048#32
  let v73 : BitVec 32 := Scalar.muli arg2 c2048_i32
  let v74 : BitVec 32 := Scalar.addi v73 c1024_i32
  let v75 : BitVec 32 := v74
  let v76 : Index := Scalar.indexCast v75
  let c0_38 : Index := 0#32
  ![v76.toNat, 0]
def k0_mult18 (i : grid0.Coords) : BitVec 32 :=
  let arg2 : BitVec 32 := BitVec.ofNat 32 (i 2).val
  let c2048_i32_73 : BitVec 32 := 2048#32
  let v134 : BitVec 32 := Scalar.muli arg2 c2048_i32_73
  let c1280_i32 : BitVec 32 := 1280#32
  let v135 : BitVec 32 := Scalar.addi v134 c1280_i32
  v135
def k0_mult19 (i : grid0.Coords) : BitVec 32 :=
  let arg2 : BitVec 32 := BitVec.ofNat 32 (i 2).val
  let c2048_i32_109 : BitVec 32 := 2048#32
  let v195 : BitVec 32 := Scalar.muli arg2 c2048_i32_109
  let c1536_i32 : BitVec 32 := 1536#32
  let v196 : BitVec 32 := Scalar.addi v195 c1536_i32
  v196
def k0_mult20 (i : grid0.Coords) : BitVec 32 :=
  let arg2 : BitVec 32 := BitVec.ofNat 32 (i 2).val
  let c2048_i32_145 : BitVec 32 := 2048#32
  let v256 : BitVec 32 := Scalar.muli arg2 c2048_i32_145
  let c1792_i32 : BitVec 32 := 1792#32
  let v257 : BitVec 32 := Scalar.addi v256 c1792_i32
  v257
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  ![v17.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  ![v17.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  let c0_i32_5 : BitVec 32 := 0#32
  ![arg0.toNat, v17.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  ![v17.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x1024 : Shape := ⟨2, ![8192, 1024]⟩
abbrev S8192x512 : Shape := ⟨2, ![8192, 512]⟩
abbrev S8192x4x256 : Shape := ⟨3, ![8192, 4, 256]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S4x8192x256 : Shape := ⟨3, ![4, 8192, 256]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x4x256, .f32⟩
  | .hbm, ⟨8, _⟩ => ⟨S8192x4x256, .f32⟩
  | .hbm, ⟨9, _⟩ => ⟨S4x8192x8192, .f32⟩
  | .hbm, ⟨10, _⟩ => ⟨S_, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x8192x8192, .i1⟩
  | .hbm, ⟨41, _⟩ => ⟨S4x8192x8192, .f32⟩
  | .hbm, ⟨42, _⟩ => ⟨S4x8192x8192, .f32⟩
  | .hbm, ⟨43, _⟩ => ⟨S_, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .i1⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S_, .f32⟩
  | .hbm, ⟨54, _⟩ => ⟨S4x8192, .f32⟩
  | .hbm, ⟨55, _⟩ => ⟨S4x8192, .f32⟩
  | .hbm, ⟨56, _⟩ => ⟨S_, .f32⟩
  | .hbm, ⟨57, _⟩ => ⟨S4x8192, .f32⟩
  | .hbm, ⟨58, _⟩ => ⟨S4x8192, .i1⟩
  | .hbm, ⟨59, _⟩ => ⟨S_, .f32⟩
  | .hbm, ⟨60, _⟩ => ⟨S4x8192, .f32⟩
  | .hbm, ⟨61, _⟩ => ⟨S4x8192, .i1⟩
  | .hbm, ⟨62, _⟩ => ⟨S_, .f32⟩
  | .hbm, ⟨63, _⟩ => ⟨S4x8192, .f32⟩
  | .hbm, ⟨64, _⟩ => ⟨S_, .f32⟩
  | .hbm, ⟨65, _⟩ => ⟨S4x8192, .f32⟩
  | .hbm, ⟨66, _⟩ => ⟨S_, .f32⟩
  | .hbm, ⟨67, _⟩ => ⟨S4x8192, .f32⟩
  | .hbm, ⟨68, _⟩ => ⟨S4x8192, .f32⟩
  | .hbm, ⟨69, _⟩ => ⟨S4x8192, .f32⟩
  | .hbm, ⟨70, _⟩ => ⟨S4x8192x1, .f32⟩
  | .hbm, ⟨71, _⟩ => ⟨S4x8192x8192, .f32⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S4x8192x8192, .f32⟩
  | .hbm, ⟨78, _⟩ => ⟨S4x8192x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S8192x4x128, .f32⟩
  | .hbm, ⟨84, _⟩ => ⟨S4x128x8192, .f32⟩
  | .hbm, ⟨85, _⟩ => ⟨S8192x4x128, .f32⟩
  | .hbm, ⟨86, _⟩ => ⟨S8192x512, .f32⟩
  | .hbm, ⟨87, _⟩ => ⟨S8192x4x128, .f32⟩
  | .hbm, ⟨88, _⟩ => ⟨S4x128x8192, .f32⟩
  | .hbm, ⟨89, _⟩ => ⟨S4x8192x8192, .f32⟩
  | .hbm, ⟨90, _⟩ => ⟨S4x128x8192, .f32⟩
  | .hbm, ⟨91, _⟩ => ⟨S8192x4x128, .f32⟩
  | .hbm, ⟨92, _⟩ => ⟨S8192x512, .f32⟩
  | .hbm, ⟨93, _⟩ => ⟨S4x8192x8192, .f32⟩
  | .hbm, ⟨94, _⟩ => ⟨S4x8192x8192, .f32⟩
  | .hbm, ⟨95, _⟩ => ⟨S4x8192x8192, .f32⟩
  | .hbm, ⟨96, _⟩ => ⟨S_, .f32⟩
  | .hbm, ⟨97, _⟩ => ⟨S4x8192, .f32⟩
  | .hbm, ⟨98, _⟩ => ⟨S4x8192x1, .f32⟩
  | .hbm, ⟨99, _⟩ => ⟨S4x8192x1, .f32⟩
  | .hbm, ⟨100, _⟩ => ⟨S4x8192x8192, .f32⟩
  | .hbm, ⟨101, _⟩ => ⟨S4x8192x8192, .f32⟩
  | .hbm, ⟨102, _⟩ => ⟨S_, .f32⟩
  | .hbm, ⟨103, _⟩ => ⟨S4x8192, .f32⟩
  | .hbm, ⟨104, _⟩ => ⟨S4x8192x8192, .f32⟩
  | .hbm, ⟨105, _⟩ => ⟨S4x8192x8192, .f32⟩
  | .hbm, ⟨106, _⟩ => ⟨S4x8192x8192, .f32⟩
  | .hbm, ⟨107, _⟩ => ⟨S_, .f32⟩
  | .hbm, ⟨108, _⟩ => ⟨S4x8192x8192, .f32⟩
  | .hbm, ⟨109, _⟩ => ⟨S4x8192x8192, .f32⟩
  | .hbm, ⟨110, _⟩ => ⟨S4x8192x8192, .f32⟩
  | .hbm, ⟨111, _⟩ => ⟨S4x8192x8192, .f32⟩
  | .hbm, ⟨112, _⟩ => ⟨S4x8192x256, .f32⟩
  | .hbm, ⟨113, _⟩ => ⟨S8192x4x256, .f32⟩
  | .hbm, ⟨114, _⟩ => ⟨S4x8192x256, .f32⟩
  | .hbm, ⟨115, _⟩ => ⟨S8192x4x256, .f32⟩
  | .hbm, ⟨116, _⟩ => ⟨S8192x1024, .f32⟩
  | .hbm, ⟨117, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_v16_1 : Ref sig .tc := ⟨.hbm, 40, rfl⟩
abbrev main_call1_v2 : Ref sig .tc := ⟨.hbm, 41, rfl⟩
abbrev main_v16_0 : Ref sig .tc := ⟨.hbm, 42, rfl⟩
abbrev main_call1_cst : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call2_cst : Ref sig .tc := ⟨.hbm, 107, rfl⟩
abbrev main_call2_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S1024x2816, .bf16⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x2816, .f32⟩
  | .hbm, ⟨4, _⟩ => ⟨S1024x2816, .f32⟩
  | .hbm, ⟨5, _⟩ => ⟨S_, .f32⟩
  | .hbm, ⟨6, _⟩ => ⟨S8192x1024, .f32⟩
  | .hbm, ⟨7, _⟩ => ⟨S8192x2816, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S1024x3072, .f32⟩
  | .hbm, ⟨3, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x3072, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S8192x3072, .f32⟩
  | .hbm, ⟨6, _⟩ => ⟨S3072x1024, .f32⟩
  | .hbm, ⟨7, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x3072, .f32⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference11Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S1024x1024, .f32⟩
  | .hbm, ⟨9, _⟩ => ⟨S256x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1024x256, .f32⟩
  | .hbm, ⟨69, _⟩ => ⟨S256x1024, .f32⟩
  | .hbm, ⟨70, _⟩ => ⟨S8192x1024, .f32⟩
  | .hbm, ⟨71, _⟩ => ⟨S1024x1024, .f32⟩
  | .hbm, ⟨72, _⟩ => ⟨S1024x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x1024, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S_, .f32⟩
  | .hbm, ⟨112, _⟩ => ⟨S8192, .f32⟩
  | .hbm, ⟨113, _⟩ => ⟨S8192x1024, .f32⟩
  | .hbm, ⟨114, _⟩ => ⟨S8192x1024, .f32⟩
  | .hbm, ⟨115, _⟩ => ⟨S_, .f32⟩
  | .hbm, ⟨116, _⟩ => ⟨S8192x1024, .f32⟩
  | .hbm, ⟨117, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel12.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S1024x1024, .f32⟩
  | .hbm, ⟨8, _⟩ => ⟨S256x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel13.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S8192x4x128 : Shape := ⟨3, ![8192, 4, 128]⟩
abbrev S4x128 : Shape := ⟨2, ![4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S8192x512, .f32⟩
  | .hbm, ⟨10, _⟩ => ⟨S8192x4x128, .f32⟩
  | .hbm, ⟨11, _⟩ => ⟨S4x128, .f32⟩
  | .hbm, ⟨12, _⟩ => ⟨S8192x4x128, .f32⟩
  | .hbm, ⟨13, _⟩ => ⟨S_, .f32⟩
  | .hbm, ⟨14, _⟩ => ⟨S8192x4, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S_, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S8192x4x128, .f32⟩
  | .hbm, ⟨24, _⟩ => ⟨S8192x4x128, .f32⟩
  | .hbm, ⟨25, _⟩ => ⟨S1x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S8192x4x128, .f32⟩
  | .hbm, ⟨31, _⟩ => ⟨S_, .f32⟩
  | .hbm, ⟨32, _⟩ => ⟨S8192x4x128, .f32⟩
  | .hbm, ⟨33, _⟩ => ⟨S8192x4x128, .f32⟩
  | .hbm, ⟨34, _⟩ => ⟨S_, .f32⟩
  | .hbm, ⟨35, _⟩ => ⟨S8192x4x128, .f32⟩
  | .hbm, ⟨36, _⟩ => ⟨S8192x4x128, .f32⟩
  | .hbm, ⟨37, _⟩ => ⟨S8192x4x128, .f32⟩
  | .hbm, ⟨38, _⟩ => ⟨S8192x4x128, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Kernel14.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S512 : Shape := ⟨1, ![512]⟩
abbrev S256x384 : Shape := ⟨2, ![256, 384]⟩
abbrev S256x256 : Shape := ⟨2, ![256, 256]⟩

abbrev nBuf : Space → Nat
  | .hbm => 17
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x1024, .f32⟩
  | .hbm, ⟨13, _⟩ => ⟨S1x512, .f32⟩
  | .hbm, ⟨14, _⟩ => ⟨S1024x1024, .f32⟩
  | .hbm, ⟨15, _⟩ => ⟨S1x1024, .f32⟩
  | .hbm, ⟨16, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S1x512, .f32⟩
  | .local _ .vmem, ⟨23, _⟩ => ⟨S1024x1024, .f32⟩
  | .local _ .vmem, ⟨24, _⟩ => ⟨S1x1024, .f32⟩
  | .local _ .vmem, ⟨25, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference14Ideal.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S8192x4x128 : Shape := ⟨3, ![8192, 4, 128]⟩
abbrev S4x128 : Shape := ⟨2, ![4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩
abbrev S8192 : Shape := ⟨1, ![8192]⟩
abbrev S8192x1 : Shape := ⟨2, ![8192, 1]⟩
abbrev S1024 : Shape := ⟨1, ![1024]⟩

abbrev nBuf : Space → Nat
  | .hbm => 174
  | .vmem => 0
  | .smem => 0
  | _ => 0

abbrev hbmTy0_0 (i : Nat) : BufTy := match i % 128 with
  | 0 => ⟨S8192x512, .f32⟩
  | 1 => ⟨S8192x3072, .f32⟩
  | 2 => ⟨S8192x512, .f32⟩
  | 3 => ⟨S8192x1024, .f32⟩
  | 4 => ⟨S1x512, .f32⟩
  | 5 => ⟨S1024x1024, .bf16⟩
  | 6 => ⟨S1x1024, .f32⟩
  | 7 => ⟨S1x1024, .f32⟩
  | 8 => ⟨S8192x1024, .f32⟩
  | 9 => ⟨S1024x1024, .f32⟩
  | 10 => ⟨S8192x512, .f32⟩
  | 11 => ⟨S8192x4x128, .f32⟩
  | 12 => ⟨S4x128, .f32⟩
  | 13 => ⟨S8192x4x128, .f32⟩
  | 14 => ⟨S_, .f32⟩
  | 15 => ⟨S8192x4, .f32⟩
  | 16 => ⟨S8192x4x1, .f32⟩
  | 17 => ⟨S_, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x1, .f32⟩
  | 24 => ⟨S8192x4x1, .f32⟩
  | 25 => ⟨S_, .f32⟩
  | 26 => ⟨S8192x4x1, .f32⟩
  | 27 => ⟨S8192x4x1, .f32⟩
  | 28 => ⟨S8192x4x128, .f32⟩
  | 29 => ⟨S8192x4x128, .f32⟩
  | 30 => ⟨S1x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x4x128, .f32⟩
  | 36 => ⟨S_, .f32⟩
  | 37 => ⟨S8192x4x128, .f32⟩
  | 38 => ⟨S8192x4x128, .f32⟩
  | 39 => ⟨S_, .f32⟩
  | 40 => ⟨S8192x4x128, .f32⟩
  | 41 => ⟨S8192x4x128, .f32⟩
  | 42 => ⟨S_, .f32⟩
  | 43 => ⟨S8192x4x128, .f32⟩
  | 44 => ⟨S8192x4x128, .f32⟩
  | 45 => ⟨S8192x4x128, .f32⟩
  | 46 => ⟨S8192x4x128, .f32⟩
  | 47 => ⟨S8192x4x128, .f32⟩
  | 48 => ⟨S8192x512, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S_, .f32⟩
  | 76 => ⟨S8192x1, .f32⟩
  | 77 => ⟨S8192x1, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S_, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x512, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S1024x1024, .f32⟩
  | 6 => ⟨S1024x1024, .f32⟩
  | 7 => ⟨S8192x1024, .f32⟩
  | 8 => ⟨S8192x512, .f32⟩
  | 9 => ⟨S8192x512, .f32⟩
  | 10 => ⟨S8192x4x128, .f32⟩
  | 11 => ⟨S8192x4x128, .f32⟩
  | 12 => ⟨S8192x4x128, .f32⟩
  | 13 => ⟨S8192x4x128, .f32⟩
  | 14 => ⟨S8192x4x128, .f32⟩
  | 15 => ⟨S8192x4x128, .f32⟩
  | 16 => ⟨S8192x4x128, .f32⟩
  | 17 => ⟨S8192x512, .f32⟩
  | 18 => ⟨S8192x4x128, .f32⟩
  | 19 => ⟨S_, .f32⟩
  | 20 => ⟨S4x128, .f32⟩
  | 21 => ⟨S1x4x128, .f32⟩
  | 22 => ⟨S8192x4x128, .f32⟩
  | 23 => ⟨S8192x4x128, .f32⟩
  | 24 => ⟨S_, .f32⟩
  | 25 => ⟨S4x128, .f32⟩
  | 26 => ⟨S8192x4x128, .f32⟩
  | 27 => ⟨S_, .f32⟩
  | 28 => ⟨S8192x4, .f32⟩
  | 29 => ⟨S8192x4x1, .f32⟩
  | 30 => ⟨S8192x4x128, .f32⟩
  | 31 => ⟨S8192x4x128, .f32⟩
  | 32 => ⟨S8192x4x1, .f32⟩
  | 33 => ⟨S_, .f32⟩
  | 34 => ⟨S8192x4x1, .f32⟩
  | 35 => ⟨S8192x4x1, .f32⟩
  | 36 => ⟨S_, .f32⟩
  | 37 => ⟨S8192x4, .f32⟩
  | 38 => ⟨S8192x4x128, .f32⟩
  | 39 => ⟨S8192x4x128, .f32⟩
  | 40 => ⟨S8192x4x128, .f32⟩
  | 41 => ⟨S8192x4x128, .f32⟩
  | 42 => ⟨S8192x4x128, .f32⟩
  | 43 => ⟨S1x512, .f32⟩
  | 44 => ⟨S8192x512, .f32⟩
  | 45 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_17 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_18 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_22 : Ref sig .tc := ⟨.hbm, 152, rfl⟩
abbrev main_v105 : Ref sig .tc := ⟨.hbm, 153, rfl⟩
abbrev main_v106 : Ref sig .tc := ⟨.hbm, 154, rfl⟩
abbrev main_cst_23 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩

abbrev nD : Nat := 1
abbrev τ : Topo := Topo.v7x

variable {F : FTy → Type} [FloatOps F]
-- ==== Proof.Blocks.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first block of the body, then the rest `jp`: at the first point of a head the gradient of the queries is set to zero. -/
def zeroDq (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  if k0_h1 : k0_cond1 i = 1#1 then do
    let v26 : Vec F S8192x256 .f32 ← Prog.lift (.load arg9 (Rect.unit (s := S8192x256) ![0, 0] S8192x256.size inb_S8192x256_S8192x256_0_0).toLoadRect (View.loadsAt_vmem h_S8192x256))
    Prog.lift (.store arg9 (Rect.unit (s := S8192x256) ![0, 0] S8192x256.size inb_S8192x256_S8192x256_0_0) (k0_pay1 (F := F)) Finset.univ (View.stores_vmem_bits_univ h_S8192x256 rfl) (.inl rfl))
    jp ⟨⟩
  else do
    jp ⟨⟩

/-- The second block: at the first query tile the two accumulators are set to zero. -/
def zeroAcc (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  let arg2 : BitVec 32 := BitVec.ofNat 32 (i 2).val
  let v5 : BitVec 1 := Scalar.cmpi .eq arg2 0#32
  let v6 : BitVec 32 := Scalar.extui v5
  let v7 : BitVec 1 := Scalar.cmpi .ne v6 0#32
  if k0_h2 : v7 = 1#1 then do
    let v26 : Vec F S1024x256 .f32 ← Prog.lift (.load arg12 (Rect.unit (s := S1024x256) ![0, 0] S1024x256.size inb_S1024x256_S1024x256_0_0).toLoadRect (View.loadsAt_vmem h_S1024x256))
    Prog.lift (.store arg12 (Rect.unit (s := S1024x256) ![0, 0] S1024x256.size inb_S1024x256_S1024x256_0_0) (k0_pay2 (F := F)) Finset.univ (View.stores_vmem_bits_univ h_S1024x256 rfl) (.inl rfl))
    let v30 : Vec F S1024x128 .f32 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay3 (F := F)) Finset.univ (View.stores_vmem_bits_univ h_S1024x128 rfl) (.inl rfl))
    jp ⟨⟩
  else do
    jp ⟨⟩

/-- The third block: a key tile that lies wholly before the query tile. -/
def wholeP (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  let arg2 : BitVec 32 := BitVec.ofNat 32 (i 2).val
  if k0_h3 : k0_cond3 i = 1#1 then do
    let ⟨v25, v32, v33, v35, v38, v49, v53, v54, v55, cst_36⟩ : Σ' (v25 : Vec F S256x256 .bf16) (v32 : Vec F S256x256 .bf16) (v33 : Vec F S256x128 .f32) (v35 : FVec F S256x1024 .f32) (v38 : FVec F S256x1024 .f32) (v49 : FVec F S256x1024 .bf16) (v53 : FVec F S256x1024 .bf16) (v54 : Vec F S1024x128 .f32) (v55 : FVec F S256x128 .bf16), FVec F S1024x128 .f32 ← k0_part1 i arg3 harg3 arg4 harg4 arg5 harg5 arg6 harg6 arg7 harg7 arg8 harg8 arg9 harg9 arg10 harg10 arg11 harg11 arg12 harg12 arg13 harg13
    let ⟨v82, v83, v85, v86, v87⟩ : Σ' (v82 : Vec F S256x256 .bf16) (v83 : Vec F S256x128 .f32) (v85 : FVec F S256x1024 .f32) (v86 : FVec F S256x128 .bf16), Vec F S1024x128 .bf16 ← k0_part2 i arg3 harg3 arg4 harg4 arg5 harg5 arg6 harg6 arg7 harg7 arg8 harg8 arg9 harg9 arg10 harg10 arg11 harg11 arg12 harg12 arg13 harg13 arg2 k0_h3 v25 v49 v53 v54 v55 cst_36
    let ⟨v88, v103, v121, v124⟩ : Σ' (v88 : FVec F S256x1024 .f32) (v103 : FVec F S256x1024 .bf16) (v121 : BitVec 32), FVec F S256x256 .f32 ← k0_part3 i arg3 harg3 arg4 harg4 arg5 harg5 arg6 harg6 arg7 harg7 arg8 harg8 arg9 harg9 arg10 harg10 arg11 harg11 arg12 harg12 arg13 harg13 arg2 k0_h3 v32 v33 v35 v38 v86 v87
    let ⟨v132, v133, v135, v138, v153, v157⟩ : Σ' (v132 : Vec F S256x256 .bf16) (v133 : Vec F S256x128 .f32) (v135 : FVec F S256x1024 .f32) (v138 : FVec F S256x1024 .f32) (v153 : FVec F S256x1024 .bf16), FVec F S1024x128 .f32 ← k0_part4 i arg3 harg3 arg4 harg4 arg5 harg5 arg6 harg6 arg7 harg7 arg8 harg8 arg9 harg9 arg10 harg10 arg11 harg11 arg12 harg12 arg13 harg13 k0_h3 v83 v85 v88 v103 v121 v124
    let ⟨v182, v183, v185, v188⟩ : Σ' (v182 : Vec F S256x256 .bf16) (v183 : Vec F S256x128 .f32) (v185 : FVec F S256x1024 .f32), FVec F S256x1024 .f32 ← k0_part5 i arg3 harg3 arg4 harg4 arg5 harg5 arg6 harg6 arg7 harg7 arg8 harg8 arg9 harg9 arg10 harg10 arg11 harg11 arg12 harg12 arg13 harg13 arg2 k0_h3 v82 v153 v157
    let ⟨v203, v221, v224, v225, cst_148⟩ : Σ' (v203 : FVec F S256x1024 .bf16) (v221 : BitVec 32) (v224 : FVec F S256x256 .f32) (v225 : Vec F S1024x256 .bf16), FVec F S256x256 .f32 ← k0_part6 i arg3 harg3 arg4 harg4 arg5 harg5 arg6 harg6 arg7 harg7 arg8 harg8 arg9 harg9 arg10 harg10 arg11 harg11 arg12 harg12 arg13 harg13 arg2 k0_h3 v132 v133 v135 v138
    let ⟨v232, v233, v235, v238, v253⟩ : Σ' (v232 : Vec F S256x256 .bf16) (v233 : Vec F S256x128 .f32) (v235 : FVec F S256x1024 .f32) (v238 : FVec F S256x1024 .f32), FVec F S256x1024 .bf16 ← k0_part7 i arg3 harg3 arg4 harg4 arg5 harg5 arg6 harg6 arg7 harg7 arg8 harg8 arg9 harg9 arg10 harg10 arg11 harg11 arg12 harg12 arg13 harg13 k0_h3 v183 v185 v188 v203 v221 v224 v225 cst_148
    let ⟨v282, v283, v285, v288, v291⟩ : Σ' (v282 : Vec F S256x256 .bf16) (v283 : Vec F S256x128 .f32) (v285 : FVec F S256x1024 .f32) (v288 : FVec F S256x1024 .f32), FVec F S256x1024 .f32 ← k0_part8 i arg3 harg3 arg4 harg4 arg5 harg5 arg6 harg6 arg7 harg7 arg8 harg8 arg9 harg9 arg10 harg10 arg11 harg11 arg12 harg12 arg13 harg13 arg2 k0_h3 v182 v253
    let ⟨v321, v324, v328⟩ : Σ' (v321 : BitVec 32) (v324 : FVec F S256x256 .f32), FVec F S256x256 .f32 ← k0_part9 i arg3 harg3 arg4 harg4 arg5 harg5 arg6 harg6 arg7 harg7 arg8 harg8 arg9 harg9 arg10 harg10 arg11 harg11 arg12 harg12 arg13 harg13 arg2 k0_h3 v232 v233 v235 v238 v291
    let ⟨v332, v333, v335, v338, v353, v361, cst_239⟩ : Σ' (v332 : Vec F S256x256 .bf16) (v333 : Vec F S256x128 .f32) (v335 : FVec F S256x1024 .f32) (v338 : FVec F S256x1024 .f32) (v353 : FVec F S256x1024 .bf16) (v361 : Vec F S1024x256 .f32), FVec F S1024x256 .f32 ← k0_part10 i arg3 harg3 arg4 harg4 arg5 harg5 arg6 harg6 arg7 harg7 arg8 harg8 arg9 harg9 arg10 harg10 arg11 harg11 arg12 harg12 arg13 harg13 k0_h3 v283 v285 v288 v321 v324 v328
    let ⟨v396, v397, v399⟩ : Σ' (v396 : FVec F S256x1024 .bf16) (v397 : Vec F S1024x128 .f32), FVec F S1024x128 .f32 ← k0_part11 i arg3 harg3 arg4 harg4 arg5 harg5 arg6 harg6 arg7 harg7 arg8 harg8 arg9 harg9 arg10 harg10 arg11 harg11 arg12 harg12 arg13 harg13 arg2 k0_h3 v282 v333 v335 v338 v353 v361 cst_239
    let v401 : Vec F S1024x128 .f32 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay4 v397 v399) Finset.univ (View.stores_vmem_bits_univ h_S1024x128 rfl) (.inl rfl))
    let v404 : Vec F S1024x256 .f32 ← Prog.lift (.load arg12 (Rect.unit (s := S1024x256) ![0, 0] S1024x256.size inb_S1024x256_S1024x256_0_0).toLoadRect (View.loadsAt_vmem h_S1024x256))
    let v409 : Vec F S1024x256 .f32 ← Prog.lift (.load arg12 (Rect.unit (s := S1024x256) ![0, 0] S1024x256.size inb_S1024x256_S1024x256_0_0).toLoadRect (View.loadsAt_vmem h_S1024x256))
    Prog.lift (.store arg12 (Rect.unit (s := S1024x256) ![0, 0] S1024x256.size inb_S1024x256_S1024x256_0_0) (k0_pay5 v332 v396 v404) Finset.univ (View.stores_vmem_bits_univ h_S1024x256 rfl) (.inl rfl))
    let v416 : Vec F S256x256 .f32 ← Prog.lift (.load arg9 (Rect.unit (s := S8192x256) (k0_off1 i 1792#32) S256x256.size (k0_off1_inb i k0_h3 7)).toLoadRect (View.loadsAt_vmem h_S256x256))
    let v418 : Vec F S1024x256 .bf16 ← Prog.lift (.load arg4 (Rect.unit (s := S1024x256) ![0, 0] S1024x256.size inb_S1024x256_S1024x256_0_0).toLoadRect (View.loadsAt_vmem h_S1024x256))
    let v424 : Vec F S256x256 .f32 ← Prog.lift (.load arg9 (Rect.unit (s := S8192x256) (k0_off1 i 1792#32) S256x256.size (k0_off1_inb i k0_h3 7)).toLoadRect (View.loadsAt_vmem h_S256x256))
    Prog.lift (.store arg9 (Rect.unit (s := S8192x256) (k0_off1 i 1792#32) S256x256.size (k0_off1_inb i k0_h3 7)) (k0_pay6 v396 v416 v418) Finset.univ (View.stores_vmem_bits_univ h_S256x256 rfl) (.inl rfl))
    jp ⟨⟩
  else do
    jp ⟨⟩

/-- The fourth block: the key tile that meets the first half of the query tile. -/
def part0P (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  let arg2 : BitVec 32 := BitVec.ofNat 32 (i 2).val
  if k0_h4 : k0_cond4 i = 1#1 then do
    let ⟨v25, v57, v61⟩ : Σ' (v25 : Vec F S256x256 .bf16) (v57 : FVec F S256x256 .bf16), FVec F S256x128 .f32 ← k0_part12 i arg3 harg3 arg4 harg4 arg5 harg5 arg6 harg6 arg7 harg7 arg8 harg8 arg9 harg9 arg10 harg10 arg11 harg11 arg12 harg12 arg13 harg13
    let ⟨v86, v87, v89, v92⟩ : Σ' (v86 : Vec F S256x256 .bf16) (v87 : Vec F S256x128 .f32) (v89 : FVec F S256x512 .f32), FVec F S256x512 .f32 ← k0_part13 i arg3 harg3 arg4 harg4 arg5 harg5 arg6 harg6 arg7 harg7 arg8 harg8 arg9 harg9 arg10 harg10 arg11 harg11 arg12 harg12 arg13 harg13 arg2 k0_h4 v25 v57 v61
    let ⟨v118, v130⟩ : Σ' (v118 : FVec F S256x512 .bf16), FVec F S512x256 .f32 ← k0_part14 i arg3 harg3 arg4 harg4 arg5 harg5 arg6 harg6 arg7 harg7 arg8 harg8 arg9 harg9 arg10 harg10 arg11 harg11 arg12 harg12 arg13 harg13 v86 v87 v89 v92
    let ⟨v147, v148, v153, v164⟩ : Σ' (v147 : Vec F S256x256 .bf16) (v148 : Vec F S256x128 .f32) (v153 : FVec F S256x768 .f32), FVec F S256x768 .f32 ← k0_part15 i arg3 harg3 arg4 harg4 arg5 harg5 arg6 harg6 arg7 harg7 arg8 harg8 arg9 harg9 arg10 harg10 arg11 harg11 arg12 harg12 arg13 harg13 arg2 k0_h4 v118 v130
    let ⟨v179, v197, v200, v201, cst_117⟩ : Σ' (v179 : FVec F S256x768 .bf16) (v197 : BitVec 32) (v200 : FVec F S256x256 .f32) (v201 : Vec F S768x256 .bf16), FVec F S256x256 .f32 ← k0_part16 i arg3 harg3 arg4 harg4 arg5 harg5 arg6 harg6 arg7 harg7 arg8 harg8 arg9 harg9 arg10 harg10 arg11 harg11 arg12 harg12 arg13 harg13 arg2 k0_h4 v147 v148 v153 v164
    let ⟨v208, v209, v230, v236, v238⟩ : Σ' (v208 : Vec F S256x256 .bf16) (v209 : Vec F S256x128 .f32) (v230 : FVec F S256x1024 .f32) (v236 : FVec F S256x1024 .bf16), FVec F S256x1024 .f32 ← k0_part17 i arg3 harg3 arg4 harg4 arg5 harg5 arg6 harg6 arg7 harg7 arg8 harg8 arg9 harg9 arg10 harg10 arg11 harg11 arg12 harg12 arg13 harg13 k0_h4 v179 v197 v200 v201 cst_117
    let ⟨v269, v270⟩ : Σ' (v269 : Vec F S256x256 .bf16), Vec F S256x128 .f32 ← k0_part18 i arg3 harg3 arg4 harg4 arg5 harg5 arg6 harg6 arg7 harg7 arg8 harg8 arg9 harg9 arg10 harg10 arg11 harg11 arg12 harg12 arg13 harg13 arg2 k0_h4 v208 v209 v230 v236 v238
    let ⟨v290, v306⟩ : Σ' (v290 : FVec F S256x1024 .bf16), BitVec 32 ← k0_part19 i arg3 harg3 arg4 harg4 arg5 harg5 arg6 harg6 arg7 harg7 arg8 harg8 arg9 harg9 arg10 harg10 arg11 harg11 arg12 harg12 arg13 harg13 arg2 v269 v270
    let ⟨v319, v320, v336, v340⟩ : Σ' (v319 : Vec F S256x256 .bf16) (v320 : Vec F S256x128 .f32) (v336 : FVec F S256x1024 .bf16), FVec F S256x1024 .bf16 ← k0_part20 i arg3 harg3 arg4 harg4 arg5 harg5 arg6 harg6 arg7 harg7 arg8 harg8 arg9 harg9 arg10 harg10 arg11 harg11 arg12 harg12 arg13 harg13 k0_h4 v290 v306
    let ⟨v369, v370, v372, v373⟩ : Σ' (v369 : Vec F S256x256 .bf16) (v370 : Vec F S256x128 .f32) (v372 : FVec F S256x1024 .f32), FVec F S256x128 .bf16 ← k0_part21 i arg3 harg3 arg4 harg4 arg5 harg5 arg6 harg6 arg7 harg7 arg8 harg8 arg9 harg9 arg10 harg10 arg11 harg11 arg12 harg12 arg13 harg13 arg2 k0_h4 v319 v320 v336 v340
    let ⟨v390, v408⟩ : Σ' (v390 : FVec F S256x1024 .bf16), BitVec 32 ← k0_part22 i arg3 harg3 arg4 harg4 arg5 harg5 arg6 harg6 arg7 harg7 arg8 harg8 arg9 harg9 arg10 harg10 arg11 harg11 arg12 harg12 arg13 harg13 arg2 v369 v370 v372 v373
    let ⟨v419, v440, v441, v443⟩ : Σ' (v419 : Vec F S256x256 .bf16) (v440 : FVec F S256x1024 .bf16) (v441 : Vec F S1024x128 .f32), FVec F S1024x128 .f32 ← k0_part23 i arg3 harg3 arg4 harg4 arg5 harg5 arg6 harg6 arg7 harg7 arg8 harg8 arg9 harg9 arg10 harg10 arg11 harg11 arg12 harg12 arg13 harg13 k0_h4 v390 v408
    let v445 : Vec F S1024x128 .f32 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay7 v441 v443) Finset.univ (View.stores_vmem_bits_univ h_S1024x128 rfl) (.inl rfl))
    let v448 : Vec F S1024x256 .f32 ← Prog.lift (.load arg12 (Rect.unit (s := S1024x256) ![0, 0] S1024x256.size inb_S1024x256_S1024x256_0_0).toLoadRect (View.loadsAt_vmem h_S1024x256))
    let v453 : Vec F S1024x256 .f32 ← Prog.lift (.load arg12 (Rect.unit (s := S1024x256) ![0, 0] S1024x256.size inb_S1024x256_S1024x256_0_0).toLoadRect (View.loadsAt_vmem h_S1024x256))
    Prog.lift (.store arg12 (Rect.unit (s := S1024x256) ![0, 0] S1024x256.size inb_S1024x256_S1024x256_0_0) (k0_pay8 v419 v440 v448) Finset.univ (View.stores_vmem_bits_univ h_S1024x256 rfl) (.inl rfl))
    let v460 : Vec F S256x256 .f32 ← Prog.lift (.load arg9 (Rect.unit (s := S8192x256) (k0_off2 i 1792#32) S256x256.size (k0_off2_inb i k0_h4 7)).toLoadRect (View.loadsAt_vmem h_S256x256))
    let v462 : Vec F S1024x256 .bf16 ← Prog.lift (.load arg4 (Rect.unit (s := S1024x256) ![0, 0] S1024x256.size inb_S1024x256_S1024x256_0_0).toLoadRect (View.loadsAt_vmem h_S1024x256))
    let v468 : Vec F S256x256 .f32 ← Prog.lift (.load arg9 (Rect.unit (s := S8192x256) (k0_off2 i 1792#32) S256x256.size (k0_off2_inb i k0_h4 7)).toLoadRect (View.loadsAt_vmem h_S256x256))
    Prog.lift (.store arg9 (Rect.unit (s := S8192x256) (k0_off2 i 1792#32) S256x256.size (k0_off2_inb i k0_h4 7)) (k0_pay9 v440 v460 v462) Finset.univ (View.stores_vmem_bits_univ h_S256x256 rfl) (.inl rfl))
    jp ⟨⟩
  else do
    jp ⟨⟩

/-- The fifth block: the key tile that meets the second half of the query tile. -/
def part1P (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  let arg2 : BitVec 32 := BitVec.ofNat 32 (i 2).val
  if k0_h5 : k0_cond5 i = 1#1 then do
    let ⟨v25, v57, v61⟩ : Σ' (v25 : Vec F S256x256 .bf16) (v57 : FVec F S256x256 .bf16), FVec F S256x128 .f32 ← k0_part24 i arg3 harg3 arg4 harg4 arg5 harg5 arg6 harg6 arg7 harg7 arg8 harg8 arg9 harg9 arg10 harg10 arg11 harg11 arg12 harg12 arg13 harg13
    let ⟨v86, v87, v89, v92⟩ : Σ' (v86 : Vec F S256x256 .bf16) (v87 : Vec F S256x128 .f32) (v89 : FVec F S256x512 .f32), FVec F S256x512 .f32 ← k0_part25 i arg3 harg3 arg4 harg4 arg5 harg5 arg6 harg6 arg7 harg7 arg8 harg8 arg9 harg9 arg10 harg10 arg11 harg11 arg12 harg12 arg13 harg13 arg2 k0_h5 v25 v57 v61
    let ⟨v118, v130⟩ : Σ' (v118 : FVec F S256x512 .bf16), FVec F S512x256 .f32 ← k0_part26 i arg3 harg3 arg4 harg4 arg5 harg5 arg6 harg6 arg7 harg7 arg8 harg8 arg9 harg9 arg10 harg10 arg11 harg11 arg12 harg12 arg13 harg13 v86 v87 v89 v92
    let ⟨v147, v148, v153, v164⟩ : Σ' (v147 : Vec F S256x256 .bf16) (v148 : Vec F S256x128 .f32) (v153 : FVec F S256x768 .f32), FVec F S256x768 .f32 ← k0_part27 i arg3 harg3 arg4 harg4 arg5 harg5 arg6 harg6 arg7 harg7 arg8 harg8 arg9 harg9 arg10 harg10 arg11 harg11 arg12 harg12 arg13 harg13 arg2 k0_h5 v118 v130
    let ⟨v179, v197, v200, v201, cst_113⟩ : Σ' (v179 : FVec F S256x768 .bf16) (v197 : BitVec 32) (v200 : FVec F S256x256 .f32) (v201 : Vec F S768x256 .bf16), FVec F S256x256 .f32 ← k0_part28 i arg3 harg3 arg4 harg4 arg5 harg5 arg6 harg6 arg7 harg7 arg8 harg8 arg9 harg9 arg10 harg10 arg11 harg11 arg12 harg12 arg13 harg13 arg2 k0_h5 v147 v148 v153 v164
    let ⟨v208, v209, v230, v236, v238⟩ : Σ' (v208 : Vec F S256x256 .bf16) (v209 : Vec F S256x128 .f32) (v230 : FVec F S256x1024 .f32) (v236 : FVec F S256x1024 .bf16), FVec F S256x1024 .f32 ← k0_part29 i arg3 harg3 arg4 harg4 arg5 harg5 arg6 harg6 arg7 harg7 arg8 harg8 arg9 harg9 arg10 harg10 arg11 harg11 arg12 harg12 arg13 harg13 k0_h5 v179 v197 v200 v201 cst_113
    let v241 : Vec F S1024x128 .f32 ← Prog.lift (.load arg13 (Rect.unit (s := S1024x128) ![0, 0] S1024x128.size inb_S1024x128_S1024x128_0_0).toLoadRect (View.loadsAt_vmem h_S1024x128))
    let v245 : Vec F S1024x128 .f32 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay11 v209 v236 v241) Finset.univ (View.stores_vmem_bits_univ h_S1024x128 rfl) (.inl rfl))
    let v248 : Vec F S1024x256 .f32 ← Prog.lift (.load arg12 (Rect.unit (s := S1024x256) ![0, 0] S1024x256.size inb_S1024x256_S1024x256_0_0).toLoadRect (View.loadsAt_vmem h_S1024x256))
    let v253 : Vec F S1024x256 .f32 ← Prog.lift (.load arg12 (Rect.unit (s := S1024x256) ![0, 0] S1024x256.size inb_S1024x256_S1024x256_0_0).toLoadRect (View.loadsAt_vmem h_S1024x256))
    Prog.lift (.store arg12 (Rect.unit (s := S1024x256) ![0, 0] S1024x256.size inb_S1024x256_S1024x256_0_0) (k0_pay12 v208 v230 v238 v248) Finset.univ (View.stores_vmem_bits_univ h_S1024x256 rfl) (.inl rfl))
    let v260 : Vec F S256x256 .f32 ← Prog.lift (.load arg9 (Rect.unit (s := S8192x256) (k0_off3 i 1792#32) S256x256.size (k0_off3_inb i k0_h5 3)).toLoadRect (View.loadsAt_vmem h_S256x256))
    let v262 : Vec F S1024x256 .bf16 ← Prog.lift (.load arg4 (Rect.unit (s := S1024x256) ![0, 0] S1024x256.size inb_S1024x256_S1024x256_0_0).toLoadRect (View.loadsAt_vmem h_S1024x256))
    let v268 : Vec F S256x256 .f32 ← Prog.lift (.load arg9 (Rect.unit (s := S8192x256) (k0_off3 i 1792#32) S256x256.size (k0_off3_inb i k0_h5 3)).toLoadRect (View.loadsAt_vmem h_S256x256))
    Prog.lift (.store arg9 (Rect.unit (s := S8192x256) (k0_off3 i 1792#32) S256x256.size (k0_off3_inb i k0_h5 3)) (k0_pay13 v230 v238 v260 v262) Finset.univ (View.stores_vmem_bits_univ h_S256x256 rfl) (.inl rfl))
    jp ⟨⟩
  else do
    jp ⟨⟩

/-- The last block: at the last query tile the accumulators are written out. -/
def writeP (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : PUnit → Prog (TpuEff nD τ sig (Elt F) Λ₀ .tc) PUnit) : Prog (TpuEff nD τ sig (Elt F) Λ₀ .tc) PUnit := do
  if k0_h6 : k0_cond6 i = 1#1 then do
    let v25 : Vec F S1024x256 .f32 ← Prog.lift (.load arg12 (Rect.unit (s := S1024x256) ![0, 0] S1024x256.size inb_S1024x256_S1024x256_0_0).toLoadRect (View.loadsAt_vmem h_S1024x256))
    let v26 : Vec F S1024x256 .f32 ← Prog.lift (.load arg10 (Rect.unit (s := S1024x256) ![0, 0] S1024x256.size inb_S1024x256_S1024x256_0_0).toLoadRect (View.loadsAt_vmem h_S1024x256))
    Prog.lift (.store arg10 (Rect.unit (s := S1024x256) ![0, 0] S1024x256.size inb_S1024x256_S1024x256_0_0) v25 Finset.univ (View.stores_vmem_bits_univ h_S1024x256 rfl) (.inl rfl))
    let v27 : Vec F S1024x128 .f32 ← Prog.lift (.load arg13 (Rect.unit (s := S1024x128) ![0, 0] S1024x128.size inb_S1024x128_S1024x128_0_0).toLoadRect (View.loadsAt_vmem h_S1024x128))
    let v28 : Vec F S1024x128 .f32 ← Prog.lift (.load arg11 (Rect.unit (s := S1024x128) ![0, 0] S1024x128.size inb_S1024x128_S1024x128_0_0).toLoadRect (View.loadsAt_vmem h_S1024x128))
    Prog.lift (.store arg11 (Rect.unit (s := S1024x128) ![0, 0] S1024x128.size inb_S1024x128_S1024x128_0_0) v27 Finset.univ (View.stores_vmem_bits_univ h_S1024x128 rfl) (.inl rfl))
    jp ⟨⟩
  else do
    jp ⟨⟩

set_option maxRecDepth 65536 in
/-- The body is its six blocks in order. -/
theorem body_eq (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) :
    cc0_attn_bwd (F := F) i arg3 harg3 arg4 harg4 arg5 harg5 arg6 harg6 arg7 harg7 arg8 harg8 arg9 harg9 arg10 harg10 arg11 harg11 arg12 harg12 arg13 harg13 = zeroDq i arg3 harg3 arg4 harg4 arg5 harg5 arg6 harg6 arg7 harg7 arg8 harg8 arg9 harg9 arg10 harg10 arg11 harg11 arg12 harg12 arg13 harg13 fun _ => zeroAcc i arg3 harg3 arg4 harg4 arg5 harg5 arg6 harg6 arg7 harg7 arg8 harg8 arg9 harg9 arg10 harg10 arg11 harg11 arg12 harg12 arg13 harg13 fun _ => wholeP i arg3 harg3 arg4 harg4 arg5 harg5 arg6 harg6 arg7 harg7 arg8 harg8 arg9 harg9 arg10 harg10 arg11 harg11 arg12 harg12 arg13 harg13 fun _ => part0P i arg3 harg3 arg4 harg4 arg5 harg5 arg6 harg6 arg7 harg7 arg8 harg8 arg9 harg9 arg10 harg10 arg11 harg11 arg12 harg12 arg13 harg13 fun _ => part1P i arg3 harg3 arg4 harg4 arg5 harg5 arg6 harg6 arg7 harg7 arg8 harg8 arg9 harg9 arg10 harg10 arg11 harg11 arg12 harg12 arg13 harg13 fun _ => writeP i arg3 harg3 arg4 harg4 arg5 harg5 arg6 harg6 arg7 harg7 arg8 harg8 arg9 harg9 arg10 harg10 arg11 harg11 arg12 harg12 arg13 harg13 fun _ => pure ⟨⟩ := rfl

end Cert.KernelIdeal.Gen
-- ==== Proof.Tile.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A matrix shape. -/
abbrev Mat (m n : ℕ) : Shape := ⟨2, ![m, n]⟩

/-- The product of the transposes of rows: both operands are contracted along their rows. -/
def dotT (k m n : ℕ) (w : DotDims.WF (Mat k m) (Mat k n) (Mat m n) [0] [0] [1] [1] [] []) : DotDims (Mat k m) (Mat k n) (Mat m n) where
  lhsContracting := [0]
  rhsContracting := [0]
  lhsNonContracting := [1]
  rhsNonContracting := [1]
  lhsBatch := []
  rhsBatch := []
  wf := w

/-- What the operations of one step over `n` keys ask of the shapes. -/
structure TileFacts (n : ℕ) : Prop where
  pos256 : 0 < (Mat n 256).numel
  pos128 : 0 < (Mat n 128).numel
  inb256 : ∀ a, (![0, 0] : Fin 2 → ℕ) a + (Mat n 256).size a ≤ S1024x256.size a
  inb128 : ∀ a, (![0, 0] : Fin 2 → ℕ) a + (Mat n 128).size a ≤ S1024x128.size a
  bc : S256x1.Broadcasts (Mat 256 n)
  io0 : (Mat 256 n).Iotas .tc 32 [0]
  io1 : (Mat 256 n).Iotas .tc 32 [1]
  sc256 : (Mat n 256).ShapeCasts (Mat n 256)
  sc128 : (Mat n 128).ShapeCasts (Mat n 128)
  w128 : DotDims.WF (Mat 256 n) (Mat 256 128) (Mat n 128) [0] [0] [1] [1] [] []
  w256 : DotDims.WF (Mat 256 n) (Mat 256 256) (Mat n 256) [0] [0] [1] [1] [] []

/-- What the row blocks of a step ask of the bounds. -/
structure RowFacts (o : ℕ) : Prop where
  inq : ∀ a, (![o, 0] : Fin 2 → ℕ) a + S256x256.size a ≤ S2048x256.size a
  ino : ∀ a, (![o, 0] : Fin 2 → ℕ) a + S256x128.size a ≤ S2048x128.size a
  inl : ∀ a, (![0, o, 0] : Fin 3 → ℕ) a + S1x256x1.size a ≤ S1x2048x1.size a

theorem tf256 : TileFacts 256 := ⟨h_S256x256, h_S256x128, inb_S1024x256_S256x256_0_0, inb_S1024x128_S256x128_0_0, broadcasts_S256x1_S256x256, iota_S256x256_d0_w32, iota_S256x256_d1_w32, shapeCasts_S256x256_S256x256, shapeCasts_S256x128_S256x128, dot_S256x256_S256x128_S256x128_0_0_1_1_n_n_wf, dot_S256x256_S256x256_S256x256_0_0_1_1_n_n_wf⟩
theorem tf512 : TileFacts 512 := ⟨h_S512x256, h_S512x128, inb_S1024x256_S512x256_0_0, inb_S1024x128_S512x128_0_0, broadcasts_S256x1_S256x512, iota_S256x512_d0_w32, iota_S256x512_d1_w32, shapeCasts_S512x256_S512x256, shapeCasts_S512x128_S512x128, dot_S256x512_S256x128_S512x128_0_0_1_1_n_n_wf, dot_S256x512_S256x256_S512x256_0_0_1_1_n_n_wf⟩
theorem tf768 : TileFacts 768 := ⟨h_S768x256, h_S768x128, inb_S1024x256_S768x256_0_0, inb_S1024x128_S768x128_0_0, broadcasts_S256x1_S256x768, iota_S256x768_d0_w32, iota_S256x768_d1_w32, shapeCasts_S768x256_S768x256, shapeCasts_S768x128_S768x128, dot_S256x768_S256x128_S768x128_0_0_1_1_n_n_wf, dot_S256x768_S256x256_S768x256_0_0_1_1_n_n_wf⟩
theorem tf1024 : TileFacts 1024 := ⟨h_S1024x256, h_S1024x128, inb_S1024x256_S1024x256_0_0, inb_S1024x128_S1024x128_0_0, broadcasts_S256x1_S256x1024, iota_S256x1024_d0_w32, iota_S256x1024_d1_w32, shapeCasts_S1024x256_S1024x256, shapeCasts_S1024x128_S1024x128, dot_S256x1024_S256x128_S1024x128_0_0_1_1_n_n_wf, dot_S256x1024_S256x256_S1024x256_0_0_1_1_n_n_wf⟩
theorem rf0 : RowFacts 0 := ⟨inb_S2048x256_S256x256_0_0, inb_S2048x128_S256x128_0_0, inb_S1x2048x1_S1x256x1_0_0_0⟩
theorem rf1 : RowFacts 256 := ⟨inb_S2048x256_S256x256_256_0, inb_S2048x128_S256x128_256_0, inb_S1x2048x1_S1x256x1_0_256_0⟩
theorem rf2 : RowFacts 512 := ⟨inb_S2048x256_S256x256_512_0, inb_S2048x128_S256x128_512_0, inb_S1x2048x1_S1x256x1_0_512_0⟩
theorem rf3 : RowFacts 768 := ⟨inb_S2048x256_S256x256_768_0, inb_S2048x128_S256x128_768_0, inb_S1x2048x1_S1x256x1_0_768_0⟩
theorem rf4 : RowFacts 1024 := ⟨inb_S2048x256_S256x256_1024_0, inb_S2048x128_S256x128_1024_0, inb_S1x2048x1_S1x256x1_0_1024_0⟩
theorem rf5 : RowFacts 1280 := ⟨inb_S2048x256_S256x256_1280_0, inb_S2048x128_S256x128_1280_0, inb_S1x2048x1_S1x256x1_0_1280_0⟩
theorem rf6 : RowFacts 1536 := ⟨inb_S2048x256_S256x256_1536_0, inb_S2048x128_S256x128_1536_0, inb_S1x2048x1_S1x256x1_0_1536_0⟩
theorem rf7 : RowFacts 1792 := ⟨inb_S2048x256_S256x256_1792_0, inb_S2048x128_S256x128_1792_0, inb_S1x2048x1_S1x256x1_0_1792_0⟩

section Pure

variable {n : ℕ} (tf : TileFacts n) (w : Option (BitVec 32))

/-- The logits of a step in base two: the product, under the mask of a block on the diagonal if `w` gives the first row's place. -/
def tileS (q : Vec F S256x256 .bf16) (k : Vec F (Mat n 256) .bf16) : FVec F (Mat 256 n) .f32 :=
  match w with
  | none => matmul (DotDims.transposedRhs 256 256 n) none q k (constant (Mat 256 n) .f32 0x00000000#32)
  | some w => select (cmpi .sle (shrsi (iota .tc (Mat 256 n) 32 [1] tf.io1) (broadcast (Mat 256 n) 6#32))
        (shrsi (addi (iota .tc (Mat 256 n) 32 [0] tf.io0) (broadcast (Mat 256 n) w)) (broadcast (Mat 256 n) 6#32)))
      (matmul (DotDims.transposedRhs 256 256 n) none q k (constant (Mat 256 n) .f32 0x00000000#32))
      (broadcast (Mat 256 n) (Named.named κ "mask" 0xF149F2CA#32))

/-- The weights of a step. -/
def tileP (q : Vec F S256x256 .bf16) (k : Vec F (Mat n 256) .bf16) (lse : Vec F S1x256x1 .f32) : FVec F (Mat 256 n) .f32 :=
  exp2 (subf (tileS tf w q k) (broadcastTo (Mat 256 n) (shapeCast S256x1 lse shapeCasts_S1x256x1_S256x1) tf.bc))

/-- The gradient of the logits of a step. -/
def tileDs (q : Vec F S256x256 .bf16) (k : Vec F (Mat n 256) .bf16) (lse : Vec F S1x256x1 .f32) (d : Vec F S256x128 .f32)
    (v : Vec F (Mat n 128) .bf16) (o : Vec F S256x128 .f32) : FVec F (Mat 256 n) .bf16 :=
  truncf .bf16 (mulf (tileP tf w q k lse)
    (subf (matmul (DotDims.transposedRhs 256 128 n) none (truncf .bf16 d bitsLt_bf16_f32) v (constant (Mat 256 n) .f32 0x00000000#32))
      (broadcastTo (Mat 256 n) (shapeCast S256x1 (multiReduction .add [1] S256 (mulf d (shapeCast S256x128 o shapeCasts_S256x128_S256x128)) 0x00000000#32
        reduces_S256x128_S256 (.inl rfl) rfl) shapeCasts_S256_S256x1) tf.bc))) bitsLt_bf16_f32

/-- The accumulator of the values' gradient after a step. -/
def tileV (q : Vec F S256x256 .bf16) (k : Vec F (Mat n 256) .bf16) (lse : Vec F S1x256x1 .f32) (d : Vec F S256x128 .f32)
    (acc : Vec F (Mat n 128) .f32) : FVec F (Mat n 128) .f32 :=
  shapeCast (Mat n 128) (addf acc (matmul (dotT 256 n 128 tf.w128) none (truncf .bf16 (tileP tf w q k lse) bitsLt_bf16_f32)
    (truncf .bf16 d bitsLt_bf16_f32) (constant (Mat n 128) .f32 0x00000000#32))) tf.sc128

/-- The accumulator of the keys' gradient after a step. -/
def tileK (q : Vec F S256x256 .bf16) (k : Vec F (Mat n 256) .bf16) (lse : Vec F S1x256x1 .f32) (d : Vec F S256x128 .f32)
    (v : Vec F (Mat n 128) .bf16) (o : Vec F S256x128 .f32) (acc : Vec F (Mat n 256) .f32) : FVec F (Mat n 256) .f32 :=
  shapeCast (Mat n 256) (addf acc (mulf (matmul (dotT 256 n 256 tf.w256) none (tileDs tf w q k lse d v o) q
    (constant (Mat n 256) .f32 0x00000000#32)) (broadcast (Mat n 256) (Named.named κ "ln2" 0x3F317218#32)))) tf.sc256

/-- The rows of the queries' gradient after a step. -/
def tileQ (q : Vec F S256x256 .bf16) (k : Vec F (Mat n 256) .bf16) (lse : Vec F S1x256x1 .f32) (d : Vec F S256x128 .f32)
    (v : Vec F (Mat n 128) .bf16) (o : Vec F S256x128 .f32) (acc : Vec F S256x256 .f32) : FVec F S256x256 .f32 :=
  addf (shapeCast S256x256 acc shapeCasts_S256x256_S256x256) (mulf (matmul (DotDims.plain 256 n 256) none (tileDs tf w q k lse d v o) k
    (constant S256x256 .f32 0x00000000#32)) (broadcast S256x256 (Named.named κ "ln2" 0x3F317218#32)))

end Pure

section Parts

variable {n : ℕ} (tf : TileFacts n) {o : ℕ} (rf : RowFacts o) (w : Option (BitVec 32))

/-- The loads at the front of a step, then the rest `jp`. -/
def frontL (arg3 : Memref sig .tc .vmem S2048x256 .bf16) (arg4 : Memref sig .tc .vmem S1024x256 .bf16) (arg5 : Memref sig .tc .vmem S1024x128 .bf16)
    (arg8 : Memref sig .tc .vmem S2048x128 .f32)
    (jp : Vec F S256x256 .bf16 → Vec F S256x128 .f32 → Vec F (Mat n 256) .bf16 → Vec F (Mat n 128) .bf16 → Prog (TpuEff nD τ sig (Elt F) Λ₀ .tc) PUnit) :
    Prog (TpuEff nD τ sig (Elt F) Λ₀ .tc) PUnit := do
  let q : Vec F S256x256 .bf16 ← Prog.lift (.load arg3 (Rect.unit (s := S2048x256) ![o, 0] S256x256.size rf.inq).toLoadRect (View.loadsAt_vmem h_S256x256))
  let d : Vec F S256x128 .f32 ← Prog.lift (.load arg8 (Rect.unit (s := S2048x128) ![o, 0] S256x128.size rf.ino).toLoadRect (View.loadsAt_vmem h_S256x128))
  let k : Vec F (Mat n 256) .bf16 ← Prog.lift (.load arg4 (Rect.unit (s := S1024x256) ![0, 0] (Mat n 256).size tf.inb256).toLoadRect (View.loadsAt_vmem tf.pos256))
  let v : Vec F (Mat n 128) .bf16 ← Prog.lift (.load arg5 (Rect.unit (s := S1024x128) ![0, 0] (Mat n 128).size tf.inb128).toLoadRect (View.loadsAt_vmem tf.pos128))
  jp q d k v

/-- The rest of a step: its other loads and its three sums, then the rest `jp`. -/
def backL (arg4 : Memref sig .tc .vmem S1024x256 .bf16) (arg6 : Memref sig .tc .vmem S2048x128 .f32) (arg7 : Memref sig .tc .vmem S1x2048x1 .f32)
    (arg9 : Memref sig .tc .vmem S8192x256 .f32) (arg12 : Memref sig .tc .vmem S1024x256 .f32) (arg13 : Memref sig .tc .vmem S1024x128 .f32)
    (off : Fin 2 → ℕ) (hoff : ∀ a, off a + S256x256.size a ≤ S8192x256.size a)
    (q : Vec F S256x256 .bf16) (d : Vec F S256x128 .f32) (k : Vec F (Mat n 256) .bf16) (v : Vec F (Mat n 128) .bf16)
    (jp : Unit → Prog (TpuEff nD τ sig (Elt F) Λ₀ .tc) PUnit) : Prog (TpuEff nD τ sig (Elt F) Λ₀ .tc) PUnit := do
  let lse : Vec F S1x256x1 .f32 ← Prog.lift (.load arg7 (Rect.unit (s := S1x2048x1) ![0, o, 0] S1x256x1.size rf.inl).toLoadRect (View.loadsAt_vmem h_S1x256x1))
  let y : Vec F S256x128 .f32 ← Prog.lift (.load arg6 (Rect.unit (s := S2048x128) ![o, 0] S256x128.size rf.ino).toLoadRect (View.loadsAt_vmem h_S256x128))
  let b : Vec F (Mat n 128) .f32 ← Prog.lift (.load arg13 (Rect.unit (s := S1024x128) ![0, 0] (Mat n 128).size tf.inb128).toLoadRect (View.loadsAt_vmem tf.pos128))
  let b' : Vec F (Mat n 128) .f32 ← Prog.lift (.load arg13 (Rect.unit (s := S1024x128) ![0, 0] (Mat n 128).size tf.inb128).toLoadRect (View.loadsAt_vmem tf.pos128))
  Prog.lift (.store arg13 (Rect.unit (s := S1024x128) ![0, 0] (Mat n 128).size tf.inb128) (tileV tf w q k lse d b) Finset.univ (View.stores_vmem_bits_univ tf.pos128 rfl) (.inl rfl))
  let a : Vec F (Mat n 256) .f32 ← Prog.lift (.load arg12 (Rect.unit (s := S1024x256) ![0, 0] (Mat n 256).size tf.inb256).toLoadRect (View.loadsAt_vmem tf.pos256))
  let a' : Vec F (Mat n 256) .f32 ← Prog.lift (.load arg12 (Rect.unit (s := S1024x256) ![0, 0] (Mat n 256).size tf.inb256).toLoadRect (View.loadsAt_vmem tf.pos256))
  Prog.lift (.store arg12 (Rect.unit (s := S1024x256) ![0, 0] (Mat n 256).size tf.inb256) (tileK tf w q k lse d v y a) Finset.univ (View.stores_vmem_bits_univ tf.pos256 rfl) (.inl rfl))
  let g : Vec F S256x256 .f32 ← Prog.lift (.load arg9 (Rect.unit (s := S8192x256) off S256x256.size hoff).toLoadRect (View.loadsAt_vmem h_S256x256))
  let k' : Vec F (Mat n 256) .bf16 ← Prog.lift (.load arg4 (Rect.unit (s := S1024x256) ![0, 0] (Mat n 256).size tf.inb256).toLoadRect (View.loadsAt_vmem tf.pos256))
  let g' : Vec F S256x256 .f32 ← Prog.lift (.load arg9 (Rect.unit (s := S8192x256) off S256x256.size hoff).toLoadRect (View.loadsAt_vmem h_S256x256))
  Prog.lift (.store arg9 (Rect.unit (s := S8192x256) off S256x256.size hoff)
    (addf (shapeCast S256x256 g shapeCasts_S256x256_S256x256) (mulf (matmul (DotDims.plain 256 n 256) none (tileDs tf w q k lse d v y) k'
      (constant S256x256 .f32 0x00000000#32)) (broadcast S256x256 (Named.named κ "ln2" 0x3F317218#32)))) Finset.univ (View.stores_vmem_bits_univ h_S256x256 rfl) (.inl rfl))
  jp ⟨⟩

end Parts

end Cert.KernelIdeal.Gen
-- ==== Proof.Steps.lean ====
module

public import proofs.«01_k».proof.Proof.Gen.KernelIdeal.Frame
public import proofs.«01_k».proof.Proof.Gen.KernelIdeal.Skeleton
public import proofs.«01_k».proof.Proof.Blocks
public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000

/-- The third block, as eight steps over all keys of the tile; the loads of a step come before the sums of the one before it. -/
theorem wholeP_eq (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : Unit → Prog (TpuEff nD τ sig (Elt F) Λ₀ .tc) PUnit) : wholeP i arg3 harg3 arg4 harg4 arg5 harg5 arg6 harg6 arg7 harg7 arg8 harg8 arg9 harg9 arg10 harg10 arg11 harg11 arg12 harg12 arg13 harg13 jp =
  (if h : k0_cond3 i = 1#1 then
  frontL tf1024 rf0 arg3 arg4 arg5 arg8 fun q0 d0 k0 v0 =>
  frontL tf1024 rf1 arg3 arg4 arg5 arg8 fun q1 d1 k1 v1 =>
  backL tf1024 rf0 none arg4 arg6 arg7 arg9 arg12 arg13 (k0_off1 i 0#32) (k0_off1_inb i h 0) q0 d0 k0 v0 fun _ =>
  frontL tf1024 rf2 arg3 arg4 arg5 arg8 fun q2 d2 k2 v2 =>
  backL tf1024 rf1 none arg4 arg6 arg7 arg9 arg12 arg13 (k0_off1 i 256#32) (k0_off1_inb i h 1) q1 d1 k1 v1 fun _ =>
  frontL tf1024 rf3 arg3 arg4 arg5 arg8 fun q3 d3 k3 v3 =>
  backL tf1024 rf2 none arg4 arg6 arg7 arg9 arg12 arg13 (k0_off1 i 512#32) (k0_off1_inb i h 2) q2 d2 k2 v2 fun _ =>
  frontL tf1024 rf4 arg3 arg4 arg5 arg8 fun q4 d4 k4 v4 =>
  backL tf1024 rf3 none arg4 arg6 arg7 arg9 arg12 arg13 (k0_off1 i 768#32) (k0_off1_inb i h 3) q3 d3 k3 v3 fun _ =>
  frontL tf1024 rf5 arg3 arg4 arg5 arg8 fun q5 d5 k5 v5 =>
  backL tf1024 rf4 none arg4 arg6 arg7 arg9 arg12 arg13 (k0_off1 i 1024#32) (k0_off1_inb i h 4) q4 d4 k4 v4 fun _ =>
  frontL tf1024 rf6 arg3 arg4 arg5 arg8 fun q6 d6 k6 v6 =>
  backL tf1024 rf5 none arg4 arg6 arg7 arg9 arg12 arg13 (k0_off1 i 1280#32) (k0_off1_inb i h 5) q5 d5 k5 v5 fun _ =>
  frontL tf1024 rf7 arg3 arg4 arg5 arg8 fun q7 d7 k7 v7 =>
  backL tf1024 rf6 none arg4 arg6 arg7 arg9 arg12 arg13 (k0_off1 i 1536#32) (k0_off1_inb i h 6) q6 d6 k6 v6 fun _ =>
  backL tf1024 rf7 none arg4 arg6 arg7 arg9 arg12 arg13 (k0_off1 i 1792#32) (k0_off1_inb i h 7) q7 d7 k7 v7 jp
  else jp ⟨⟩) := rfl

/-- The block of a key tile on the diagonal, part 0, as its steps. -/
theorem part0P_eq (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : Unit → Prog (TpuEff nD τ sig (Elt F) Λ₀ .tc) PUnit) : part0P i arg3 harg3 arg4 harg4 arg5 harg5 arg6 harg6 arg7 harg7 arg8 harg8 arg9 harg9 arg10 harg10 arg11 harg11 arg12 harg12 arg13 harg13 jp =
  (if h : k0_cond4 i = 1#1 then
  frontL tf256 rf0 arg3 arg4 arg5 arg8 fun q0 d0 k0 v0 =>
  backL tf256 rf0 (some 0#32) arg4 arg6 arg7 arg9 arg12 arg13 (k0_off2 i 0#32) (k0_off2_inb i h 0) q0 d0 k0 v0 fun _ =>
  frontL tf512 rf1 arg3 arg4 arg5 arg8 fun q1 d1 k1 v1 =>
  backL tf512 rf1 (some 256#32) arg4 arg6 arg7 arg9 arg12 arg13 (k0_off2 i 256#32) (k0_off2_inb i h 1) q1 d1 k1 v1 fun _ =>
  frontL tf768 rf2 arg3 arg4 arg5 arg8 fun q2 d2 k2 v2 =>
  backL tf768 rf2 (some 512#32) arg4 arg6 arg7 arg9 arg12 arg13 (k0_off2 i 512#32) (k0_off2_inb i h 2) q2 d2 k2 v2 fun _ =>
  frontL tf1024 rf3 arg3 arg4 arg5 arg8 fun q3 d3 k3 v3 =>
  backL tf1024 rf3 (some 768#32) arg4 arg6 arg7 arg9 arg12 arg13 (k0_off2 i 768#32) (k0_off2_inb i h 3) q3 d3 k3 v3 fun _ =>
  frontL tf1024 rf4 arg3 arg4 arg5 arg8 fun q4 d4 k4 v4 =>
  backL tf1024 rf4 none arg4 arg6 arg7 arg9 arg12 arg13 (k0_off2 i 1024#32) (k0_off2_inb i h 4) q4 d4 k4 v4 fun _ =>
  frontL tf1024 rf5 arg3 arg4 arg5 arg8 fun q5 d5 k5 v5 =>
  backL tf1024 rf5 none arg4 arg6 arg7 arg9 arg12 arg13 (k0_off2 i 1280#32) (k0_off2_inb i h 5) q5 d5 k5 v5 fun _ =>
  frontL tf1024 rf6 arg3 arg4 arg5 arg8 fun q6 d6 k6 v6 =>
  backL tf1024 rf6 none arg4 arg6 arg7 arg9 arg12 arg13 (k0_off2 i 1536#32) (k0_off2_inb i h 6) q6 d6 k6 v6 fun _ =>
  frontL tf1024 rf7 arg3 arg4 arg5 arg8 fun q7 d7 k7 v7 =>
  backL tf1024 rf7 none arg4 arg6 arg7 arg9 arg12 arg13 (k0_off2 i 1792#32) (k0_off2_inb i h 7) q7 d7 k7 v7 jp
  else jp ⟨⟩) := rfl

/-- The block of a key tile on the diagonal, part 1, as its steps. -/
theorem part1P_eq (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (jp : Unit → Prog (TpuEff nD τ sig (Elt F) Λ₀ .tc) PUnit) : part1P i arg3 harg3 arg4 harg4 arg5 harg5 arg6 harg6 arg7 harg7 arg8 harg8 arg9 harg9 arg10 harg10 arg11 harg11 arg12 harg12 arg13 harg13 jp =
  (if h : k0_cond5 i = 1#1 then
  frontL tf256 rf4 arg3 arg4 arg5 arg8 fun q4 d4 k4 v4 =>
  backL tf256 rf4 (some 0#32) arg4 arg6 arg7 arg9 arg12 arg13 (k0_off3 i 1024#32) (k0_off3_inb i h 0) q4 d4 k4 v4 fun _ =>
  frontL tf512 rf5 arg3 arg4 arg5 arg8 fun q5 d5 k5 v5 =>
  backL tf512 rf5 (some 256#32) arg4 arg6 arg7 arg9 arg12 arg13 (k0_off3 i 1280#32) (k0_off3_inb i h 1) q5 d5 k5 v5 fun _ =>
  frontL tf768 rf6 arg3 arg4 arg5 arg8 fun q6 d6 k6 v6 =>
  backL tf768 rf6 (some 512#32) arg4 arg6 arg7 arg9 arg12 arg13 (k0_off3 i 1536#32) (k0_off3_inb i h 2) q6 d6 k6 v6 fun _ =>
  frontL tf1024 rf7 arg3 arg4 arg5 arg8 fun q7 d7 k7 v7 =>
  backL tf1024 rf7 (some 768#32) arg4 arg6 arg7 arg9 arg12 arg13 (k0_off3 i 1792#32) (k0_off3_inb i h 3) q7 d7 k7 v7 jp
  else jp ⟨⟩) := rfl

end Cert.KernelIdeal.Gen
-- ==== Proof.StepRun.lean ====
module

public import proofs.«01_k».proof.Proof.Gen.KernelIdeal.Frame
public import proofs.«01_k».proof.Proof.Gen.KernelIdeal.Skeleton
public import proofs.«01_k».proof.Proof.Tile
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

/-- The buffers of a step: the six input blocks, the queries' gradient and the two accumulators. -/
def Hold (c : Dev nD) (arg3 : Memref sig .tc .vmem S2048x256 .bf16) (arg4 : Memref sig .tc .vmem S1024x256 .bf16) (arg5 : Memref sig .tc .vmem S1024x128 .bf16) (arg6 : Memref sig .tc .vmem S2048x128 .f32) (arg7 : Memref sig .tc .vmem S1x2048x1 .f32) (arg8 : Memref sig .tc .vmem S2048x128 .f32) (arg9 : Memref sig .tc .vmem S8192x256 .f32) (arg12 : Memref sig .tc .vmem S1024x256 .f32) (arg13 : Memref sig .tc .vmem S1024x128 .f32) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare D ∗ owns (c : Thread nD τ) arg12 fullShare A ∗ owns (c : Thread nD τ) arg13 fullShare B)

section Runs

variable {n : ℕ} (tf : TileFacts n) {o : ℕ} (rf : RowFacts o) (w : Option (BitVec 32))

/-- The blocks of a step, read out of the buffers. -/
def qOf (x0 : Vec F S2048x256 .bf16) : Vec F S256x256 .bf16 := window x0 ![o, 0] S256x256.size rf.inq
def dOf (x5 : Vec F S2048x128 .f32) : Vec F S256x128 .f32 := window x5 ![o, 0] S256x128.size rf.ino
def lOf (x4 : Vec F S1x2048x1 .f32) : Vec F S1x256x1 .f32 := window x4 ![0, o, 0] S1x256x1.size rf.inl
def kOf (x1 : Vec F S1024x256 .bf16) : Vec F (Mat n 256) .bf16 := window x1 ![0, 0] (Mat n 256).size tf.inb256
def vOf (x2 : Vec F S1024x128 .bf16) : Vec F (Mat n 128) .bf16 := window x2 ![0, 0] (Mat n 128).size tf.inb128
def aOf (A : Vec F S1024x256 .f32) : Vec F (Mat n 256) .f32 := window A ![0, 0] (Mat n 256).size tf.inb256
def bOf (B : Vec F S1024x128 .f32) : Vec F (Mat n 128) .f32 := window B ![0, 0] (Mat n 128).size tf.inb128

/-- The queries' gradient after a step. -/
def stepD (off : Fin 2 → ℕ) (hoff : ∀ a, off a + S256x256.size a ≤ S8192x256.size a) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) : Vec F S8192x256 .f32 :=
  put D off S256x256.size (tileQ tf w (qOf rf x0) (kOf tf x1) (lOf rf x4) (dOf rf x5) (vOf tf x2) (dOf rf x3) (window D off S256x256.size hoff))
/-- The keys' accumulator after a step. -/
def stepA (x0 : Vec F S2048x256 .bf16) (x1 : Vec F S1024x256 .bf16) (x2 : Vec F S1024x128 .bf16) (x3 : Vec F S2048x128 .f32) (x4 : Vec F S1x2048x1 .f32) (x5 : Vec F S2048x128 .f32) (A : Vec F S1024x256 .f32) : Vec F S1024x256 .f32 :=
  put A ![0, 0] (Mat n 256).size (tileK tf w (qOf rf x0) (kOf tf x1) (lOf rf x4) (dOf rf x5) (vOf tf x2) (dOf rf x3) (aOf tf A))
/-- The values' accumulator after a step. -/
def stepB (x0 : Vec F S2048x256 .bf16) (x1 : Vec F S1024x256 .bf16) (x2 : Vec F S1024x128 .bf16) (x3 : Vec F S2048x128 .f32) (x4 : Vec F S1x2048x1 .f32) (x5 : Vec F S2048x128 .f32) (B : Vec F S1024x128 .f32) : Vec F S1024x128 .f32 :=
  put B ![0, 0] (Mat n 128).size (tileV tf w (qOf rf x0) (kOf tf x1) (lOf rf x4) (dOf rf x5) (bOf tf B))

set_option maxHeartbeats 1000000

theorem frontL_run (c : Dev nD) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32)
    (E : Set ℕ) (K : Unit → sProp 𝕄) (R : sProp 𝕄)
    (jp : Vec F S256x256 .bf16 → Vec F S256x128 .f32 → Vec F (Mat n 256) .bf16 → Vec F (Mat n 128) .bf16 → Prog (TpuEff nD τ sig (Elt F) Λ₀ .tc) PUnit)
    (h : iprop(Hold c arg3 arg4 arg5 arg6 arg7 arg8 arg9 arg12 arg13 x0 x1 x2 x3 x4 x5 D A B ∗ R) ⊢ wp frame (wpE (defs₀ (F := F)) Variants.none c none) E (jp (qOf rf x0) (dOf rf x5) (kOf tf x1) (vOf tf x2)) K) :
    iprop(Hold c arg3 arg4 arg5 arg6 arg7 arg8 arg9 arg12 arg13 x0 x1 x2 x3 x4 x5 D A B ∗ R) ⊢ wp frame (wpE (defs₀ (F := F)) Variants.none c none) E (frontL tf rf arg3 arg4 arg5 arg8 jp) K := by
  have e0 : arg3.view.readAt (Elt F) (Rect.unit (s := S2048x256) ![o, 0] S256x256.size rf.inq).toLoadRect (harg3.unread x0) = qOf rf x0 := by
    rw [View.readAt_unit _ _ _ rfl rf.inq, harg3.read_unread]; rfl
  have e5 : arg8.view.readAt (Elt F) (Rect.unit (s := S2048x128) ![o, 0] S256x128.size rf.ino).toLoadRect (harg8.unread x5) = dOf rf x5 := by
    rw [View.readAt_unit _ _ _ rfl rf.ino, harg8.read_unread]; rfl
  have e1 : arg4.view.readAt (Elt F) (Rect.unit (s := S1024x256) ![0, 0] (Mat n 256).size tf.inb256).toLoadRect (harg4.unread x1) = kOf tf x1 := by
    rw [View.readAt_unit _ _ _ rfl tf.inb256, harg4.read_unread]; rfl
  have e2 : arg5.view.readAt (Elt F) (Rect.unit (s := S1024x128) ![0, 0] (Mat n 128).size tf.inb128).toLoadRect (harg5.unread x2) = vOf tf x2 := by
    rw [View.readAt_unit _ _ _ rfl tf.inb128, harg5.read_unread]; rfl
  unfold frontL
  refine BIBase.Entails.trans ?_ (?_ : iprop(Hold c arg3 arg4 arg5 arg6 arg7 arg8 arg9 arg12 arg13 x0 x1 x2 x3 x4 x5 D A B ∗ R ∗ (iprop(Hold c arg3 arg4 arg5 arg6 arg7 arg8 arg9 arg12 arg13 x0 x1 x2 x3 x4 x5 D A B ∗ R) -∗ wp frame (wpE (defs₀ (F := F)) Variants.none c none) E (jp (qOf rf x0) (dOf rf x5) (kOf tf x1) (vOf tf x2)) K)) ⊢ _)
  · iintro ⟨H, HR⟩
    isplitl [H]; · iexact H
    isplitl [HR]; · iexact HR
    iintro H2
    iapply h
    iexact H2
  unfold Hold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, HR, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf7; obtain rfl := harg13.eq_unread hf8
  sl_exec
  simp only [e0, e1, e2, e5]
  iapply Hk
  isplitr [HR]
  · skip
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg12.read_unread _
    · iexists _; isplitr; swap; · iexact H8
      ipureintro; exact harg13.read_unread _
  iexact HR

theorem backL_run (c : Dev nD) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32)
    (off : Fin 2 → ℕ) (hoff : ∀ a, off a + S256x256.size a ≤ S8192x256.size a)
    (E : Set ℕ) (K : Unit → sProp 𝕄) (R : sProp 𝕄)
    (jp : Unit → Prog (TpuEff nD τ sig (Elt F) Λ₀ .tc) PUnit)
    (h : iprop(Hold c arg3 arg4 arg5 arg6 arg7 arg8 arg9 arg12 arg13 x0 x1 x2 x3 x4 x5 (stepD tf rf w off hoff x0 x1 x2 x3 x4 x5 D) (stepA tf rf w x0 x1 x2 x3 x4 x5 A) (stepB tf rf w x0 x1 x2 x3 x4 x5 B) ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E
      (backL tf rf w arg4 arg6 arg7 arg9 arg12 arg13 off hoff (qOf rf x0) (dOf rf x5) (kOf tf x1) (vOf tf x2) jp) K := by
  have e4 : arg7.view.readAt (Elt F) (Rect.unit (s := S1x2048x1) ![0, o, 0] S1x256x1.size rf.inl).toLoadRect (harg7.unread x4) = lOf rf x4 := by
    rw [View.readAt_unit _ _ _ rfl rf.inl, harg7.read_unread]; rfl
  have e3 : arg6.view.readAt (Elt F) (Rect.unit (s := S2048x128) ![o, 0] S256x128.size rf.ino).toLoadRect (harg6.unread x3) = dOf rf x3 := by
    rw [View.readAt_unit _ _ _ rfl rf.ino, harg6.read_unread]; rfl
  have e1 : arg4.view.readAt (Elt F) (Rect.unit (s := S1024x256) ![0, 0] (Mat n 256).size tf.inb256).toLoadRect (harg4.unread x1) = kOf tf x1 := by
    rw [View.readAt_unit _ _ _ rfl tf.inb256, harg4.read_unread]; rfl
  have eA : arg12.view.readAt (Elt F) (Rect.unit (s := S1024x256) ![0, 0] (Mat n 256).size tf.inb256).toLoadRect (harg12.unread A) = aOf tf A := by
    rw [View.readAt_unit _ _ _ rfl tf.inb256, harg12.read_unread]; rfl
  have eB : arg13.view.readAt (Elt F) (Rect.unit (s := S1024x128) ![0, 0] (Mat n 128).size tf.inb128).toLoadRect (harg13.unread B) = bOf tf B := by
    rw [View.readAt_unit _ _ _ rfl tf.inb128, harg13.read_unread]; rfl
  have eD : arg9.view.readAt (Elt F) (Rect.unit (s := S8192x256) off S256x256.size hoff).toLoadRect (harg9.unread D) = window D off S256x256.size hoff := by
    rw [View.readAt_unit _ _ _ rfl hoff, harg9.read_unread]
  unfold backL
  refine BIBase.Entails.trans ?_ (?_ : iprop(Hold c arg3 arg4 arg5 arg6 arg7 arg8 arg9 arg12 arg13 x0 x1 x2 x3 x4 x5 D A B ∗ R ∗ (iprop(Hold c arg3 arg4 arg5 arg6 arg7 arg8 arg9 arg12 arg13 x0 x1 x2 x3 x4 x5 (stepD tf rf w off hoff x0 x1 x2 x3 x4 x5 D) (stepA tf rf w x0 x1 x2 x3 x4 x5 A) (stepB tf rf w x0 x1 x2 x3 x4 x5 B) ∗ R) -∗ wp frame (wpE (defs₀ (F := F)) Variants.none c none) E (jp ⟨⟩) K)) ⊢ _)
  · iintro ⟨H, HR⟩
    isplitl [H]; · iexact H
    isplitl [HR]; · iexact HR
    iintro H2
    iapply h
    iexact H2
  unfold Hold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, HR, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf7; obtain rfl := harg13.eq_unread hf8
  sl_exec
  iapply Hk
  isplitr [HR]
  · skip
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; rw [View.read_writes_cons_put _ _ _ _ _ rfl, View.writes_nil, harg9.read_unread]; simp only [e1, e3, e4, eD]; rfl
    isplitl [H7]
    · iexists _; isplitr; swap; · iexact H7
      ipureintro; rw [View.read_writes_cons_put _ _ _ _ _ rfl, View.writes_nil, harg12.read_unread]; simp only [e3, e4, eA]; rfl
    · iexists _; isplitr; swap; · iexact H8
      ipureintro; rw [View.read_writes_cons_put _ _ _ _ _ rfl, View.writes_nil, harg13.read_unread]; simp only [e4, eB]; rfl
  iexact HR

end Runs

end Cert.KernelIdeal.Gen
-- ==== Proof.BodyRun.lean ====
module

public import proofs.«01_k».proof.Proof.Gen.KernelIdeal.Frame
public import proofs.«01_k».proof.Proof.Gen.KernelIdeal.Skeleton
public import proofs.«01_k».proof.Proof.Steps
public import proofs.«01_k».proof.Proof.StepRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

set_option maxHeartbeats 1000000

def wholeD (i : grid0.Coords) (hc : k0_cond3 i = 1#1) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) : Vec F S8192x256 .f32 :=
  (stepD tf1024 rf7 none (k0_off1 i 1792#32) (k0_off1_inb i hc 7) x0 x1 x2 x3 x4 x5 (stepD tf1024 rf6 none (k0_off1 i 1536#32) (k0_off1_inb i hc 6) x0 x1 x2 x3 x4 x5 (stepD tf1024 rf5 none (k0_off1 i 1280#32) (k0_off1_inb i hc 5) x0 x1 x2 x3 x4 x5 (stepD tf1024 rf4 none (k0_off1 i 1024#32) (k0_off1_inb i hc 4) x0 x1 x2 x3 x4 x5 (stepD tf1024 rf3 none (k0_off1 i 768#32) (k0_off1_inb i hc 3) x0 x1 x2 x3 x4 x5 (stepD tf1024 rf2 none (k0_off1 i 512#32) (k0_off1_inb i hc 2) x0 x1 x2 x3 x4 x5 (stepD tf1024 rf1 none (k0_off1 i 256#32) (k0_off1_inb i hc 1) x0 x1 x2 x3 x4 x5 (stepD tf1024 rf0 none (k0_off1 i 0#32) (k0_off1_inb i hc 0) x0 x1 x2 x3 x4 x5 D))))))))
def wholeA (x0 : Vec F S2048x256 .bf16) (x1 : Vec F S1024x256 .bf16) (x2 : Vec F S1024x128 .bf16) (x3 : Vec F S2048x128 .f32) (x4 : Vec F S1x2048x1 .f32) (x5 : Vec F S2048x128 .f32) (A : Vec F S1024x256 .f32) : Vec F S1024x256 .f32 :=
  (stepA tf1024 rf7 none x0 x1 x2 x3 x4 x5 (stepA tf1024 rf6 none x0 x1 x2 x3 x4 x5 (stepA tf1024 rf5 none x0 x1 x2 x3 x4 x5 (stepA tf1024 rf4 none x0 x1 x2 x3 x4 x5 (stepA tf1024 rf3 none x0 x1 x2 x3 x4 x5 (stepA tf1024 rf2 none x0 x1 x2 x3 x4 x5 (stepA tf1024 rf1 none x0 x1 x2 x3 x4 x5 (stepA tf1024 rf0 none x0 x1 x2 x3 x4 x5 A))))))))
def wholeB (x0 : Vec F S2048x256 .bf16) (x1 : Vec F S1024x256 .bf16) (x2 : Vec F S1024x128 .bf16) (x3 : Vec F S2048x128 .f32) (x4 : Vec F S1x2048x1 .f32) (x5 : Vec F S2048x128 .f32) (B : Vec F S1024x128 .f32) : Vec F S1024x128 .f32 :=
  (stepB tf1024 rf7 none x0 x1 x2 x3 x4 x5 (stepB tf1024 rf6 none x0 x1 x2 x3 x4 x5 (stepB tf1024 rf5 none x0 x1 x2 x3 x4 x5 (stepB tf1024 rf4 none x0 x1 x2 x3 x4 x5 (stepB tf1024 rf3 none x0 x1 x2 x3 x4 x5 (stepB tf1024 rf2 none x0 x1 x2 x3 x4 x5 (stepB tf1024 rf1 none x0 x1 x2 x3 x4 x5 (stepB tf1024 rf0 none x0 x1 x2 x3 x4 x5 B))))))))

theorem wholeP_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (E : Set ℕ) (K : Unit → sProp 𝕄) (R : sProp 𝕄) (jp : Unit → Prog (TpuEff nD τ sig (Elt F) Λ₀ .tc) PUnit) (hc : k0_cond3 i = 1#1)
    (h : iprop(Hold c arg3 arg4 arg5 arg6 arg7 arg8 arg9 arg12 arg13 x0 x1 x2 x3 x4 x5 (wholeD i hc x0 x1 x2 x3 x4 x5 D) (wholeA x0 x1 x2 x3 x4 x5 A) (wholeB x0 x1 x2 x3 x4 x5 B) ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E (wholeP i arg3 harg3 arg4 harg4 arg5 harg5 arg6 harg6 arg7 harg7 arg8 harg8 arg9 harg9 arg10 harg10 arg11 harg11 arg12 harg12 arg13 harg13 jp) K := by
  rw [wholeP_eq, dif_pos hc]
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  exact h
def part0D (i : grid0.Coords) (hc : k0_cond4 i = 1#1) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) : Vec F S8192x256 .f32 :=
  (stepD tf1024 rf7 none (k0_off2 i 1792#32) (k0_off2_inb i hc 7) x0 x1 x2 x3 x4 x5 (stepD tf1024 rf6 none (k0_off2 i 1536#32) (k0_off2_inb i hc 6) x0 x1 x2 x3 x4 x5 (stepD tf1024 rf5 none (k0_off2 i 1280#32) (k0_off2_inb i hc 5) x0 x1 x2 x3 x4 x5 (stepD tf1024 rf4 none (k0_off2 i 1024#32) (k0_off2_inb i hc 4) x0 x1 x2 x3 x4 x5 (stepD tf1024 rf3 (some 768#32) (k0_off2 i 768#32) (k0_off2_inb i hc 3) x0 x1 x2 x3 x4 x5 (stepD tf768 rf2 (some 512#32) (k0_off2 i 512#32) (k0_off2_inb i hc 2) x0 x1 x2 x3 x4 x5 (stepD tf512 rf1 (some 256#32) (k0_off2 i 256#32) (k0_off2_inb i hc 1) x0 x1 x2 x3 x4 x5 (stepD tf256 rf0 (some 0#32) (k0_off2 i 0#32) (k0_off2_inb i hc 0) x0 x1 x2 x3 x4 x5 D))))))))
def part0A (x0 : Vec F S2048x256 .bf16) (x1 : Vec F S1024x256 .bf16) (x2 : Vec F S1024x128 .bf16) (x3 : Vec F S2048x128 .f32) (x4 : Vec F S1x2048x1 .f32) (x5 : Vec F S2048x128 .f32) (A : Vec F S1024x256 .f32) : Vec F S1024x256 .f32 :=
  (stepA tf1024 rf7 none x0 x1 x2 x3 x4 x5 (stepA tf1024 rf6 none x0 x1 x2 x3 x4 x5 (stepA tf1024 rf5 none x0 x1 x2 x3 x4 x5 (stepA tf1024 rf4 none x0 x1 x2 x3 x4 x5 (stepA tf1024 rf3 (some 768#32) x0 x1 x2 x3 x4 x5 (stepA tf768 rf2 (some 512#32) x0 x1 x2 x3 x4 x5 (stepA tf512 rf1 (some 256#32) x0 x1 x2 x3 x4 x5 (stepA tf256 rf0 (some 0#32) x0 x1 x2 x3 x4 x5 A))))))))
def part0B (x0 : Vec F S2048x256 .bf16) (x1 : Vec F S1024x256 .bf16) (x2 : Vec F S1024x128 .bf16) (x3 : Vec F S2048x128 .f32) (x4 : Vec F S1x2048x1 .f32) (x5 : Vec F S2048x128 .f32) (B : Vec F S1024x128 .f32) : Vec F S1024x128 .f32 :=
  (stepB tf1024 rf7 none x0 x1 x2 x3 x4 x5 (stepB tf1024 rf6 none x0 x1 x2 x3 x4 x5 (stepB tf1024 rf5 none x0 x1 x2 x3 x4 x5 (stepB tf1024 rf4 none x0 x1 x2 x3 x4 x5 (stepB tf1024 rf3 (some 768#32) x0 x1 x2 x3 x4 x5 (stepB tf768 rf2 (some 512#32) x0 x1 x2 x3 x4 x5 (stepB tf512 rf1 (some 256#32) x0 x1 x2 x3 x4 x5 (stepB tf256 rf0 (some 0#32) x0 x1 x2 x3 x4 x5 B))))))))

theorem part0P_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (E : Set ℕ) (K : Unit → sProp 𝕄) (R : sProp 𝕄) (jp : Unit → Prog (TpuEff nD τ sig (Elt F) Λ₀ .tc) PUnit) (hc : k0_cond4 i = 1#1)
    (h : iprop(Hold c arg3 arg4 arg5 arg6 arg7 arg8 arg9 arg12 arg13 x0 x1 x2 x3 x4 x5 (part0D i hc x0 x1 x2 x3 x4 x5 D) (part0A x0 x1 x2 x3 x4 x5 A) (part0B x0 x1 x2 x3 x4 x5 B) ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E (part0P i arg3 harg3 arg4 harg4 arg5 harg5 arg6 harg6 arg7 harg7 arg8 harg8 arg9 harg9 arg10 harg10 arg11 harg11 arg12 harg12 arg13 harg13 jp) K := by
  rw [part0P_eq, dif_pos hc]
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  exact h
def part1D (i : grid0.Coords) (hc : k0_cond5 i = 1#1) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) : Vec F S8192x256 .f32 :=
  (stepD tf1024 rf7 (some 768#32) (k0_off3 i 1792#32) (k0_off3_inb i hc 3) x0 x1 x2 x3 x4 x5 (stepD tf768 rf6 (some 512#32) (k0_off3 i 1536#32) (k0_off3_inb i hc 2) x0 x1 x2 x3 x4 x5 (stepD tf512 rf5 (some 256#32) (k0_off3 i 1280#32) (k0_off3_inb i hc 1) x0 x1 x2 x3 x4 x5 (stepD tf256 rf4 (some 0#32) (k0_off3 i 1024#32) (k0_off3_inb i hc 0) x0 x1 x2 x3 x4 x5 D))))
def part1A (x0 : Vec F S2048x256 .bf16) (x1 : Vec F S1024x256 .bf16) (x2 : Vec F S1024x128 .bf16) (x3 : Vec F S2048x128 .f32) (x4 : Vec F S1x2048x1 .f32) (x5 : Vec F S2048x128 .f32) (A : Vec F S1024x256 .f32) : Vec F S1024x256 .f32 :=
  (stepA tf1024 rf7 (some 768#32) x0 x1 x2 x3 x4 x5 (stepA tf768 rf6 (some 512#32) x0 x1 x2 x3 x4 x5 (stepA tf512 rf5 (some 256#32) x0 x1 x2 x3 x4 x5 (stepA tf256 rf4 (some 0#32) x0 x1 x2 x3 x4 x5 A))))
def part1B (x0 : Vec F S2048x256 .bf16) (x1 : Vec F S1024x256 .bf16) (x2 : Vec F S1024x128 .bf16) (x3 : Vec F S2048x128 .f32) (x4 : Vec F S1x2048x1 .f32) (x5 : Vec F S2048x128 .f32) (B : Vec F S1024x128 .f32) : Vec F S1024x128 .f32 :=
  (stepB tf1024 rf7 (some 768#32) x0 x1 x2 x3 x4 x5 (stepB tf768 rf6 (some 512#32) x0 x1 x2 x3 x4 x5 (stepB tf512 rf5 (some 256#32) x0 x1 x2 x3 x4 x5 (stepB tf256 rf4 (some 0#32) x0 x1 x2 x3 x4 x5 B))))

theorem part1P_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (E : Set ℕ) (K : Unit → sProp 𝕄) (R : sProp 𝕄) (jp : Unit → Prog (TpuEff nD τ sig (Elt F) Λ₀ .tc) PUnit) (hc : k0_cond5 i = 1#1)
    (h : iprop(Hold c arg3 arg4 arg5 arg6 arg7 arg8 arg9 arg12 arg13 x0 x1 x2 x3 x4 x5 (part1D i hc x0 x1 x2 x3 x4 x5 D) (part1A x0 x1 x2 x3 x4 x5 A) (part1B x0 x1 x2 x3 x4 x5 B) ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E (part1P i arg3 harg3 arg4 harg4 arg5 harg5 arg6 harg6 arg7 harg7 arg8 harg8 arg9 harg9 arg10 harg10 arg11 harg11 arg12 harg12 arg13 harg13 jp) K := by
  rw [part1P_eq, dif_pos hc]
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  refine frontL_run (harg3 := harg3) (harg4 := harg4) (harg5 := harg5) (harg6 := harg6) (harg7 := harg7) (harg8 := harg8) (harg9 := harg9) (harg12 := harg12) (harg13 := harg13) _ _ c _ _ _ _ _ _ _ _ _ _ _ _ _ _ _ _ _ _ E K R _ ?_
  refine backL_run (harg3 := harg3) (harg4 := harg4) (harg5 := harg5) (harg6 := harg6) (harg7 := harg7) (harg8 := harg8) (harg9 := harg9) (harg12 := harg12) (harg13 := harg13) _ _ _ c _ _ _ _ _ _ _ _ _ _ _ _ _ _ _ _ _ _ _ _ E K R _ ?_
  exact h

theorem zeroDq_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (E : Set ℕ) (K : Unit → sProp 𝕄) (R : sProp 𝕄) (jp : Unit → Prog (TpuEff nD τ sig (Elt F) Λ₀ .tc) PUnit) (hc : k0_cond1 i = 1#1)
    (h : iprop(Hold c arg3 arg4 arg5 arg6 arg7 arg8 arg9 arg12 arg13 x0 x1 x2 x3 x4 x5 (k0_pay1 (F := F)) A B ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E (zeroDq i arg3 harg3 arg4 harg4 arg5 harg5 arg6 harg6 arg7 harg7 arg8 harg8 arg9 harg9 arg10 harg10 arg11 harg11 arg12 harg12 arg13 harg13 jp) K := by
  unfold zeroDq
  refine BIBase.Entails.trans ?_ (?_ : iprop(Hold c arg3 arg4 arg5 arg6 arg7 arg8 arg9 arg12 arg13 x0 x1 x2 x3 x4 x5 D A B ∗ R ∗ (iprop(Hold c arg3 arg4 arg5 arg6 arg7 arg8 arg9 arg12 arg13 x0 x1 x2 x3 x4 x5 (k0_pay1 (F := F)) A B ∗ R) -∗ wp frame (wpE (defs₀ (F := F)) Variants.none c none) E (jp ⟨⟩) K)) ⊢ _)
  · iintro ⟨H, HR⟩
    isplitl [H]; · iexact H
    isplitl [HR]; · iexact HR
    iintro H2
    iapply h
    iexact H2
  unfold Hold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, HR, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf7; obtain rfl := harg13.eq_unread hf8
  sl_exec (disch := first | sl_exact hc)
  iapply Hk
  isplitr [HR]
  · skip
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact View.read_writes_full _ _ _ _ _
    isplitl [H7]
    · iexists _; isplitr; swap; · iexact H7
      ipureintro; exact harg12.read_unread _
    · iexists _; isplitr; swap; · iexact H8
      ipureintro; exact harg13.read_unread _
  iexact HR

/-- The accumulators are set to zero at the first query tile. -/
def accCond (i : grid0.Coords) : BitVec 1 := Scalar.cmpi .ne (Scalar.extui (Scalar.cmpi .eq (BitVec.ofNat 32 (i 2).val) 0#32) : BitVec 32) 0#32

theorem zeroAcc_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (E : Set ℕ) (K : Unit → sProp 𝕄) (R : sProp 𝕄) (jp : Unit → Prog (TpuEff nD τ sig (Elt F) Λ₀ .tc) PUnit) (hc : accCond i = 1#1)
    (h : iprop(Hold c arg3 arg4 arg5 arg6 arg7 arg8 arg9 arg12 arg13 x0 x1 x2 x3 x4 x5 D (k0_pay2 (F := F)) (k0_pay3 (F := F)) ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ R) ⊢ wp frame (wpE (defs₀ (F := F)) Variants.none c none) E (zeroAcc i arg3 harg3 arg4 harg4 arg5 harg5 arg6 harg6 arg7 harg7 arg8 harg8 arg9 harg9 arg10 harg10 arg11 harg11 arg12 harg12 arg13 harg13 jp) K := by
  unfold accCond at hc
  unfold zeroAcc
  refine BIBase.Entails.trans ?_ (?_ : iprop(Hold c arg3 arg4 arg5 arg6 arg7 arg8 arg9 arg12 arg13 x0 x1 x2 x3 x4 x5 D A B ∗ R ∗ (iprop(Hold c arg3 arg4 arg5 arg6 arg7 arg8 arg9 arg12 arg13 x0 x1 x2 x3 x4 x5 D (k0_pay2 (F := F)) (k0_pay3 (F := F)) ∗ R) -∗ wp frame (wpE (defs₀ (F := F)) Variants.none c none) E (jp ⟨⟩) K)) ⊢ _)
  · iintro ⟨H, HR⟩
    isplitl [H]; · iexact H
    isplitl [HR]; · iexact HR
    iintro H2
    iapply h
    iexact H2
  unfold Hold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, HR, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf7; obtain rfl := harg13.eq_unread hf8
  sl_exec (disch := first | sl_exact hc)
  iapply Hk
  isplitr [HR]
  · skip
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact View.read_writes_full _ _ _ _ _
    · iexists _; isplitr; swap; · iexact H8
      ipureintro; exact View.read_writes_full _ _ _ _ _
  iexact HR

theorem writeP_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (d10 : Vec F S1024x256 .f32) (d11 : Vec F S1024x128 .f32) (E : Set ℕ) (K : Unit → sProp 𝕄) (R : sProp 𝕄) (jp : Unit → Prog (TpuEff nD τ sig (Elt F) Λ₀ .tc) PUnit) (hc : k0_cond6 i = 1#1)
    (h : iprop(Hold c arg3 arg4 arg5 arg6 arg7 arg8 arg9 arg12 arg13 x0 x1 x2 x3 x4 x5 D A B ∗ owns (c : Thread nD τ) arg10 fullShare A ∗ owns (c : Thread nD τ) arg11 fullShare B ∗ R) ⊢ wp frame (wpE (defs₀ (F := F)) Variants.none c none) E (jp ⟨⟩) K) :
    iprop(Hold c arg3 arg4 arg5 arg6 arg7 arg8 arg9 arg12 arg13 x0 x1 x2 x3 x4 x5 D A B ∗ owns (c : Thread nD τ) arg10 fullShare d10 ∗ owns (c : Thread nD τ) arg11 fullShare d11 ∗ R) ⊢ wp frame (wpE (defs₀ (F := F)) Variants.none c none) E (writeP i arg3 harg3 arg4 harg4 arg5 harg5 arg6 harg6 arg7 harg7 arg8 harg8 arg9 harg9 arg10 harg10 arg11 harg11 arg12 harg12 arg13 harg13 jp) K := by
  unfold writeP
  refine BIBase.Entails.trans ?_ (?_ : iprop(Hold c arg3 arg4 arg5 arg6 arg7 arg8 arg9 arg12 arg13 x0 x1 x2 x3 x4 x5 D A B ∗ owns (c : Thread nD τ) arg10 fullShare d10 ∗ owns (c : Thread nD τ) arg11 fullShare d11 ∗ R ∗ (iprop(Hold c arg3 arg4 arg5 arg6 arg7 arg8 arg9 arg12 arg13 x0 x1 x2 x3 x4 x5 D A B ∗ owns (c : Thread nD τ) arg10 fullShare A ∗ owns (c : Thread nD τ) arg11 fullShare B ∗ R) -∗ wp frame (wpE (defs₀ (F := F)) Variants.none c none) E (jp ⟨⟩) K)) ⊢ _)
  · iintro ⟨H, H10, H11, HR⟩
    isplitl [H]; · iexact H
    isplitl [H10]; · iexact H10
    isplitl [H11]; · iexact H11
    isplitl [HR]; · iexact HR
    iintro H2
    iapply h
    iexact H2
  unfold Hold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f10, %hf10, H10⟩, ⟨%f11, %hf11, H11⟩, HR, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf7; obtain rfl := harg13.eq_unread hf8; obtain rfl := harg10.eq_unread hf10; obtain rfl := harg11.eq_unread hf11
  sl_exec (disch := first | sl_exact hc)
  iapply Hk
  isplitl [H0 H1 H2 H3 H4 H5 H6 H7 H8]
  · skip
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg12.read_unread _
    · iexists _; isplitr; swap; · iexact H8
      ipureintro; exact harg13.read_unread _
  isplitl [H10]
  · iexists _; isplitr; swap; · iexact H10
    ipureintro
    rw [View.read_writes_full]
    exact (View.readAt_full _ _ _).trans (harg12.read_unread _)
  isplitl [H11]
  · iexists _; isplitr; swap; · iexact H11
    ipureintro
    rw [View.read_writes_full]
    exact (View.readAt_full _ _ _).trans (harg13.read_unread _)
  iexact HR

/-- The queries' gradient after one point of the grid. -/
def bodyD (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) : Vec F S8192x256 .f32 :=
  let D1 : Vec F S8192x256 .f32 := if k0_cond1 i = 1#1 then k0_pay1 (F := F) else D
  let D2 : Vec F S8192x256 .f32 := if h : k0_cond3 i = 1#1 then wholeD i h x0 x1 x2 x3 x4 x5 D1 else D1
  let D3 : Vec F S8192x256 .f32 := if h : k0_cond4 i = 1#1 then part0D i h x0 x1 x2 x3 x4 x5 D2 else D2
  if h : k0_cond5 i = 1#1 then part1D i h x0 x1 x2 x3 x4 x5 D3 else D3
/-- The keys' accumulator after one point of the grid. -/
def bodyA (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (A : Vec F S1024x256 .f32) : Vec F S1024x256 .f32 :=
  let A1 : Vec F S1024x256 .f32 := if accCond i = 1#1 then k0_pay2 (F := F) else A
  let A2 : Vec F S1024x256 .f32 := if k0_cond3 i = 1#1 then wholeA x0 x1 x2 x3 x4 x5 A1 else A1
  let A3 : Vec F S1024x256 .f32 := if k0_cond4 i = 1#1 then part0A x0 x1 x2 x3 x4 x5 A2 else A2
  if k0_cond5 i = 1#1 then part1A x0 x1 x2 x3 x4 x5 A3 else A3
/-- The values' accumulator after one point of the grid. -/
def bodyB (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (B : Vec F S1024x128 .f32) : Vec F S1024x128 .f32 :=
  let B1 : Vec F S1024x128 .f32 := if accCond i = 1#1 then k0_pay3 (F := F) else B
  let B2 : Vec F S1024x128 .f32 := if k0_cond3 i = 1#1 then wholeB x0 x1 x2 x3 x4 x5 B1 else B1
  let B3 : Vec F S1024x128 .f32 := if k0_cond4 i = 1#1 then part0B x0 x1 x2 x3 x4 x5 B2 else B2
  if k0_cond5 i = 1#1 then part1B x0 x1 x2 x3 x4 x5 B3 else B3

/-- One point of the grid, from the buffers it is given to the buffers it leaves. -/
theorem body_run (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32) (A : Vec F S1024x256 .f32) (B : Vec F S1024x128 .f32) (d10 : Vec F S1024x256 .f32) (d11 : Vec F S1024x128 .f32) (E : Set ℕ) (K : Unit → sProp 𝕄) (R : sProp 𝕄)
    (h : iprop(Hold c arg3 arg4 arg5 arg6 arg7 arg8 arg9 arg12 arg13 x0 x1 x2 x3 x4 x5 (bodyD i x0 x1 x2 x3 x4 x5 D) (bodyA i x0 x1 x2 x3 x4 x5 A) (bodyB i x0 x1 x2 x3 x4 x5 B)
      ∗ owns (c : Thread nD τ) arg10 fullShare (if k0_cond6 i = 1#1 then bodyA i x0 x1 x2 x3 x4 x5 A else d10) ∗ owns (c : Thread nD τ) arg11 fullShare (if k0_cond6 i = 1#1 then bodyB i x0 x1 x2 x3 x4 x5 B else d11) ∗ R) ⊢ K ⟨⟩) :
    iprop(Hold c arg3 arg4 arg5 arg6 arg7 arg8 arg9 arg12 arg13 x0 x1 x2 x3 x4 x5 D A B ∗ owns (c : Thread nD τ) arg10 fullShare d10 ∗ owns (c : Thread nD τ) arg11 fullShare d11 ∗ R) ⊢ wp frame (wpE (defs₀ (F := F)) Variants.none c none) E (cc0_attn_bwd (F := F) i arg3 harg3 arg4 harg4 arg5 harg5 arg6 harg6 arg7 harg7 arg8 harg8 arg9 harg9 arg10 harg10 arg11 harg11 arg12 harg12 arg13 harg13) K := by
  rw [body_eq]
  have s1 : ∀ (jp : Unit → Prog (TpuEff nD τ sig (Elt F) Λ₀ .tc) PUnit) (R : sProp 𝕄), (iprop(Hold c arg3 arg4 arg5 arg6 arg7 arg8 arg9 arg12 arg13 x0 x1 x2 x3 x4 x5 (if k0_cond1 i = 1#1 then k0_pay1 (F := F) else D) A B ∗ R) ⊢ wp frame (wpE (defs₀ (F := F)) Variants.none c none) E (jp ⟨⟩) K) →
      (iprop(Hold c arg3 arg4 arg5 arg6 arg7 arg8 arg9 arg12 arg13 x0 x1 x2 x3 x4 x5 D A B ∗ R) ⊢ wp frame (wpE (defs₀ (F := F)) Variants.none c none) E (zeroDq i arg3 harg3 arg4 harg4 arg5 harg5 arg6 harg6 arg7 harg7 arg8 harg8 arg9 harg9 arg10 harg10 arg11 harg11 arg12 harg12 arg13 harg13 jp) K) := by
    intro jp R h
    by_cases hc : k0_cond1 i = 1#1
    · rw [if_pos hc] at h; exact zeroDq_run c i arg3 harg3 arg4 harg4 arg5 harg5 arg6 harg6 arg7 harg7 arg8 harg8 arg9 harg9 arg10 harg10 arg11 harg11 arg12 harg12 arg13 harg13 x0 x1 x2 x3 x4 x5 D A B E K R jp hc h
    · rw [if_neg hc] at h; unfold zeroDq; rw [dif_neg hc]; exact h
  have s2 : ∀ (jp : Unit → Prog (TpuEff nD τ sig (Elt F) Λ₀ .tc) PUnit) (R : sProp 𝕄) D A B, (iprop(Hold c arg3 arg4 arg5 arg6 arg7 arg8 arg9 arg12 arg13 x0 x1 x2 x3 x4 x5 D (if accCond i = 1#1 then k0_pay2 (F := F) else A) (if accCond i = 1#1 then k0_pay3 (F := F) else B) ∗ R) ⊢ wp frame (wpE (defs₀ (F := F)) Variants.none c none) E (jp ⟨⟩) K) →
      (iprop(Hold c arg3 arg4 arg5 arg6 arg7 arg8 arg9 arg12 arg13 x0 x1 x2 x3 x4 x5 D A B ∗ R) ⊢ wp frame (wpE (defs₀ (F := F)) Variants.none c none) E (zeroAcc i arg3 harg3 arg4 harg4 arg5 harg5 arg6 harg6 arg7 harg7 arg8 harg8 arg9 harg9 arg10 harg10 arg11 harg11 arg12 harg12 arg13 harg13 jp) K) := by
    intro jp R D A B h
    by_cases hc : accCond i = 1#1
    · rw [if_pos hc, if_pos hc] at h; exact zeroAcc_run c i arg3 harg3 arg4 harg4 arg5 harg5 arg6 harg6 arg7 harg7 arg8 harg8 arg9 harg9 arg10 harg10 arg11 harg11 arg12 harg12 arg13 harg13 x0 x1 x2 x3 x4 x5 D A B E K R jp hc h
    · rw [if_neg hc, if_neg hc] at h; unfold zeroAcc; unfold accCond at hc; dsimp only; rw [dif_neg hc]; exact h
  have s3 : ∀ (jp : Unit → Prog (TpuEff nD τ sig (Elt F) Λ₀ .tc) PUnit) (R : sProp 𝕄) D A B, (iprop(Hold c arg3 arg4 arg5 arg6 arg7 arg8 arg9 arg12 arg13 x0 x1 x2 x3 x4 x5 (if h : k0_cond3 i = 1#1 then wholeD i h x0 x1 x2 x3 x4 x5 D else D) (if k0_cond3 i = 1#1 then wholeA x0 x1 x2 x3 x4 x5 A else A) (if k0_cond3 i = 1#1 then wholeB x0 x1 x2 x3 x4 x5 B else B) ∗ R) ⊢ wp frame (wpE (defs₀ (F := F)) Variants.none c none) E (jp ⟨⟩) K) →
      (iprop(Hold c arg3 arg4 arg5 arg6 arg7 arg8 arg9 arg12 arg13 x0 x1 x2 x3 x4 x5 D A B ∗ R) ⊢ wp frame (wpE (defs₀ (F := F)) Variants.none c none) E (wholeP i arg3 harg3 arg4 harg4 arg5 harg5 arg6 harg6 arg7 harg7 arg8 harg8 arg9 harg9 arg10 harg10 arg11 harg11 arg12 harg12 arg13 harg13 jp) K) := by
    intro jp R D A B h
    by_cases hc : k0_cond3 i = 1#1
    · rw [dif_pos hc, if_pos hc, if_pos hc] at h; exact wholeP_run c i arg3 harg3 arg4 harg4 arg5 harg5 arg6 harg6 arg7 harg7 arg8 harg8 arg9 harg9 arg10 harg10 arg11 harg11 arg12 harg12 arg13 harg13 x0 x1 x2 x3 x4 x5 D A B E K R jp hc h
    · rw [dif_neg hc, if_neg hc, if_neg hc] at h; rw [wholeP_eq, dif_neg hc]; exact h
  have s4 : ∀ (jp : Unit → Prog (TpuEff nD τ sig (Elt F) Λ₀ .tc) PUnit) (R : sProp 𝕄) D A B, (iprop(Hold c arg3 arg4 arg5 arg6 arg7 arg8 arg9 arg12 arg13 x0 x1 x2 x3 x4 x5 (if h : k0_cond4 i = 1#1 then part0D i h x0 x1 x2 x3 x4 x5 D else D) (if k0_cond4 i = 1#1 then part0A x0 x1 x2 x3 x4 x5 A else A) (if k0_cond4 i = 1#1 then part0B x0 x1 x2 x3 x4 x5 B else B) ∗ R) ⊢ wp frame (wpE (defs₀ (F := F)) Variants.none c none) E (jp ⟨⟩) K) →
      (iprop(Hold c arg3 arg4 arg5 arg6 arg7 arg8 arg9 arg12 arg13 x0 x1 x2 x3 x4 x5 D A B ∗ R) ⊢ wp frame (wpE (defs₀ (F := F)) Variants.none c none) E (part0P i arg3 harg3 arg4 harg4 arg5 harg5 arg6 harg6 arg7 harg7 arg8 harg8 arg9 harg9 arg10 harg10 arg11 harg11 arg12 harg12 arg13 harg13 jp) K) := by
    intro jp R D A B h
    by_cases hc : k0_cond4 i = 1#1
    · rw [dif_pos hc, if_pos hc, if_pos hc] at h; exact part0P_run c i arg3 harg3 arg4 harg4 arg5 harg5 arg6 harg6 arg7 harg7 arg8 harg8 arg9 harg9 arg10 harg10 arg11 harg11 arg12 harg12 arg13 harg13 x0 x1 x2 x3 x4 x5 D A B E K R jp hc h
    · rw [dif_neg hc, if_neg hc, if_neg hc] at h; rw [part0P_eq, dif_neg hc]; exact h
  have s5 : ∀ (jp : Unit → Prog (TpuEff nD τ sig (Elt F) Λ₀ .tc) PUnit) (R : sProp 𝕄) D A B, (iprop(Hold c arg3 arg4 arg5 arg6 arg7 arg8 arg9 arg12 arg13 x0 x1 x2 x3 x4 x5 (if h : k0_cond5 i = 1#1 then part1D i h x0 x1 x2 x3 x4 x5 D else D) (if k0_cond5 i = 1#1 then part1A x0 x1 x2 x3 x4 x5 A else A) (if k0_cond5 i = 1#1 then part1B x0 x1 x2 x3 x4 x5 B else B) ∗ R) ⊢ wp frame (wpE (defs₀ (F := F)) Variants.none c none) E (jp ⟨⟩) K) →
      (iprop(Hold c arg3 arg4 arg5 arg6 arg7 arg8 arg9 arg12 arg13 x0 x1 x2 x3 x4 x5 D A B ∗ R) ⊢ wp frame (wpE (defs₀ (F := F)) Variants.none c none) E (part1P i arg3 harg3 arg4 harg4 arg5 harg5 arg6 harg6 arg7 harg7 arg8 harg8 arg9 harg9 arg10 harg10 arg11 harg11 arg12 harg12 arg13 harg13 jp) K) := by
    intro jp R D A B h
    by_cases hc : k0_cond5 i = 1#1
    · rw [dif_pos hc, if_pos hc, if_pos hc] at h; exact part1P_run c i arg3 harg3 arg4 harg4 arg5 harg5 arg6 harg6 arg7 harg7 arg8 harg8 arg9 harg9 arg10 harg10 arg11 harg11 arg12 harg12 arg13 harg13 x0 x1 x2 x3 x4 x5 D A B E K R jp hc h
    · rw [dif_neg hc, if_neg hc, if_neg hc] at h; rw [part1P_eq, dif_neg hc]; exact h
  refine s1 _ _ ?_
  refine s2 _ _ _ _ _ ?_
  refine s3 _ _ _ _ _ ?_
  refine s4 _ _ _ _ _ ?_
  refine s5 _ _ _ _ _ ?_
  have hf : ∀ d10 d11, (iprop(Hold c arg3 arg4 arg5 arg6 arg7 arg8 arg9 arg12 arg13 x0 x1 x2 x3 x4 x5 (bodyD i x0 x1 x2 x3 x4 x5 D) (bodyA i x0 x1 x2 x3 x4 x5 A) (bodyB i x0 x1 x2 x3 x4 x5 B)
      ∗ owns (c : Thread nD τ) arg10 fullShare d10 ∗ owns (c : Thread nD τ) arg11 fullShare d11 ∗ R) ⊢ K ⟨⟩) → (iprop(Hold c arg3 arg4 arg5 arg6 arg7 arg8 arg9 arg12 arg13 x0 x1 x2 x3 x4 x5 (bodyD i x0 x1 x2 x3 x4 x5 D) (bodyA i x0 x1 x2 x3 x4 x5 A) (bodyB i x0 x1 x2 x3 x4 x5 B)
      ∗ owns (c : Thread nD τ) arg10 fullShare d10 ∗ owns (c : Thread nD τ) arg11 fullShare d11 ∗ R) ⊢ wp frame (wpE (defs₀ (F := F)) Variants.none c none) E (pure ⟨⟩) K) := by
    intro d10 d11 h
    rw [wp_pure]
    iintro H
    imodintro
    iapply h
    iexact H
  by_cases hc : k0_cond6 i = 1#1
  · rw [if_pos hc, if_pos hc] at h
    exact writeP_run c i arg3 harg3 arg4 harg4 arg5 harg5 arg6 harg6 arg7 harg7 arg8 harg8 arg9 harg9 arg10 harg10 arg11 harg11 arg12 harg12 arg13 harg13 x0 x1 x2 x3 x4 x5 _ _ _ d10 d11 E K R _ hc (hf _ _ h)
  · rw [if_neg hc, if_neg hc] at h
    unfold writeP; rw [dif_neg hc]
    exact hf _ _ h

end Cert.KernelIdeal.Gen
-- ==== Proof.Launch.lean ====
module

public import proofs.«01_k».proof.Proof.BodyRun
public import Idealize.ShloMosaic.Lib.Claim
public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## When each part of the body runs -/

theorem pt_lt (t : Fin cfg0.N) : t.val < 128 := lt_of_lt_of_eq t.isLt (show cfg0.N = 128 from N_0)

theorem co0 (t : Fin cfg0.N) : (grid0.coords t 0).val = t.val / 32 := by
  have h := pt_lt t
  exact (Pipeline.Grid.coords_val t 0 (by decide) rfl : (grid0.coords t 0).val = t.val / 32 % 4).trans (by omega)
theorem co1 (t : Fin cfg0.N) : (grid0.coords t 1).val = t.val / 4 % 8 := Pipeline.Grid.coords_val t 1 (by decide) rfl
theorem co2 (t : Fin cfg0.N) : (grid0.coords t 2).val = t.val % 4 := by
  have h : (grid0.coords t 2).val = t.val / 1 % 4 := Pipeline.Grid.coords_val t 2 (by decide) rfl
  rw [h, Nat.div_one]

theorem on1 : ∀ t : Fin cfg0.N, k0_cond1 (grid0.coords t) = 1#1 ↔ t.val % 32 = 0 :=
  (by decide +kernel : ∀ t : Fin grid0.N, k0_cond1 (grid0.coords t) = 1#1 ↔ t.val % 32 = 0)
theorem onA : ∀ t : Fin cfg0.N, accCond (grid0.coords t) = 1#1 ↔ t.val % 4 = 0 :=
  (by decide +kernel : ∀ t : Fin grid0.N, accCond (grid0.coords t) = 1#1 ↔ t.val % 4 = 0)
theorem on3 : ∀ t : Fin cfg0.N, k0_cond3 (grid0.coords t) = 1#1 ↔ t.val / 4 % 8 + 1 ≤ 2 * (t.val % 4) :=
  (by decide +kernel : ∀ t : Fin grid0.N, k0_cond3 (grid0.coords t) = 1#1 ↔ t.val / 4 % 8 + 1 ≤ 2 * (t.val % 4))
theorem on4 : ∀ t : Fin cfg0.N, k0_cond4 (grid0.coords t) = 1#1 ↔ t.val / 4 % 8 = 2 * (t.val % 4) :=
  (by decide +kernel : ∀ t : Fin grid0.N, k0_cond4 (grid0.coords t) = 1#1 ↔ t.val / 4 % 8 = 2 * (t.val % 4))
theorem on5 : ∀ t : Fin cfg0.N, k0_cond5 (grid0.coords t) = 1#1 ↔ t.val / 4 % 8 = 2 * (t.val % 4) + 1 :=
  (by decide +kernel : ∀ t : Fin grid0.N, k0_cond5 (grid0.coords t) = 1#1 ↔ t.val / 4 % 8 = 2 * (t.val % 4) + 1)
theorem on6 : ∀ t : Fin cfg0.N, k0_cond6 (grid0.coords t) = 1#1 ↔ t.val % 4 = 3 :=
  (by decide +kernel : ∀ t : Fin grid0.N, k0_cond6 (grid0.coords t) = 1#1 ↔ t.val % 4 = 3)

/-- Whether the queries' result is stored into at a point. -/
theorem idle6 (t : Fin cfg0.N) : cfg0.idle 6 (grid0.coords t) = true ↔
    ¬ k0_cond1 (grid0.coords t) = 1#1 ∧ ¬ k0_cond3 (grid0.coords t) = 1#1 ∧ ¬ k0_cond4 (grid0.coords t) = 1#1 ∧ ¬ k0_cond5 (grid0.coords t) = 1#1 := by
  show (!(k0_cond1 (grid0.coords t) == 1#1) && !(k0_cond3 (grid0.coords t) == 1#1) && !(k0_cond4 (grid0.coords t) == 1#1) && !(k0_cond5 (grid0.coords t) == 1#1)) = true ↔ _
  simp only [Bool.and_eq_true, Bool.not_eq_true', beq_eq_false_iff_ne, ne_eq, and_assoc]
theorem idle7 (t : Fin cfg0.N) : cfg0.idle 7 (grid0.coords t) = true ↔ ¬ k0_cond6 (grid0.coords t) = 1#1 := by
  show (!(k0_cond6 (grid0.coords t) == 1#1)) = true ↔ _
  simp only [Bool.not_eq_true', beq_eq_false_iff_ne, ne_eq]
theorem idle8 (t : Fin cfg0.N) : cfg0.idle 8 (grid0.coords t) = true ↔ ¬ k0_cond6 (grid0.coords t) = 1#1 := by
  show (!(k0_cond6 (grid0.coords t) == 1#1)) = true ↔ _
  simp only [Bool.not_eq_true', beq_eq_false_iff_ne, ne_eq]

/-! ## What the buffers hold after each point -/

/-- The queries' result after point `n`. -/
def stD (c : Dev nD) : (n : ℕ) → n < cfg0.N → Vec F S8192x256 .f32
  | 0, hn => bodyD (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay1 (F := F))
  | n + 1, hn => bodyD (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stD c n (Nat.lt_of_succ_lt hn))
/-- The keys' accumulator after point `n`. -/
def stA (c : Dev nD) : (n : ℕ) → n < cfg0.N → Vec F S1024x256 .f32
  | 0, hn => bodyA (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay2 (F := F))
  | n + 1, hn => bodyA (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stA c n (Nat.lt_of_succ_lt hn))
/-- The values' accumulator after point `n`. -/
def stB (c : Dev nD) : (n : ℕ) → n < cfg0.N → Vec F S1024x128 .f32
  | 0, hn => bodyB (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay3 (F := F))
  | n + 1, hn => bodyB (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (stB c n (Nat.lt_of_succ_lt hn))

theorem bodyD_reset (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (D D' : Vec F S8192x256 .f32)
    (h : k0_cond1 i = 1#1) : bodyD i x0 x1 x2 x3 x4 x5 D = bodyD i x0 x1 x2 x3 x4 x5 D' := by
  unfold bodyD; rw [if_pos h, if_pos h]
theorem bodyA_reset (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (D D' : Vec F S1024x256 .f32)
    (h : accCond i = 1#1) : bodyA i x0 x1 x2 x3 x4 x5 D = bodyA i x0 x1 x2 x3 x4 x5 D' := by
  unfold bodyA; rw [if_pos h, if_pos h]
theorem bodyB_reset (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (D D' : Vec F S1024x128 .f32)
    (h : accCond i = 1#1) : bodyB i x0 x1 x2 x3 x4 x5 D = bodyB i x0 x1 x2 x3 x4 x5 D' := by
  unfold bodyB; rw [if_pos h, if_pos h]
/-- A point that stores nothing into the queries' result leaves it. -/
theorem bodyD_none (i : grid0.Coords) (x0 : Vec F S2048x256 .bf16) (x1 : Vec F S1024x256 .bf16) (x2 : Vec F S1024x128 .bf16) (x3 : Vec F S2048x128 .f32) (x4 : Vec F S1x2048x1 .f32) (x5 : Vec F S2048x128 .f32) (D : Vec F S8192x256 .f32)
    (h1 : ¬ k0_cond1 i = 1#1) (h3 : ¬ k0_cond3 i = 1#1) (h4 : ¬ k0_cond4 i = 1#1) (h5 : ¬ k0_cond5 i = 1#1) : bodyD i x0 x1 x2 x3 x4 x5 D = D := by
  unfold bodyD; dsimp only; rw [if_neg h1, dif_neg h3, dif_neg h4, dif_neg h5]

/-- What the point before left in a carried buffer, or anything before the first point. -/
theorem stD_pos (c : Dev nD) (t : Fin cfg0.N) (ht : t.val ≠ 0) :
    stD m c t.val t.isLt = bodyD (grid0.coords t) (iblk m c 0 t) (iblk m c 1 t) (iblk m c 2 t) (iblk m c 3 t) (iblk m c 4 t) (iblk m c 5 t) (stD m c (t.val - 1) (lt_of_le_of_lt (Nat.sub_le _ _) t.isLt)) := by
  obtain ⟨n, hn⟩ := t; cases n with
  | zero => exact absurd rfl ht
  | succ n => rfl
theorem stA_pos (c : Dev nD) (t : Fin cfg0.N) (ht : t.val ≠ 0) :
    stA m c t.val t.isLt = bodyA (grid0.coords t) (iblk m c 0 t) (iblk m c 1 t) (iblk m c 2 t) (iblk m c 3 t) (iblk m c 4 t) (iblk m c 5 t) (stA m c (t.val - 1) (lt_of_le_of_lt (Nat.sub_le _ _) t.isLt)) := by
  obtain ⟨n, hn⟩ := t; cases n with
  | zero => exact absurd rfl ht
  | succ n => rfl
theorem stB_pos (c : Dev nD) (t : Fin cfg0.N) (ht : t.val ≠ 0) :
    stB m c t.val t.isLt = bodyB (grid0.coords t) (iblk m c 0 t) (iblk m c 1 t) (iblk m c 2 t) (iblk m c 3 t) (iblk m c 4 t) (iblk m c 5 t) (stB m c (t.val - 1) (lt_of_le_of_lt (Nat.sub_le _ _) t.isLt)) := by
  obtain ⟨n, hn⟩ := t; cases n with
  | zero => exact absurd rfl ht
  | succ n => rfl
/-- At a point that starts afresh the earlier contents do not matter. -/
theorem stD_fresh (c : Dev nD) (t : Fin cfg0.N) (ht : t.val % 32 = 0) (D : Vec F S8192x256 .f32) :
    stD m c t.val t.isLt = bodyD (grid0.coords t) (iblk m c 0 t) (iblk m c 1 t) (iblk m c 2 t) (iblk m c 3 t) (iblk m c 4 t) (iblk m c 5 t) D := by
  by_cases h : t.val = 0
  · obtain ⟨n, hn⟩ := t; subst h; exact bodyD_reset _ _ _ _ _ _ _ _ _ ((on1 ⟨0, hn⟩).mpr rfl)
  · rw [stD_pos m c t h]; exact bodyD_reset _ _ _ _ _ _ _ _ _ ((on1 t).mpr ht)
theorem stA_fresh (c : Dev nD) (t : Fin cfg0.N) (ht : t.val % 4 = 0) (D : Vec F S1024x256 .f32) :
    stA m c t.val t.isLt = bodyA (grid0.coords t) (iblk m c 0 t) (iblk m c 1 t) (iblk m c 2 t) (iblk m c 3 t) (iblk m c 4 t) (iblk m c 5 t) D := by
  by_cases h : t.val = 0
  · obtain ⟨n, hn⟩ := t; subst h; exact bodyA_reset _ _ _ _ _ _ _ _ _ ((onA ⟨0, hn⟩).mpr rfl)
  · rw [stA_pos m c t h]; exact bodyA_reset _ _ _ _ _ _ _ _ _ ((onA t).mpr ht)
theorem stB_fresh (c : Dev nD) (t : Fin cfg0.N) (ht : t.val % 4 = 0) (D : Vec F S1024x128 .f32) :
    stB m c t.val t.isLt = bodyB (grid0.coords t) (iblk m c 0 t) (iblk m c 1 t) (iblk m c 2 t) (iblk m c 3 t) (iblk m c 4 t) (iblk m c 5 t) D := by
  by_cases h : t.val = 0
  · obtain ⟨n, hn⟩ := t; subst h; exact bodyB_reset _ _ _ _ _ _ _ _ _ ((onA ⟨0, hn⟩).mpr rfl)
  · rw [stB_pos m c t h]; exact bodyB_reset _ _ _ _ _ _ _ _ _ ((onA t).mpr ht)

/-! ## The region's proof data -/

/-- The scratch accumulators as memrefs. -/
abbrev accA : Memref sig .tc .vmem S1024x256 .f32 := Memref.whole cc0_scratch0
abbrev accB : Memref sig .tc .vmem S1024x128 .f32 := Memref.whole cc0_scratch1

/-- Between points: the accumulators at what the point before left, the generator's register at some state. -/
def between (c : Dev nD) : (n : ℕ) → n ≤ cfg0.N → sProp 𝕄
  | 0, _ => Pipeline.ΦA spec0 c
  | n + 1, hn => iprop((owns (c : Thread nD τ) accA fullShare (stA m c n hn) ∗ owns (c : Thread nD τ) accB fullShare (stB m c n hn)) ∗ (∃ r, prngReg c r))

theorem between_pos (c : Dev nD) (n : ℕ) (h : n ≤ cfg0.N) (hz : n ≠ 0) :
    between m c n h = iprop((owns (c : Thread nD τ) accA fullShare (stA m c (n - 1) (by omega)) ∗ owns (c : Thread nD τ) accB fullShare (stB m c (n - 1) (by omega))) ∗ (∃ r, prngReg c r)) := by
  cases n with
  | zero => exact absurd rfl hz
  | succ n => rfl

theorem start_eq (c : Dev nD) :
    (Pipeline.ΦA spec0 c : sProp 𝕄)
      = iprop(((∃ d, owns (c : Thread nD τ) accA fullShare d) ∗ (∃ d, owns (c : Thread nD τ) accB fullShare d)) ∗ (∃ r, prngReg c r)) := by
  unfold Pipeline.ΦA; rw [scopedRest0_eq]; simp only [accA, accB, owns_whole]; try rfl

/-- Every input's buffer holds its block after the body; the three results hold what the recursion above says. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stD m c t.val t.isLt
    | ⟨7, _⟩ => stA m c t.val t.isLt
    | ⟨8, _⟩ => stB m c t.val t.isLt
  Φ t := between m c t.val (Nat.le_of_lt_succ t.isLt)
  q _ := fullShare
  owed _ := 0

theorem pdat_A (c : Dev nD) (w : Fin cfg0.W) : (pdat m 0 c).A w = V m c (Pipeline.arrRef spec0 w) := by
  dsimp only [pdat]
theorem aft0 (c : Dev nD) (t : Fin cfg0.N) : (pdat m 0 c).after 0 t = iblk m c 0 t := by dsimp only [pdat]
theorem aft1 (c : Dev nD) (t : Fin cfg0.N) : (pdat m 0 c).after 1 t = iblk m c 1 t := by dsimp only [pdat]
theorem aft2 (c : Dev nD) (t : Fin cfg0.N) : (pdat m 0 c).after 2 t = iblk m c 2 t := by dsimp only [pdat]
theorem aft3 (c : Dev nD) (t : Fin cfg0.N) : (pdat m 0 c).after 3 t = iblk m c 3 t := by dsimp only [pdat]
theorem aft4 (c : Dev nD) (t : Fin cfg0.N) : (pdat m 0 c).after 4 t = iblk m c 4 t := by dsimp only [pdat]
theorem aft5 (c : Dev nD) (t : Fin cfg0.N) : (pdat m 0 c).after 5 t = iblk m c 5 t := by dsimp only [pdat]
theorem aft6 (c : Dev nD) (t : Fin cfg0.N) : (pdat m 0 c).after 6 t = stD m c t.val t.isLt := by dsimp only [pdat]
theorem aft7 (c : Dev nD) (t : Fin cfg0.N) : (pdat m 0 c).after 7 t = stA m c t.val t.isLt := by dsimp only [pdat]
theorem aft8 (c : Dev nD) (t : Fin cfg0.N) : (pdat m 0 c).after 8 t = stB m c t.val t.isLt := by dsimp only [pdat]
theorem bef0 (c : Dev nD) (t : Fin cfg0.N) (d) : (pdat m 0 c).before 0 t d = iblk m c 0 t :=
  before0_0_of m (pdat m 0 c) (pdat_A m c 0) (aft0 m c) t d
theorem bef1 (c : Dev nD) (t : Fin cfg0.N) (d) : (pdat m 0 c).before 1 t d = iblk m c 1 t :=
  before0_1_of m (pdat m 0 c) (pdat_A m c 1) (aft1 m c) t d
theorem bef2 (c : Dev nD) (t : Fin cfg0.N) (d) : (pdat m 0 c).before 2 t d = iblk m c 2 t :=
  before0_2_of m (pdat m 0 c) (pdat_A m c 2) (aft2 m c) t d
theorem bef3 (c : Dev nD) (t : Fin cfg0.N) (d) : (pdat m 0 c).before 3 t d = iblk m c 3 t :=
  before0_3_of m (pdat m 0 c) (pdat_A m c 3) (aft3 m c) t d
theorem bef4 (c : Dev nD) (t : Fin cfg0.N) (d) : (pdat m 0 c).before 4 t d = iblk m c 4 t :=
  before0_4_of m (pdat m 0 c) (pdat_A m c 4) (aft4 m c) t d
theorem bef5 (c : Dev nD) (t : Fin cfg0.N) (d) : (pdat m 0 c).before 5 t d = iblk m c 5 t :=
  before0_5_of m (pdat m 0 c) (pdat_A m c 5) (aft5 m c) t d

theorem kept6 (c : Dev nD) (t : Fin cfg0.N) (d) : (pdat m 0 c).kept 6 t d = stD m c t.val t.isLt := by
  unfold Dat.kept
  rw [Pipeline.fill_of_clip_none (cfg := cfg0) 6 _ (fun _ => rfl) d ((pdat m 0 c).after 6 t), Window.fill_cut, aft6]

/-- The queries' result as the body finds it: anything where it starts afresh, else what the point before left. -/
theorem bef6 (c : Dev nD) : ∀ (n : ℕ) (t : Fin cfg0.N) (_ : t.val = n) (d), (pdat m 0 c).before 6 t d
      = if t.val % 32 = 0 then d else stD m c (t.val - 1) (lt_of_le_of_lt (Nat.sub_le _ _) t.isLt) := by
  intro n
  induction n with
  | zero =>
    intro t ht d
    rw [if_pos (by rw [ht])]
    exact Pipeline.Dat.before_out_reset (pdat m 0 c) 6 rfl t (Or.inl ht) d
  | succ n ih =>
    intro t ht d
    have hlt := pt_lt t
    have hne : t.val ≠ 0 := by omega
    by_cases h : t.val % 32 = 0
    · rw [if_pos h]
      exact Pipeline.Dat.before_out_reset (pdat m 0 c) 6 rfl t (Or.inr ⟨hne, (flush0_6 _).mpr (by dsimp only; omega)⟩) d
    · rw [if_neg h, (pdat m 0 c).before_of_pos 6 t hne ((cfg0.win 6).fetch_out rfl t) d, if_neg (fun hf => by
        have := (flush0_6 _).mp hf; dsimp only at this; omega)]
      unfold Dat.left
      by_cases hi : cfg0.idle 6 (cfg0.grid.coords ⟨t.val - 1, Nat.lt_of_le_of_lt (Nat.sub_le _ _) t.isLt⟩) = true
      · rw [hi]; dsimp only
        obtain ⟨h1, h3, h4, h5⟩ := (idle6 ⟨t.val - 1, Nat.lt_of_le_of_lt (Nat.sub_le _ _) t.isLt⟩).mp hi
        have hz : (t.val - 1) % 32 ≠ 0 := fun e => h1 ((on1 _).mpr e)
        rw [ih ⟨t.val - 1, Nat.lt_of_le_of_lt (Nat.sub_le _ _) t.isLt⟩ (by dsimp only; omega) d, if_neg hz]
        have hp := stD_pos m c ⟨t.val - 1, Nat.lt_of_le_of_lt (Nat.sub_le _ _) t.isLt⟩ (fun e => hz (by dsimp only at e; rw [e]))
        rw [bodyD_none _ _ _ _ _ _ _ _ h1 h3 h4 h5] at hp
        exact hp.symm
      · rw [Bool.not_eq_true] at hi
        rw [hi]; dsimp only
        exact kept6 m c _ d

/-- The keys' and values' results are written once, before they leave: until then their buffers hold anything. -/
theorem bef7 (c : Dev nD) : ∀ (n : ℕ) (t : Fin cfg0.N) (_ : t.val = n) (d), (pdat m 0 c).before 7 t d = d := by
  intro n
  induction n with
  | zero => intro t ht d; exact Pipeline.Dat.before_out_reset (pdat m 0 c) 7 rfl t (Or.inl ht) d
  | succ n ih =>
    intro t ht d
    have hne : t.val ≠ 0 := by omega
    rw [(pdat m 0 c).before_of_pos 7 t hne ((cfg0.win 7).fetch_out rfl t) d]
    by_cases hf : (cfg0.win 7).flush ⟨t.val - 1, Nat.lt_of_le_of_lt (Nat.sub_le _ _) t.isLt⟩ = true
    · rw [if_pos hf]
    · rw [if_neg hf]
      unfold Dat.left
      have hi : cfg0.idle 7 (cfg0.grid.coords ⟨t.val - 1, Nat.lt_of_le_of_lt (Nat.sub_le _ _) t.isLt⟩) = true :=
        (idle7 _).mpr fun e => hf ((flush0_7 _).mpr ((on6 _).mp e))
      rw [hi]; dsimp only
      exact ih _ (by dsimp only; omega) d
theorem bef8 (c : Dev nD) : ∀ (n : ℕ) (t : Fin cfg0.N) (_ : t.val = n) (d), (pdat m 0 c).before 8 t d = d := by
  intro n
  induction n with
  | zero => intro t ht d; exact Pipeline.Dat.before_out_reset (pdat m 0 c) 8 rfl t (Or.inl ht) d
  | succ n ih =>
    intro t ht d
    have hne : t.val ≠ 0 := by omega
    rw [(pdat m 0 c).before_of_pos 8 t hne ((cfg0.win 8).fetch_out rfl t) d]
    by_cases hf : (cfg0.win 8).flush ⟨t.val - 1, Nat.lt_of_le_of_lt (Nat.sub_le _ _) t.isLt⟩ = true
    · rw [if_pos hf]
    · rw [if_neg hf]
      unfold Dat.left
      have hi : cfg0.idle 8 (cfg0.grid.coords ⟨t.val - 1, Nat.lt_of_le_of_lt (Nat.sub_le _ _) t.isLt⟩) = true :=
        (idle8 _).mpr fun e => hf ((flush0_8 _).mpr ((on6 _).mp e))
      rw [hi]; dsimp only
      exact ih _ (by dsimp only; omega) d

/-! ## What the body returns, window by window -/

theorem ret0 (c : Dev nD) (t : Fin cfg0.N) : (pdat m 0 c).leavesExact 0 t = owns (c : Thread nD τ) (st0_0 t) fullShare (iblk m c 0 t) := by
  rw [← aft0]
theorem ret1 (c : Dev nD) (t : Fin cfg0.N) : (pdat m 0 c).leavesExact 1 t = owns (c : Thread nD τ) (st0_1 t) fullShare (iblk m c 1 t) := by
  rw [← aft1]
theorem ret2 (c : Dev nD) (t : Fin cfg0.N) : (pdat m 0 c).leavesExact 2 t = owns (c : Thread nD τ) (st0_2 t) fullShare (iblk m c 2 t) := by
  rw [← aft2]
theorem ret3 (c : Dev nD) (t : Fin cfg0.N) : (pdat m 0 c).leavesExact 3 t = owns (c : Thread nD τ) (st0_3 t) fullShare (iblk m c 3 t) := by
  rw [← aft3]
theorem ret4 (c : Dev nD) (t : Fin cfg0.N) : (pdat m 0 c).leavesExact 4 t = owns (c : Thread nD τ) (st0_4 t) fullShare (iblk m c 4 t) := by
  rw [← aft4]
theorem ret5 (c : Dev nD) (t : Fin cfg0.N) : (pdat m 0 c).leavesExact 5 t = owns (c : Thread nD τ) (st0_5 t) fullShare (iblk m c 5 t) := by
  rw [← aft5]

/-- The queries' result is returned at the recursion's value, stored into or not. -/
theorem ret6 (c : Dev nD) (t : Fin cfg0.N) : owns (c : Thread nD τ) (st0_6 t) fullShare (stD m c t.val t.isLt) ⊢ (pdat m 0 c).leavesExact 6 t := by
  by_cases hi : cfg0.idle 6 (cfg0.grid.coords t) = true
  · by_cases hf : (cfg0.win 6).flush t = true
    · unfold Dat.leavesExact; rw [hi, hf]; dsimp only; rw [aft6]
    · rw [Bool.not_eq_true] at hf
      rw [(pdat m 0 c).leavesExact_idle 6 t hi hf]
      obtain ⟨h1, h3, h4, h5⟩ := (idle6 t).mp hi
      have hz : t.val % 32 ≠ 0 := fun e => h1 ((on1 _).mpr e)
      have hp := stD_pos m c t (fun e => hz (by rw [e]))
      rw [bodyD_none _ _ _ _ _ _ _ _ h1 h3 h4 h5] at hp
      rw [hp]
      iintro H
      iexists (k0_pay1 (F := F))
      rw [bef6 m c _ t rfl, if_neg hz]
      iexact H
  · rw [Bool.not_eq_true] at hi
    unfold Dat.leavesExact; rw [hi]; dsimp only; rw [aft6]
theorem ret7 (c : Dev nD) (t : Fin cfg0.N) (d : Vec F S1024x256 .f32) :
    owns (c : Thread nD τ) (st0_7 t) fullShare (if k0_cond6 (grid0.coords t) = 1#1 then stA m c t.val t.isLt else d) ⊢ (pdat m 0 c).leavesExact 7 t := by
  by_cases hc : k0_cond6 (grid0.coords t) = 1#1
  · rw [if_pos hc]
    have hi : cfg0.idle 7 (cfg0.grid.coords t) = false := by
      rw [← Bool.not_eq_true]; exact fun e => (idle7 t).mp e hc
    unfold Dat.leavesExact; rw [hi]; dsimp only; rw [aft7]
  · rw [if_neg hc]
    have hf : (cfg0.win 7).flush t = false := by
      rw [← Bool.not_eq_true]; exact fun e => hc ((on6 t).mpr ((flush0_7 t).mp e))
    rw [(pdat m 0 c).leavesExact_idle 7 t ((idle7 t).mpr hc) hf]
    iintro H
    iexists d
    rw [bef7 m c _ t rfl]
    iexact H
theorem ret8 (c : Dev nD) (t : Fin cfg0.N) (d : Vec F S1024x128 .f32) :
    owns (c : Thread nD τ) (st0_8 t) fullShare (if k0_cond6 (grid0.coords t) = 1#1 then stB m c t.val t.isLt else d) ⊢ (pdat m 0 c).leavesExact 8 t := by
  by_cases hc : k0_cond6 (grid0.coords t) = 1#1
  · rw [if_pos hc]
    have hi : cfg0.idle 8 (cfg0.grid.coords t) = false := by
      rw [← Bool.not_eq_true]; exact fun e => (idle8 t).mp e hc
    unfold Dat.leavesExact; rw [hi]; dsimp only; rw [aft8]
  · rw [if_neg hc]
    have hf : (cfg0.win 8).flush t = false := by
      rw [← Bool.not_eq_true]; exact fun e => hc ((on6 t).mpr ((flush0_8 t).mp e))
    rw [(pdat m 0 c).leavesExact_idle 8 t ((idle8 t).mpr hc) hf]
    iintro H
    iexists d
    rw [bef8 m c _ t rfl]
    iexact H

/-! ## The body at one point -/

/-- What the body is handed at a point, window by window. -/
def given (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d))
    ∗ (∃ d, owns (c : Thread nD τ) (st0_8 t) fullShare ((pdat m 0 c).before 8 t d)))

/-- What it returns. -/
def returned (c : Dev nD) (t : Fin cfg0.N) : sProp 𝕄 :=
  iprop((pdat m 0 c).Φ t.succ ∗ (pdat m 0 c).owesAt () t.succ
    ∗ (pdat m 0 c).leavesExact 0 t ∗ (pdat m 0 c).leavesExact 1 t ∗ (pdat m 0 c).leavesExact 2 t
    ∗ (pdat m 0 c).leavesExact 3 t ∗ (pdat m 0 c).leavesExact 4 t ∗ (pdat m 0 c).leavesExact 5 t
    ∗ (pdat m 0 c).leavesExact 6 t ∗ (pdat m 0 c).leavesExact 7 t ∗ (pdat m 0 c).leavesExact 8 t)

/-- The buffers as the body leaves them are what the region's data say. -/
theorem giveBack (c : Dev nD) (t : Fin cfg0.N) (D : Vec F S8192x256 .f32) (A : Vec F S1024x256 .f32) (B : Vec F S1024x128 .f32) (d7 : Vec F S1024x256 .f32) (d8 : Vec F S1024x128 .f32)
    (hD : bodyD (grid0.coords t) (iblk m c 0 t) (iblk m c 1 t) (iblk m c 2 t) (iblk m c 3 t) (iblk m c 4 t) (iblk m c 5 t) D = stD m c t.val t.isLt) (hA : bodyA (grid0.coords t) (iblk m c 0 t) (iblk m c 1 t) (iblk m c 2 t) (iblk m c 3 t) (iblk m c 4 t) (iblk m c 5 t) A = stA m c t.val t.isLt) (hB : bodyB (grid0.coords t) (iblk m c 0 t) (iblk m c 1 t) (iblk m c 2 t) (iblk m c 3 t) (iblk m c 4 t) (iblk m c 5 t) B = stB m c t.val t.isLt) :
    (iprop(Hold c (st0_0 t) (st0_1 t) (st0_2 t) (st0_3 t) (st0_4 t) (st0_5 t) (st0_6 t) accA accB (iblk m c 0 t) (iblk m c 1 t) (iblk m c 2 t) (iblk m c 3 t) (iblk m c 4 t) (iblk m c 5 t) (bodyD (grid0.coords t) (iblk m c 0 t) (iblk m c 1 t) (iblk m c 2 t) (iblk m c 3 t) (iblk m c 4 t) (iblk m c 5 t) D) (bodyA (grid0.coords t) (iblk m c 0 t) (iblk m c 1 t) (iblk m c 2 t) (iblk m c 3 t) (iblk m c 4 t) (iblk m c 5 t) A) (bodyB (grid0.coords t) (iblk m c 0 t) (iblk m c 1 t) (iblk m c 2 t) (iblk m c 3 t) (iblk m c 4 t) (iblk m c 5 t) B)
      ∗ owns (c : Thread nD τ) (st0_7 t) fullShare (if k0_cond6 (grid0.coords t) = 1#1 then bodyA (grid0.coords t) (iblk m c 0 t) (iblk m c 1 t) (iblk m c 2 t) (iblk m c 3 t) (iblk m c 4 t) (iblk m c 5 t) A else d7)
      ∗ owns (c : Thread nD τ) (st0_8 t) fullShare (if k0_cond6 (grid0.coords t) = 1#1 then bodyB (grid0.coords t) (iblk m c 0 t) (iblk m c 1 t) (iblk m c 2 t) (iblk m c 3 t) (iblk m c 4 t) (iblk m c 5 t) B else d8)
      ∗ (pdat m 0 c).owesAt () t.castSucc ∗ (∃ r, prngReg c r)) : sProp 𝕄) ⊢ returned m c t := by
  rw [hD, hA, hB]
  unfold returned Hold
  rw [show (pdat m 0 c).owesAt () t.succ = (pdat m 0 c).owesAt () t.castSucc from rfl,
    show (pdat m 0 c).Φ t.succ = iprop((owns (c : Thread nD τ) accA fullShare (stA m c t.val t.isLt) ∗ owns (c : Thread nD τ) accB fullShare (stB m c t.val t.isLt)) ∗ (∃ r, prngReg c r)) from rfl]
  rw [ret0, ret1, ret2, ret3, ret4, ret5]
  iintro ⟨⟨H0, H1, H2, H3, H4, H5, H6, HA, HB⟩, H7, H8, Ho, Hg⟩
  isplitl [HA HB Hg]
  · isplitl [HA HB]
    · isplitl [HA]
      · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (ret6 m c t); iexact H6
  isplitl [H7]; · iapply (ret7 m c t d7); iexact H7
  iapply (ret8 m c t d8); iexact H8

/-- The body's step at a point from any accumulators that lead to the recursion's values. -/
theorem stepAt (c : Dev nD) (t : Fin cfg0.N) (D : Vec F S8192x256 .f32) (A : Vec F S1024x256 .f32) (B : Vec F S1024x128 .f32) (d7 : Vec F S1024x256 .f32) (d8 : Vec F S1024x128 .f32)
    (hD : bodyD (grid0.coords t) (iblk m c 0 t) (iblk m c 1 t) (iblk m c 2 t) (iblk m c 3 t) (iblk m c 4 t) (iblk m c 5 t) D = stD m c t.val t.isLt) (hA : bodyA (grid0.coords t) (iblk m c 0 t) (iblk m c 1 t) (iblk m c 2 t) (iblk m c 3 t) (iblk m c 4 t) (iblk m c 5 t) A = stA m c t.val t.isLt) (hB : bodyB (grid0.coords t) (iblk m c 0 t) (iblk m c 1 t) (iblk m c 2 t) (iblk m c 3 t) (iblk m c 4 t) (iblk m c 5 t) B = stB m c t.val t.isLt) :
    (iprop(Hold c (st0_0 t) (st0_1 t) (st0_2 t) (st0_3 t) (st0_4 t) (st0_5 t) (st0_6 t) accA accB (iblk m c 0 t) (iblk m c 1 t) (iblk m c 2 t) (iblk m c 3 t) (iblk m c 4 t) (iblk m c 5 t) D A B
      ∗ owns (c : Thread nD τ) (st0_7 t) fullShare d7 ∗ owns (c : Thread nD τ) (st0_8 t) fullShare d8
      ∗ (pdat m 0 c).owesAt () t.castSucc ∗ (∃ r, prngReg c r)) : sProp 𝕄)
      ⊢ wp frame (wpE (defs₀ (F := F)) Variants.none c none) Set.univ (bodyAt0 t) (fun _ => returned m c t) :=
  body_run c (grid0.coords t) _ _ _ _ _ _ _ _ _ _ _ _ _ _ _ _ _ _ _ _ _ _ (iblk m c 0 t) (iblk m c 1 t) (iblk m c 2 t) (iblk m c 3 t) (iblk m c 4 t) (iblk m c 5 t) D A B d7 d8 Set.univ _ _ (giveBack m c t D A B d7 d8 hD hA hB)

theorem body_at (c : Dev nD) (t : Fin cfg0.N) :
    given m c t ⊢ wp frame (wpE (defs₀ (F := F)) Variants.none c none) Set.univ (bodyAt0 t) (fun _ => returned m c t) := by
  unfold given
  simp only [bef0, bef1, bef2, bef3, bef4, bef5, bef6 m c _ t rfl, bef7 m c _ t rfl, bef8 m c _ t rfl]
  have hΦ : (pdat m 0 c).Φ t.castSucc = between m c t.val (Nat.le_of_lt t.isLt) := by
    dsimp only [pdat]; exact Pipeline.Dat.Φ_castSucc (between m c) t
  rw [hΦ]
  have hDD : ∀ d, bodyD (grid0.coords t) (iblk m c 0 t) (iblk m c 1 t) (iblk m c 2 t) (iblk m c 3 t) (iblk m c 4 t) (iblk m c 5 t) (if t.val % 32 = 0 then d else stD m c (t.val - 1) (lt_of_le_of_lt (Nat.sub_le _ _) t.isLt)) = stD m c t.val t.isLt := by
    intro d
    by_cases h : t.val % 32 = 0
    · rw [if_pos h]; exact (stD_fresh m c t h d).symm
    · rw [if_neg h]; exact (stD_pos m c t (fun e => h (by rw [e]))).symm
  by_cases hz : t.val = 0
  · have hb : between m c t.val (Nat.le_of_lt t.isLt) = Pipeline.ΦA spec0 c := by
      obtain ⟨n, hn⟩ := t; subst hz; rfl
    rw [hb, start_eq]
    iintro ⟨⟨⟨⟨%a, HA⟩, ⟨%b, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (stepAt m c t _ a b d7 d8 (hDD d6) (stA_fresh m c t (by rw [hz]) a).symm (stB_fresh m c t (by rw [hz]) b).symm)
    unfold Hold
    isplitl [H0 H1 H2 H3 H4 H5 H6 HA HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      iexact HB
    isplitl [H7]; · iexact H7
    isplitl [H8]; · iexact H8
    isplitl [Ho]; · iexact Ho
    iexact Hg
  · rw [between_pos m c _ _ hz]
    iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (stepAt m c t _ _ _ d7 d8 (hDD d6) (stA_pos m c t hz).symm (stB_pos m c t hz).symm)
    unfold Hold
    isplitl [H0 H1 H2 H3 H4 H5 H6 HA HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      iexact HB
    isplitl [H7]; · iexact H7
    isplitl [H8]; · iexact H8
    isplitl [Ho]; · iexact Ho
    iexact Hg

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (pdat (F := F) m 0 c) (defs₀ (F := F)) Variants.none () Set.univ := fun t => by
  rw [bigSep_W0, bigSep_W0, row_eq]
  exact triple_restated (body_at m c t) rfl .rfl fun _ => .rfl

theorem enter (c : Dev nD) : Pipeline.ΦA spec0 c ⊢ (pdat m 0 c).Φ 0 := by
  rw [show (pdat m 0 c).Φ 0 = Pipeline.ΦA spec0 c from rfl]
theorem leave (c : Dev nD) : (pdat m 0 c).Φ (Fin.last cfg0.N) ⊢ Pipeline.ΦA spec0 c := by
  rw [show (pdat m 0 c).Φ (Fin.last cfg0.N) = between m c (Fin.last cfg0.N).val (Nat.le_of_lt_succ (Fin.last cfg0.N).isLt) from rfl,
    between_pos m c _ _ (by rw [Fin.val_last]; have : cfg0.N = 128 := N_0; omega), start_eq]
  iintro ⟨⟨HA, HB⟩, Hg⟩
  isplitl [HA HB]
  · isplitl [HA]
    · iexists _; iexact HA
    iexists _; iexact HB
  iexact Hg

variable (ρ : Dev nD → PrngReg)

set_option backward.isDefEq.respectTransparency.types false in
/-- The whole program runs to the end; the arrays hold what the region's data say, and no signal is left. -/
theorem runs : θ_run defs (onTc (τ := τ) (main (F := F))) (s₀ m ρ) (fun r => Pipeline.FramePost cfgs (pdat m) 0 (V m) r ∧ r.2.sem = fun _ => 0) :=
  Pipeline.θ_run_frame_track (Q' := _) cfgs (pdat m) (0 : Fin 1) launch0 defs₀ Variants.none m ρ main
    (hbody := fun c => (obligation m c).loose) (hshare := fun c => (pdat m 0 c).share_full fun _ => rfl)
    (howed := fun _ _ => rfl) (V := V m) (hmain := hmain m Variants.none) (hA := pdat_A m) (hin := enter m) (hout := leave m)

theorem ends : θ_run defs (onTc (τ := τ) (main (F := F))) (s₀ m ρ) (Pipeline.FramePost cfgs (pdat m) 0 (V m)) :=
  (θ_run defs _ _).mono (fun _ h => h.1) (runs m ρ)

/-- The arguments end unchanged, and no signal is left. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (pdat m) (pdat_A m) (ends m ρ)) ((θ_run defs _ _).mono (fun _ h => h.2) (runs m ρ))

end Cert.KernelIdeal.Gen
-- ==== Proof.Frames.lean ====
module

public import proofs.«01_k».proof.Defs
public import proofs.«01_k».proof.Proof.Launch
public import proofs.«01_k».proof.Proof.Gen.Kernel.Frame
public import proofs.«01_k».proof.Proof.Gen.ReferenceIdeal
public import proofs.«01_k».proof.Proof.Gen.ReferenceIdeal.Run

@[expose] public section

noncomputable section

/-! The frames of the three programs, and the two named constants. -/

namespace Cert.Proof

open Idealize.ShloMosaic Idealize.SL.Sem

/-- The reference runs to the end with its arguments unchanged; it has no signals at all. -/
theorem reference_framed (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- The two constants that the ideal kernel names: the natural logarithm of two, and minus infinity for the mask. -/
theorem named : Cert.preserves_Kernel_KernelIdeal :=
  ⟨IdealRules.named_const.statement Cert.KernelIdeal.κ "ln2" .f32 0x3F317218#32 ((Real.log 2 : ℝ) : EReal) rfl,
    IdealRules.named_const.statement Cert.KernelIdeal.κ "mask" .f32 0xF149F2CA#32 ⊥ rfl⟩

end Cert.Proof

end
-- ==== Proof.TileRead.lean ====
module

public import proofs.«01_k».proof.Proof.StepRun
public import Idealize.ShloMosaic.PureOps.Ideal.Laws
public import Idealize.ShloMosaic.Lib.Pointwise
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.TcCoe
open Idealize.ShloMosaic.ValueIdx (contrEquiv1 contrEquiv1_symm_val)
open Idealize.ShloMosaic.VecWindow (window put)
open scoped BigOperators

/-! What the operations of one step compute over the extended reals, entry by entry. -/

/-- The product along the rows at an entry. -/
theorem dotT_apply {K M N : ℕ} {φ₁ φ₂ : FTy} (wf : DotDims.WF (Mat K M) (Mat K N) (Mat M N) [0] [0] [1] [1] [] [])
    (x : FVec Ideal (Mat K M) φ₁) (y : FVec Ideal (Mat K N) φ₂) (acc : FVec Ideal (Mat M N) .f32) (r : Fin M) (c : Fin N) :
    FloatOps.matmul (dotT K M N wf) none x y acc (ix2 r c) = acc (ix2 r c) + ∑ k : Fin K, x (ix2 k r) * y (ix2 k c) := by
  have hr : (dotT K M N wf).contr.rank = 1 := rfl
  have hs : (dotT K M N wf).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (dotT K M N wf).lhsIdx (ix2 r c) ((contrEquiv1 _ K hr hs).symm k) = ix2 k r := by
    funext a; apply Fin.ext
    match a with
    | ⟨0, _⟩ => exact hk
    | ⟨1, _⟩ => rfl
  have er : (dotT K M N wf).rhsIdx (ix2 r c) ((contrEquiv1 _ K hr hs).symm k) = ix2 k c := by
    funext a; apply Fin.ext
    match a with
    | ⟨0, _⟩ => exact hk
    | ⟨1, _⟩ => rfl
  rw [el, er]

/-- The product with the rows of the second operand at an entry. -/
theorem mmT_apply {M K N : ℕ} {φ₁ φ₂ : FTy} (x : FVec Ideal (Mat M K) φ₁) (y : FVec Ideal (Mat N K) φ₂) (acc : FVec Ideal (Mat M N) .f32) (r : Fin M) (c : Fin N) :
    FloatOps.matmul (DotDims.transposedRhs M K N) none x y acc (ix2 r c) = acc (ix2 r c) + ∑ k : Fin K, x (ix2 r k) * y (ix2 c k) :=
  Ideal.matmul_transposedRhs_apply _ _ _ _ _ _

/-- The plain product at an entry. -/
theorem mm_apply {M K N : ℕ} {φ₁ φ₂ : FTy} (x : FVec Ideal (Mat M K) φ₁) (y : FVec Ideal (Mat K N) φ₂) (acc : FVec Ideal (Mat M N) .f32) (r : Fin M) (c : Fin N) :
    FloatOps.matmul (DotDims.plain M K N) none x y acc (ix2 r c) = acc (ix2 r c) + ∑ k : Fin K, x (ix2 r k) * y (ix2 k c) :=
  Ideal.matmul_plain_apply _ _ _ _ _ _

/-- The mask of a step: on the diagonal a query sees the keys of its chunk and of those before it. -/
def keep (w : Option (BitVec 32)) (r κ : ℕ) : Prop :=
  match w with
  | none => True
  | some a => κ / 64 ≤ (r + a.toNat) / 64

instance (w : Option (BitVec 32)) (r κ : ℕ) : Decidable (keep w r κ) := by
  unfold keep; cases w <;> infer_instance

/-- A word shifted right by six places, where its sign is clear. -/
theorem shr6 (x : ℕ) (hx : x < 4096) : IntOp.shrsi ArithUnit.vector (BitVec.ofNat 32 x) 6#32 = BitVec.ofNat 32 (x / 64) := by
  unfold IntOp.shrsi
  rw [if_pos (by decide)]
  apply BitVec.eq_of_toInt_eq
  rw [BitVec.sshiftRight', BitVec.toInt_sshiftRight, show (6#32).toNat = 6 from rfl]
  have h1 : (BitVec.ofNat 32 x).toInt = (x : ℤ) := by
    rw [BitVec.toInt_eq_toNat_cond, BitVec.toNat_ofNat]; omega
  have h2 : (BitVec.ofNat 32 (x / 64)).toInt = ((x / 64 : ℕ) : ℤ) := by
    rw [BitVec.toInt_eq_toNat_cond, BitVec.toNat_ofNat]; omega
  rw [h1, h2, Int.shiftRight_eq_div_pow]; omega

theorem ln2_ideal : (Named.named κ "ln2" 0x3F317218#32 : Ideal .f32) = ((Real.log 2 : ℝ) : EReal) := rfl
theorem mask_ideal : (Named.named κ "mask" 0xF149F2CA#32 : Ideal .f32) = (⊥ : EReal) := rfl

section Tile

variable {n : ℕ} (tf : TileFacts n) (w : Option (BitVec 32)) (hn : n ≤ 1024) (hw : ∀ a, w = some a → a.toNat ≤ 1024)
variable (q : Vec Ideal S256x256 .bf16) (k : Vec Ideal (Mat n 256) .bf16) (lse : Vec Ideal S1x256x1 .f32)
  (d : Vec Ideal S256x128 .f32) (v : Vec Ideal (Mat n 128) .bf16) (o : Vec Ideal S256x128 .f32)

include hn hw in
theorem tileS_apply (r : Fin 256) (κ : Fin n) :
    tileS tf w q k (ix2 r κ) = if keep w r.val κ.val then ∑ e : Fin 256, (q (ix2 r e) : EReal) * k (ix2 κ e) else ⊥ := by
  cases w with
  | none =>
    rw [if_pos (show keep none r.val κ.val from trivial)]
    unfold tileS
    refine (mmT_apply (φ₁ := .bf16) (φ₂ := .bf16) _ _ _ _ _).trans ?_
    rw [show (constant (Mat 256 n) .f32 0x00000000#32 : FVec Ideal (Mat 256 n) .f32) (ix2 r κ) = 0 by pointwise, zero_add]
  | some a =>
    have ha := hw a rfl
    have hm : (matmul (φ₁ := .bf16) (φ₂ := .bf16) (DotDims.transposedRhs 256 256 n) none q k (constant (Mat 256 n) .f32 0x00000000#32) : FVec Ideal (Mat 256 n) .f32) (ix2 r κ) = ∑ e : Fin 256, (q (ix2 r e) : EReal) * k (ix2 κ e) := by
      refine (mmT_apply (φ₁ := .bf16) (φ₂ := .bf16) _ _ _ _ _).trans ?_
      rw [show (constant (Mat 256 n) .f32 0x00000000#32 : FVec Ideal (Mat 256 n) .f32) (ix2 r κ) = 0 by pointwise, zero_add]
    unfold tileS
    dsimp only
    rw [ValueIdx.select_apply, hm]
    pointwise
    have h1 : IntOp.shrsi ArithUnit.vector (BitVec.ofNat 32 κ.val) 6#32 = BitVec.ofNat 32 (κ.val / 64) := shr6 _ (by omega)
    have h2 : IntOp.shrsi ArithUnit.vector (IntOp.addi (BitVec.ofNat 32 r.val) a) 6#32 = BitVec.ofNat 32 ((r.val + a.toNat) / 64) := by
      rw [show IntOp.addi (BitVec.ofNat 32 r.val) a = BitVec.ofNat 32 (r.val + a.toNat) by
        apply BitVec.eq_of_toNat_eq; simp [IntOp.addi, BitVec.toNat_add]]
      exact shr6 _ (by omega)
    rw [h1, h2, WordCmp.cmpi_sle_ofNat (by norm_num; omega) (by norm_num; omega), WordCmp.select_decide]
    rfl

theorem tileP_apply (r : Fin 256) (κ : Fin n) :
    tileP tf w q k lse (ix2 r κ) = Ideal.exp2 (tileS tf w q k (ix2 r κ) - lse (ix3 0 r 0)) := by
  unfold tileP
  pointwise
  rfl

theorem tileDs_apply (r : Fin 256) (κ : Fin n) :
    tileDs tf w q k lse d v o (ix2 r κ) = tileP tf w q k lse (ix2 r κ) *
      ((∑ e : Fin 128, (d (ix2 r e) : EReal) * v (ix2 κ e)) - ∑ e : Fin 128, (d (ix2 r e) : EReal) * o (ix2 r e)) := by
  unfold tileDs
  pointwise
  refine congrArg (fun x => tileP tf w q k lse (ix2 r κ) * (x - ∑ e, d (ix2 r e) * o (ix2 r e))) (Finset.sum_congr rfl fun x _ => congrArg (fun i => (d (ix2 r x) : EReal) * v i) ?_)
  funext a
  match a with
  | ⟨0, _⟩ => rfl
  | ⟨1, _⟩ => rfl

theorem tileV_apply (κ : Fin n) (c : Fin 128) (acc : Vec Ideal (Mat n 128) .f32) :
    tileV tf w q k lse d acc (ix2 κ c) = acc (ix2 κ c) + ∑ r : Fin 256, (tileP tf w q k lse (ix2 r κ) : EReal) * d (ix2 r c) := by
  unfold tileV
  pointwise
  refine congrArg (acc (ix2 κ c) + ·) (Finset.sum_congr rfl fun x _ => congrArg (fun i => (tileP tf w q k lse i : EReal) * d (ix2 x c)) ?_)
  funext a
  match a with
  | ⟨0, _⟩ => rfl
  | ⟨1, _⟩ => rfl

theorem tileK_apply (κ : Fin n) (c : Fin 256) (acc : Vec Ideal (Mat n 256) .f32) :
    tileK tf w q k lse d v o acc (ix2 κ c) = acc (ix2 κ c) + (∑ r : Fin 256, (tileDs tf w q k lse d v o (ix2 r κ) : EReal) * q (ix2 r c)) * ((Real.log 2 : ℝ) : EReal) := by
  unfold tileK
  pointwise
  rw [ln2_ideal]
  refine congrArg (fun y => acc (ix2 κ c) + y * ((Real.log 2 : ℝ) : EReal)) (Finset.sum_congr rfl fun x _ => congrArg (fun i => (tileDs tf w q k lse d v o i : EReal) * q (ix2 x c)) ?_)
  funext a
  match a with
  | ⟨0, _⟩ => rfl
  | ⟨1, _⟩ => rfl

theorem tileQ_apply (r : Fin 256) (c : Fin 256) (acc : Vec Ideal S256x256 .f32) :
    tileQ tf w q k lse d v o acc (ix2 r c) = acc (ix2 r c) + (∑ κ : Fin n, (tileDs tf w q k lse d v o (ix2 r κ) : EReal) * k (ix2 κ c)) * ((Real.log 2 : ℝ) : EReal) := by
  unfold tileQ
  pointwise
  rw [ln2_ideal]
  refine congrArg (fun y => acc (ix2 r c) + y * ((Real.log 2 : ℝ) : EReal)) ((mm_apply (φ₁ := .bf16) (φ₂ := .bf16) _ _ _ _ _).trans ?_)
  rw [show (constant S256x256 .f32 0x00000000#32 : FVec Ideal S256x256 .f32) (ix2 r c) = 0 by pointwise, zero_add]

end Tile

end Cert.KernelIdeal.Gen
-- ==== Proof.StepRead.lean ====
module

public import proofs.«01_k».proof.Proof.TileRead
public import Idealize.ShloMosaic.PureOps.Ideal.Laws
public import Idealize.ShloMosaic.Lib.Pointwise
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.TcCoe
open Idealize.ShloMosaic.ValueIdx (contrEquiv1 contrEquiv1_symm_val)
open Idealize.ShloMosaic.VecWindow (window put)
open scoped BigOperators

/-! What one step adds to the three sums, entry by entry, over the places of the blocks. -/

/-- The logits, the weights and the gradient of the logits at row `r` and key `κ` of the blocks whose first row is `a` and first key `b`. -/
def mS (x0 : Vec Ideal S2048x256 .bf16) (x1 : Vec Ideal S1024x256 .bf16) (r : Fin 2048) (κ : Fin 1024) : EReal :=
  ∑ e : Fin 256, (x0 (ix2 r e) : EReal) * x1 (ix2 κ e)
def mP (a b : ℕ) (x0 : Vec Ideal S2048x256 .bf16) (x1 : Vec Ideal S1024x256 .bf16) (x4 : Vec Ideal S1x2048x1 .f32) (r : Fin 2048) (κ : Fin 1024) : EReal :=
  if (b + κ.val) / 64 ≤ (a + r.val) / 64 then Ideal.exp2 (mS x0 x1 r κ - x4 (ix3 0 r 0)) else 0
def mDs (a b : ℕ) (x0 : Vec Ideal S2048x256 .bf16) (x1 : Vec Ideal S1024x256 .bf16) (x2 : Vec Ideal S1024x128 .bf16) (x3 : Vec Ideal S2048x128 .f32) (x4 : Vec Ideal S1x2048x1 .f32) (x5 : Vec Ideal S2048x128 .f32) (r : Fin 2048) (κ : Fin 1024) : EReal :=
  mP a b x0 x1 x4 r κ * ((∑ e : Fin 128, (x5 (ix2 r e) : EReal) * x2 (ix2 κ e)) - ∑ e : Fin 128, (x5 (ix2 r e) : EReal) * x3 (ix2 r e))

/-- A row of a step among those of its block. -/
def row (o : ℕ) (ho : o + 256 ≤ 2048) (r : Fin 256) : Fin 2048 := ⟨o + r.val, by omega⟩

theorem RowFacts.le {o : ℕ} (rf : RowFacts o) : o + 256 ≤ 2048 := rf.inq 0

section Steps

variable {n : ℕ} (tf : TileFacts n) {o : ℕ} (rf : RowFacts o) (w : Option (BitVec 32)) (hn : n ≤ 1024) (hw : ∀ a, w = some a → a.toNat ≤ 1024)

theorem qOf_apply (x0 : Vec Ideal S2048x256 .bf16) (r : Fin 256) (e : Fin 256) : qOf rf x0 (ix2 r e) = x0 (ix2 (row o rf.le r) e) := by
  refine congrArg x0 (funext fun a => Fin.ext ?_)
  match a with
  | ⟨0, _⟩ => show o + 1 * r.val = o + r.val; omega
  | ⟨1, _⟩ => show 0 + 1 * e.val = e.val; omega

theorem dOf_apply (x5 : Vec Ideal S2048x128 .f32) (r : Fin 256) (e : Fin 128) : dOf rf x5 (ix2 r e) = x5 (ix2 (row o rf.le r) e) := by
  refine congrArg x5 (funext fun a => Fin.ext ?_)
  match a with
  | ⟨0, _⟩ => show o + 1 * r.val = o + r.val; omega
  | ⟨1, _⟩ => show 0 + 1 * e.val = e.val; omega

theorem lOf_apply (x4 : Vec Ideal S1x2048x1 .f32) (r : Fin 256) : lOf rf x4 (ix3 0 r 0) = x4 (ix3 0 (row o rf.le r) 0) := by
  refine congrArg x4 (funext fun a => Fin.ext ?_)
  match a with
  | ⟨0, _⟩ => rfl
  | ⟨1, _⟩ => show o + 1 * r.val = o + r.val; omega
  | ⟨2, _⟩ => rfl

theorem kOf_apply (x1 : Vec Ideal S1024x256 .bf16) (κ : Fin n) (e : Fin 256) : kOf tf x1 (ix2 κ e) = x1 (ix2 (κ.castLE hn) e) := by
  refine congrArg x1 (funext fun a => Fin.ext ?_)
  match a with
  | ⟨0, _⟩ => show 0 + 1 * κ.val = κ.val; omega
  | ⟨1, _⟩ => show 0 + 1 * e.val = e.val; omega

theorem vOf_apply (x2 : Vec Ideal S1024x128 .bf16) (κ : Fin n) (e : Fin 128) : vOf tf x2 (ix2 κ e) = x2 (ix2 (κ.castLE hn) e) := by
  refine congrArg x2 (funext fun a => Fin.ext ?_)
  match a with
  | ⟨0, _⟩ => show 0 + 1 * κ.val = κ.val; omega
  | ⟨1, _⟩ => show 0 + 1 * e.val = e.val; omega

theorem aOf_apply (A : Vec Ideal S1024x256 .f32) (κ : Fin n) (e : Fin 256) : aOf tf A (ix2 κ e) = A (ix2 (κ.castLE hn) e) := by
  refine congrArg A (funext fun a => Fin.ext ?_)
  match a with
  | ⟨0, _⟩ => show 0 + 1 * κ.val = κ.val; omega
  | ⟨1, _⟩ => show 0 + 1 * e.val = e.val; omega

theorem bOf_apply (B : Vec Ideal S1024x128 .f32) (κ : Fin n) (e : Fin 128) : bOf tf B (ix2 κ e) = B (ix2 (κ.castLE hn) e) := by
  refine congrArg B (funext fun a => Fin.ext ?_)
  match a with
  | ⟨0, _⟩ => show 0 + 1 * κ.val = κ.val; omega
  | ⟨1, _⟩ => show 0 + 1 * e.val = e.val; omega

variable (x0 : Vec Ideal S2048x256 .bf16) (x1 : Vec Ideal S1024x256 .bf16) (x2 : Vec Ideal S1024x128 .bf16) (x3 : Vec Ideal S2048x128 .f32) (x4 : Vec Ideal S1x2048x1 .f32) (x5 : Vec Ideal S2048x128 .f32)
variable (a b : ℕ) (hM : ∀ r κ : ℕ, r < 256 → κ < 1024 → ((b + κ) / 64 ≤ (a + (o + r)) / 64 ↔ κ < n ∧ keep w r κ))

theorem sub_bot' (x : EReal) : (⊥ : EReal) - x = ⊥ := by rw [sub_eq_add_neg, EReal.bot_add]

include hM hw in
/-- The weights of a step are those of the block at its rows. -/
theorem tileP_block (r : Fin 256) (κ : Fin n) :
    tileP tf w (qOf rf x0) (kOf tf x1) (lOf rf x4) (ix2 r κ) = mP a b x0 x1 x4 (row o rf.le r) (κ.castLE hn) := by
  have h := hM r.val κ.val r.isLt (by omega)
  rw [tileP_apply, tileS_apply tf w hn hw, lOf_apply, mP]
  by_cases hk : keep w r.val κ.val
  · have h' : (b + (κ.castLE hn).val) / 64 ≤ (a + (row o rf.le r).val) / 64 := h.2 ⟨κ.isLt, hk⟩
    rw [if_pos hk, if_pos h', mS]
    simp only [qOf_apply, kOf_apply tf hn]
  · have h' : ¬ (b + (κ.castLE hn).val) / 64 ≤ (a + (row o rf.le r).val) / 64 := fun h'' => hk (h.1 h'').2
    rw [if_neg hk, if_neg h', sub_bot', Ideal.exp2_bot]

include hM hw in
/-- The gradient of the logits of a step is that of the block at its rows. -/
theorem tileDs_block (r : Fin 256) (κ : Fin n) :
    tileDs tf w (qOf rf x0) (kOf tf x1) (lOf rf x4) (dOf rf x5) (vOf tf x2) (dOf rf x3) (ix2 r κ) = mDs a b x0 x1 x2 x3 x4 x5 (row o rf.le r) (κ.castLE hn) := by
  rw [tileDs_apply, tileP_block tf rf w hn hw x0 x1 x4 a b hM, mDs]
  simp only [dOf_apply, vOf_apply tf hn]

include hM in
theorem mP_out (r : Fin 256) (κ : Fin 1024) (hκ : n ≤ κ.val) : mP a b x0 x1 x4 (row o rf.le r) κ = 0 :=
  if_neg fun h => by
    have := ((hM r.val κ.val r.isLt κ.isLt).1 h).1
    omega

include hM in
theorem mDs_out (r : Fin 256) (κ : Fin 1024) (hκ : n ≤ κ.val) : mDs a b x0 x1 x2 x3 x4 x5 (row o rf.le r) κ = 0 := by
  rw [mDs, mP_out rf w x0 x1 x4 a b hM r κ hκ, zero_mul]

include hM hn hw in
theorem stepB_apply (B : Vec Ideal S1024x128 .f32) (κ : Fin 1024) (c : Fin 128) :
    stepB tf rf w x0 x1 x2 x3 x4 x5 B (ix2 κ c) = B (ix2 κ c) + ∑ r : Fin 256, mP a b x0 x1 x4 (row o rf.le r) κ * x5 (ix2 (row o rf.le r) c) := by
  unfold stepB put
  by_cases hκ : κ.val < n
  · have hin : ∀ a : Fin 2, (![0, 0] : Fin 2 → ℕ) a ≤ ((ix2 κ c : S1024x128.Idx) a).val ∧ ((ix2 κ c : S1024x128.Idx) a).val < (![0, 0] : Fin 2 → ℕ) a + (Mat n 128).size a := by
      intro a
      match a with
      | ⟨0, _⟩ => exact ⟨Nat.zero_le _, by show κ.val < 0 + n; omega⟩
      | ⟨1, _⟩ => exact ⟨Nat.zero_le _, by show c.val < 0 + 128; omega⟩
    rw [dif_pos hin]
    have e : (Rect.unitLocal (s := S1024x128) (off := ![0, 0]) (size := (Mat n 128).size) (ix2 κ c) hin : (Mat n 128).Idx) = ix2 ⟨κ.val, hκ⟩ c := by
      funext a; apply Fin.ext
      match a with
      | ⟨0, _⟩ => exact Nat.sub_zero _
      | ⟨1, _⟩ => exact Nat.sub_zero _
    refine (congrArg _ e).trans ?_
    rw [tileV_apply, bOf_apply tf hn]
    simp only [dOf_apply, tileP_block tf rf w hn hw x0 x1 x4 a b hM]
    rfl
  · have hout : ¬ ∀ a : Fin 2, (![0, 0] : Fin 2 → ℕ) a ≤ ((ix2 κ c : S1024x128.Idx) a).val ∧ ((ix2 κ c : S1024x128.Idx) a).val < (![0, 0] : Fin 2 → ℕ) a + (Mat n 128).size a := fun h => by
      have := (h 0).2
      exact hκ (by simpa using this)
    rw [dif_neg hout, Finset.sum_eq_zero, add_zero]
    intro r _
    rw [mP_out rf w x0 x1 x4 a b hM r κ (by omega), zero_mul]

include hM hn hw in
theorem stepA_apply (A : Vec Ideal S1024x256 .f32) (κ : Fin 1024) (c : Fin 256) :
    stepA tf rf w x0 x1 x2 x3 x4 x5 A (ix2 κ c) = A (ix2 κ c) + (∑ r : Fin 256, mDs a b x0 x1 x2 x3 x4 x5 (row o rf.le r) κ * x0 (ix2 (row o rf.le r) c)) * ((Real.log 2 : ℝ) : EReal) := by
  unfold stepA put
  by_cases hκ : κ.val < n
  · have hin : ∀ a : Fin 2, (![0, 0] : Fin 2 → ℕ) a ≤ ((ix2 κ c : S1024x256.Idx) a).val ∧ ((ix2 κ c : S1024x256.Idx) a).val < (![0, 0] : Fin 2 → ℕ) a + (Mat n 256).size a := by
      intro a
      match a with
      | ⟨0, _⟩ => exact ⟨Nat.zero_le _, by show κ.val < 0 + n; omega⟩
      | ⟨1, _⟩ => exact ⟨Nat.zero_le _, by show c.val < 0 + 256; omega⟩
    rw [dif_pos hin]
    have e : (Rect.unitLocal (s := S1024x256) (off := ![0, 0]) (size := (Mat n 256).size) (ix2 κ c) hin : (Mat n 256).Idx) = ix2 ⟨κ.val, hκ⟩ c := by
      funext a; apply Fin.ext
      match a with
      | ⟨0, _⟩ => exact Nat.sub_zero _
      | ⟨1, _⟩ => exact Nat.sub_zero _
    refine (congrArg _ e).trans ?_
    rw [tileK_apply, aOf_apply tf hn]
    simp only [qOf_apply, tileDs_block tf rf w hn hw x0 x1 x2 x3 x4 x5 a b hM]
    rfl
  · have hout : ¬ ∀ a : Fin 2, (![0, 0] : Fin 2 → ℕ) a ≤ ((ix2 κ c : S1024x256.Idx) a).val ∧ ((ix2 κ c : S1024x256.Idx) a).val < (![0, 0] : Fin 2 → ℕ) a + (Mat n 256).size a := fun h => by
      have := (h 0).2
      exact hκ (by simpa using this)
    rw [dif_neg hout, Finset.sum_eq_zero, zero_mul, add_zero]
    intro r _
    rw [mDs_out rf w x0 x1 x2 x3 x4 x5 a b hM r κ (by omega), zero_mul]

/-- A sum over the first keys is the sum over all, where the others add nothing. -/
theorem sum_keys (f : Fin 1024 → EReal) (h0 : ∀ κ : Fin 1024, n ≤ κ.val → f κ = 0) : ∑ κ : Fin n, f (κ.castLE hn) = ∑ κ : Fin 1024, f κ := by
  refine (Finset.sum_map Finset.univ ⟨fun κ : Fin n => κ.castLE hn, Fin.castLE_injective hn⟩ f).symm.trans ?_
  refine Finset.sum_subset (Finset.subset_univ _) fun κ _ hκ => h0 κ ?_
  by_contra hlt
  exact hκ (Finset.mem_map.2 ⟨⟨κ.val, by omega⟩, Finset.mem_univ _, rfl⟩)

include hM hn hw in
theorem stepD_apply (off : Fin 2 → ℕ) (hoff : ∀ a, off a + S256x256.size a ≤ S8192x256.size a) (h0 : off 0 = a + o) (h1 : off 1 = 0)
    (D : Vec Ideal S8192x256 .f32) (ρ : Fin 8192) (c : Fin 256) (Z : ℕ → EReal)
    (hZ : ∀ r : Fin 2048, Z r.val = (∑ κ : Fin 1024, mDs a b x0 x1 x2 x3 x4 x5 r κ * x1 (ix2 κ c)) * ((Real.log 2 : ℝ) : EReal)) :
    stepD tf rf w off hoff x0 x1 x2 x3 x4 x5 D (ix2 ρ c) =
      if a + o ≤ ρ.val ∧ ρ.val < a + o + 256 then D (ix2 ρ c) + Z (ρ.val - a) else D (ix2 ρ c) := by
  unfold stepD put
  by_cases hρ : a + o ≤ ρ.val ∧ ρ.val < a + o + 256
  · have hin : ∀ x : Fin 2, off x ≤ ((ix2 ρ c : S8192x256.Idx) x).val ∧ ((ix2 ρ c : S8192x256.Idx) x).val < off x + S256x256.size x := by
      intro x
      match x with
      | ⟨0, _⟩ => show off 0 ≤ ρ.val ∧ ρ.val < off 0 + 256; omega
      | ⟨1, _⟩ => show off 1 ≤ c.val ∧ c.val < off 1 + 256; omega
    rw [dif_pos hin, if_pos hρ]
    have hb : ρ.val - (a + o) < 256 := by omega
    have e : (Rect.unitLocal (s := S8192x256) (off := off) (size := S256x256.size) (ix2 ρ c) hin : S256x256.Idx) = ix2 ⟨ρ.val - (a + o), hb⟩ c := by
      funext x; apply Fin.ext
      match x with
      | ⟨0, _⟩ => show ρ.val - off 0 = ρ.val - (a + o); omega
      | ⟨1, _⟩ => show c.val - off 1 = c.val; omega
    refine (congrArg _ e).trans ?_
    rw [tileQ_apply]
    have er : (row o rf.le ⟨ρ.val - (a + o), hb⟩).val = ρ.val - a := by show o + (ρ.val - (a + o)) = ρ.val - a; omega
    have ed : window D off S256x256.size hoff (ix2 ⟨ρ.val - (a + o), hb⟩ c) = D (ix2 ρ c) := by
      refine congrArg D (funext fun x => Fin.ext ?_)
      match x with
      | ⟨0, _⟩ => show off 0 + 1 * (ρ.val - (a + o)) = ρ.val; omega
      | ⟨1, _⟩ => show off 1 + 1 * c.val = c.val; omega
    refine congrArg₂ (· + ·) ed ?_
    rw [← er, hZ]
    refine congrArg (· * ((Real.log 2 : ℝ) : EReal)) ?_
    rw [← sum_keys hn (fun κ => mDs a b x0 x1 x2 x3 x4 x5 (row o rf.le ⟨ρ.val - (a + o), hb⟩) κ * x1 (ix2 κ c))
      (fun κ hκ => by rw [mDs_out rf w x0 x1 x2 x3 x4 x5 a b hM _ κ hκ, zero_mul])]
    simp only [tileDs_block tf rf w hn hw x0 x1 x2 x3 x4 x5 a b hM, kOf_apply tf hn]
  · have hout : ¬ ∀ x : Fin 2, off x ≤ ((ix2 ρ c : S8192x256.Idx) x).val ∧ ((ix2 ρ c : S8192x256.Idx) x).val < off x + S256x256.size x := fun h => by
      have h' : off 0 ≤ ρ.val ∧ ρ.val < off 0 + 256 := h 0
      omega
    rw [dif_neg hout, if_neg hρ]

end Steps

end Cert.KernelIdeal.Gen
-- ==== Proof.BodyRead.lean ====
module

public import proofs.«01_k».proof.Proof.StepRead
public import proofs.«01_k».proof.Proof.Launch
public import Idealize.ShloMosaic.PureOps.Ideal.Laws
public import Idealize.ShloMosaic.Lib.Pointwise
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.TcCoe
open Idealize.ShloMosaic.ValueIdx (contrEquiv1 contrEquiv1_symm_val)
open Idealize.ShloMosaic.VecWindow (window put)
open scoped BigOperators

/-! What one point of the grid adds to the three sums. -/

/-- The logarithm of two is neither negative nor infinite. -/
theorem ln2_nonneg : (0 : EReal) ≤ ((Real.log 2 : ℝ) : EReal) := EReal.coe_nonneg.2 (Real.log_nonneg (by norm_num))
theorem ln2_ne_top : ((Real.log 2 : ℝ) : EReal) ≠ ⊤ := EReal.coe_ne_top _

theorem sum_mul_ln2 {ι : Type} (s : Finset ι) (f : ι → EReal) : (∑ k ∈ s, f k) * ((Real.log 2 : ℝ) : EReal) = ∑ k ∈ s, f k * ((Real.log 2 : ℝ) : EReal) := by
  classical
  induction s using Finset.induction_on with
  | empty => simp
  | insert a s ha ih => rw [Finset.sum_insert ha, Finset.sum_insert ha, EReal.right_distrib_of_nonneg_of_ne_top ln2_nonneg ln2_ne_top, ih]

/-- The sum over the rows of a block, by the eight steps. -/
theorem sum_rows (G : Fin 2048 → EReal) :
    ∑ r : Fin 2048, G r = (∑ r : Fin 256, G (row 0 rf0.le r)) + (∑ r : Fin 256, G (row 256 rf1.le r)) + (∑ r : Fin 256, G (row 512 rf2.le r)) + (∑ r : Fin 256, G (row 768 rf3.le r))
      + (∑ r : Fin 256, G (row 1024 rf4.le r)) + (∑ r : Fin 256, G (row 1280 rf5.le r)) + (∑ r : Fin 256, G (row 1536 rf6.le r)) + (∑ r : Fin 256, G (row 1792 rf7.le r)) := by
  rw [Fin.sum_univ_tiles 8 256 rfl G, Fin.sum_univ_eight]
  rfl

/-- The sum over the rows of a block whose first half adds nothing. -/
theorem sum_rows_half (G : Fin 2048 → EReal) (h0 : ∀ r : Fin 2048, r.val < 1024 → G r = 0) :
    ∑ r : Fin 2048, G r = (∑ r : Fin 256, G (row 1024 rf4.le r)) + (∑ r : Fin 256, G (row 1280 rf5.le r)) + (∑ r : Fin 256, G (row 1536 rf6.le r)) + (∑ r : Fin 256, G (row 1792 rf7.le r)) := by
  rw [sum_rows, Finset.sum_eq_zero (f := fun r => G (row 0 rf0.le r)) (fun r _ => h0 _ (by show 0 + r.val < 1024; omega)),
    Finset.sum_eq_zero (f := fun r => G (row 256 rf1.le r)) (fun r _ => h0 _ (by show 256 + r.val < 1024; omega)),
    Finset.sum_eq_zero (f := fun r => G (row 512 rf2.le r)) (fun r _ => h0 _ (by show 512 + r.val < 1024; omega)),
    Finset.sum_eq_zero (f := fun r => G (row 768 rf3.le r)) (fun r _ => h0 _ (by show 768 + r.val < 1024; omega))]
  simp only [zero_add]

theorem off1_at (i : grid0.Coords) (w : BitVec 32) (hw : w.toNat ≤ 1792) : k0_off1 i w 0 = 2048 * (i 2).val + w.toNat := by
  have h2 : (i 2).val < 4 := (i 2).isLt
  show ((BitVec.ofNat 32 (i 2).val) * 2048#32 + w).toNat = _
  rw [BitVec.toNat_add, BitVec.toNat_mul, BitVec.toNat_ofNat, BitVec.toNat_ofNat]; omega
theorem off2_at (i : grid0.Coords) (w : BitVec 32) (hw : w.toNat ≤ 1792) : k0_off2 i w 0 = 2048 * (i 2).val + w.toNat := by
  have h2 : (i 2).val < 4 := (i 2).isLt
  show ((BitVec.ofNat 32 (i 2).val) * 2048#32 + w).toNat = _
  rw [BitVec.toNat_add, BitVec.toNat_mul, BitVec.toNat_ofNat, BitVec.toNat_ofNat]; omega
theorem off3_at (i : grid0.Coords) (w : BitVec 32) (hw : w.toNat ≤ 1792) : k0_off3 i w 0 = 2048 * (i 2).val + w.toNat := by
  have h2 : (i 2).val < 4 := (i 2).isLt
  show ((BitVec.ofNat 32 (i 2).val) * 2048#32 + w).toNat = _
  rw [BitVec.toNat_add, BitVec.toNat_mul, BitVec.toNat_ofNat, BitVec.toNat_ofNat]; omega

/-- What is added to row `ρ` once the first `p` rows of the block at `a` are done. -/
def zto (a p : ℕ) (Z : ℕ → EReal) (ρ : ℕ) : EReal := if a ≤ ρ ∧ ρ < a + p then Z (ρ - a) else 0

section Points

variable (x0 : Vec Ideal S2048x256 .bf16) (x1 : Vec Ideal S1024x256 .bf16) (x2 : Vec Ideal S1024x128 .bf16) (x3 : Vec Ideal S2048x128 .f32) (x4 : Vec Ideal S1x2048x1 .f32) (x5 : Vec Ideal S2048x128 .f32)

/-- What a point adds to a row of the queries' gradient. -/
def rowZ (a b : ℕ) (c : Fin 256) (r : ℕ) : EReal :=
  if h : r < 2048 then (∑ κ : Fin 1024, mDs a b x0 x1 x2 x3 x4 x5 ⟨r, h⟩ κ * x1 (ix2 κ c)) * ((Real.log 2 : ℝ) : EReal) else 0

theorem rowZ_val (a b : ℕ) (c : Fin 256) (r : Fin 2048) :
    rowZ x0 x1 x2 x3 x4 x5 a b c r.val = (∑ κ : Fin 1024, mDs a b x0 x1 x2 x3 x4 x5 r κ * x1 (ix2 κ c)) * ((Real.log 2 : ℝ) : EReal) := dif_pos r.isLt

/-- Where the mask lets nothing through, nothing is added. -/
theorem mP_zero (a b : ℕ) (r : Fin 2048) (κ : Fin 1024) (h : (a + r.val) / 64 < (b + κ.val) / 64) : mP a b x0 x1 x4 r κ = 0 := if_neg (by omega)
theorem mDs_zero (a b : ℕ) (r : Fin 2048) (κ : Fin 1024) (h : (a + r.val) / 64 < (b + κ.val) / 64) : mDs a b x0 x1 x2 x3 x4 x5 r κ = 0 := by
  rw [mDs, mP_zero x0 x1 x4 a b r κ h, zero_mul]
theorem rowZ_zero (a b : ℕ) (c : Fin 256) (r : ℕ) (h : ∀ κ, κ < 1024 → (a + r) / 64 < (b + κ) / 64) : rowZ x0 x1 x2 x3 x4 x5 a b c r = 0 := by
  unfold rowZ
  split
  · rw [Finset.sum_eq_zero, zero_mul]
    intro κ _
    rw [mDs_zero x0 x1 x2 x3 x4 x5 a b _ κ (h κ.val κ.isLt), zero_mul]
  · rfl

theorem stepD_chain {n : ℕ} (tf : TileFacts n) {o : ℕ} (rf : RowFacts o) (w : Option (BitVec 32)) (hn : n ≤ 1024) (hw : ∀ a, w = some a → a.toNat ≤ 1024) (a b : ℕ)
    (hM : ∀ r κ : ℕ, r < 256 → κ < 1024 → ((b + κ) / 64 ≤ (a + (o + r)) / 64 ↔ κ < n ∧ keep w r κ))
    (off : Fin 2 → ℕ) (hoff : ∀ a, off a + S256x256.size a ≤ S8192x256.size a) (h0 : off 0 = a + o) (h1 : off 1 = 0)
    (D D0 : Vec Ideal S8192x256 .f32) (ρ : Fin 8192) (c : Fin 256)
    (hD : D (ix2 ρ c) = D0 (ix2 ρ c) + zto a o (rowZ x0 x1 x2 x3 x4 x5 a b c) ρ.val) :
    stepD tf rf w off hoff x0 x1 x2 x3 x4 x5 D (ix2 ρ c) = D0 (ix2 ρ c) + zto a (o + 256) (rowZ x0 x1 x2 x3 x4 x5 a b c) ρ.val := by
  rw [stepD_apply tf rf w hn hw x0 x1 x2 x3 x4 x5 a b hM off hoff h0 h1 D ρ c (rowZ x0 x1 x2 x3 x4 x5 a b c) (rowZ_val x0 x1 x2 x3 x4 x5 a b c), hD]
  unfold zto
  by_cases h : a + o ≤ ρ.val ∧ ρ.val < a + o + 256
  · rw [if_pos h, if_neg (by omega), if_pos (by omega), add_zero]
  · rw [if_neg h]
    by_cases h' : a ≤ ρ.val ∧ ρ.val < a + o
    · rw [if_pos h', if_pos (by omega)]
    · rw [if_neg h', if_neg (by omega)]

theorem wholeB_apply (a b : ℕ) (hab : b + 1024 ≤ a) (B : Vec Ideal S1024x128 .f32) (κ : Fin 1024) (c : Fin 128) :
    wholeB x0 x1 x2 x3 x4 x5 B (ix2 κ c) = B (ix2 κ c) + ∑ r : Fin 2048, mP a b x0 x1 x4 r κ * x5 (ix2 r c) := by
  unfold wholeB
  rw [stepB_apply tf1024 rf7 none (by norm_num) (by intro a h; cases h) x0 x1 x2 x3 x4 x5 a b (by intro r κ hr hκ; simp only [keep, and_true]; omega)]
  rw [stepB_apply tf1024 rf6 none (by norm_num) (by intro a h; cases h) x0 x1 x2 x3 x4 x5 a b (by intro r κ hr hκ; simp only [keep, and_true]; omega)]
  rw [stepB_apply tf1024 rf5 none (by norm_num) (by intro a h; cases h) x0 x1 x2 x3 x4 x5 a b (by intro r κ hr hκ; simp only [keep, and_true]; omega)]
  rw [stepB_apply tf1024 rf4 none (by norm_num) (by intro a h; cases h) x0 x1 x2 x3 x4 x5 a b (by intro r κ hr hκ; simp only [keep, and_true]; omega)]
  rw [stepB_apply tf1024 rf3 none (by norm_num) (by intro a h; cases h) x0 x1 x2 x3 x4 x5 a b (by intro r κ hr hκ; simp only [keep, and_true]; omega)]
  rw [stepB_apply tf1024 rf2 none (by norm_num) (by intro a h; cases h) x0 x1 x2 x3 x4 x5 a b (by intro r κ hr hκ; simp only [keep, and_true]; omega)]
  rw [stepB_apply tf1024 rf1 none (by norm_num) (by intro a h; cases h) x0 x1 x2 x3 x4 x5 a b (by intro r κ hr hκ; simp only [keep, and_true]; omega)]
  rw [stepB_apply tf1024 rf0 none (by norm_num) (by intro a h; cases h) x0 x1 x2 x3 x4 x5 a b (by intro r κ hr hκ; simp only [keep, and_true]; omega)]
  rw [sum_rows (fun r => mP a b x0 x1 x4 r κ * x5 (ix2 r c))]
  simp only [add_assoc]

theorem wholeA_apply (a b : ℕ) (hab : b + 1024 ≤ a) (A : Vec Ideal S1024x256 .f32) (κ : Fin 1024) (c : Fin 256) :
    wholeA x0 x1 x2 x3 x4 x5 A (ix2 κ c) = A (ix2 κ c) + ∑ r : Fin 2048, mDs a b x0 x1 x2 x3 x4 x5 r κ * x0 (ix2 r c) * ((Real.log 2 : ℝ) : EReal) := by
  unfold wholeA
  rw [stepA_apply tf1024 rf7 none (by norm_num) (by intro a h; cases h) x0 x1 x2 x3 x4 x5 a b (by intro r κ hr hκ; simp only [keep, and_true]; omega)]
  rw [stepA_apply tf1024 rf6 none (by norm_num) (by intro a h; cases h) x0 x1 x2 x3 x4 x5 a b (by intro r κ hr hκ; simp only [keep, and_true]; omega)]
  rw [stepA_apply tf1024 rf5 none (by norm_num) (by intro a h; cases h) x0 x1 x2 x3 x4 x5 a b (by intro r κ hr hκ; simp only [keep, and_true]; omega)]
  rw [stepA_apply tf1024 rf4 none (by norm_num) (by intro a h; cases h) x0 x1 x2 x3 x4 x5 a b (by intro r κ hr hκ; simp only [keep, and_true]; omega)]
  rw [stepA_apply tf1024 rf3 none (by norm_num) (by intro a h; cases h) x0 x1 x2 x3 x4 x5 a b (by intro r κ hr hκ; simp only [keep, and_true]; omega)]
  rw [stepA_apply tf1024 rf2 none (by norm_num) (by intro a h; cases h) x0 x1 x2 x3 x4 x5 a b (by intro r κ hr hκ; simp only [keep, and_true]; omega)]
  rw [stepA_apply tf1024 rf1 none (by norm_num) (by intro a h; cases h) x0 x1 x2 x3 x4 x5 a b (by intro r κ hr hκ; simp only [keep, and_true]; omega)]
  rw [stepA_apply tf1024 rf0 none (by norm_num) (by intro a h; cases h) x0 x1 x2 x3 x4 x5 a b (by intro r κ hr hκ; simp only [keep, and_true]; omega)]
  simp only [sum_mul_ln2]
  rw [sum_rows (fun r => mDs a b x0 x1 x2 x3 x4 x5 r κ * x0 (ix2 r c) * ((Real.log 2 : ℝ) : EReal))]
  simp only [add_assoc]

theorem wholeD_apply (i : grid0.Coords) (hc : k0_cond3 i = 1#1) (a b : ℕ) (hi : a = 2048 * (i 2).val) (hab : b + 1024 ≤ a) (D : Vec Ideal S8192x256 .f32) (ρ : Fin 8192) (c : Fin 256) :
    wholeD i hc x0 x1 x2 x3 x4 x5 D (ix2 ρ c) = D (ix2 ρ c) + zto a 2048 (rowZ x0 x1 x2 x3 x4 x5 a b c) ρ.val := by
  unfold wholeD
  refine stepD_chain x0 x1 x2 x3 x4 x5 tf1024 rf7 none (by norm_num) (by intro a h; cases h) a b (by intro r κ hr hκ; simp only [keep, and_true]; omega) _ (k0_off1_inb i hc 7) (by rw [hi]; exact off1_at i 1792#32 (by decide)) rfl _ D ρ c ?_
  refine stepD_chain x0 x1 x2 x3 x4 x5 tf1024 rf6 none (by norm_num) (by intro a h; cases h) a b (by intro r κ hr hκ; simp only [keep, and_true]; omega) _ (k0_off1_inb i hc 6) (by rw [hi]; exact off1_at i 1536#32 (by decide)) rfl _ D ρ c ?_
  refine stepD_chain x0 x1 x2 x3 x4 x5 tf1024 rf5 none (by norm_num) (by intro a h; cases h) a b (by intro r κ hr hκ; simp only [keep, and_true]; omega) _ (k0_off1_inb i hc 5) (by rw [hi]; exact off1_at i 1280#32 (by decide)) rfl _ D ρ c ?_
  refine stepD_chain x0 x1 x2 x3 x4 x5 tf1024 rf4 none (by norm_num) (by intro a h; cases h) a b (by intro r κ hr hκ; simp only [keep, and_true]; omega) _ (k0_off1_inb i hc 4) (by rw [hi]; exact off1_at i 1024#32 (by decide)) rfl _ D ρ c ?_
  refine stepD_chain x0 x1 x2 x3 x4 x5 tf1024 rf3 none (by norm_num) (by intro a h; cases h) a b (by intro r κ hr hκ; simp only [keep, and_true]; omega) _ (k0_off1_inb i hc 3) (by rw [hi]; exact off1_at i 768#32 (by decide)) rfl _ D ρ c ?_
  refine stepD_chain x0 x1 x2 x3 x4 x5 tf1024 rf2 none (by norm_num) (by intro a h; cases h) a b (by intro r κ hr hκ; simp only [keep, and_true]; omega) _ (k0_off1_inb i hc 2) (by rw [hi]; exact off1_at i 512#32 (by decide)) rfl _ D ρ c ?_
  refine stepD_chain x0 x1 x2 x3 x4 x5 tf1024 rf1 none (by norm_num) (by intro a h; cases h) a b (by intro r κ hr hκ; simp only [keep, and_true]; omega) _ (k0_off1_inb i hc 1) (by rw [hi]; exact off1_at i 256#32 (by decide)) rfl _ D ρ c ?_
  refine stepD_chain x0 x1 x2 x3 x4 x5 tf1024 rf0 none (by norm_num) (by intro a h; cases h) a b (by intro r κ hr hκ; simp only [keep, and_true]; omega) _ (k0_off1_inb i hc 0) (by rw [hi]; exact off1_at i 0#32 (by decide)) rfl _ D ρ c ?_
  rw [zto, if_neg (by omega), add_zero]

theorem part0B_apply (a b : ℕ) (hab : b = a) (ha : a % 64 = 0) (B : Vec Ideal S1024x128 .f32) (κ : Fin 1024) (c : Fin 128) :
    part0B x0 x1 x2 x3 x4 x5 B (ix2 κ c) = B (ix2 κ c) + ∑ r : Fin 2048, mP a b x0 x1 x4 r κ * x5 (ix2 r c) := by
  unfold part0B
  rw [stepB_apply tf1024 rf7 none (by norm_num) (by intro a h; cases h) x0 x1 x2 x3 x4 x5 a b (by intro r κ hr hκ; simp only [keep, and_true]; omega)]
  rw [stepB_apply tf1024 rf6 none (by norm_num) (by intro a h; cases h) x0 x1 x2 x3 x4 x5 a b (by intro r κ hr hκ; simp only [keep, and_true]; omega)]
  rw [stepB_apply tf1024 rf5 none (by norm_num) (by intro a h; cases h) x0 x1 x2 x3 x4 x5 a b (by intro r κ hr hκ; simp only [keep, and_true]; omega)]
  rw [stepB_apply tf1024 rf4 none (by norm_num) (by intro a h; cases h) x0 x1 x2 x3 x4 x5 a b (by intro r κ hr hκ; simp only [keep, and_true]; omega)]
  rw [stepB_apply tf1024 rf3 (some 768#32) (by norm_num) (by intro a h; cases h; decide) x0 x1 x2 x3 x4 x5 a b (by intro r κ hr hκ; simp only [keep, BitVec.toNat_ofNat]; omega)]
  rw [stepB_apply tf768 rf2 (some 512#32) (by norm_num) (by intro a h; cases h; decide) x0 x1 x2 x3 x4 x5 a b (by intro r κ hr hκ; simp only [keep, BitVec.toNat_ofNat]; omega)]
  rw [stepB_apply tf512 rf1 (some 256#32) (by norm_num) (by intro a h; cases h; decide) x0 x1 x2 x3 x4 x5 a b (by intro r κ hr hκ; simp only [keep, BitVec.toNat_ofNat]; omega)]
  rw [stepB_apply tf256 rf0 (some 0#32) (by norm_num) (by intro a h; cases h; decide) x0 x1 x2 x3 x4 x5 a b (by intro r κ hr hκ; simp only [keep, BitVec.toNat_ofNat]; omega)]
  rw [sum_rows (fun r => mP a b x0 x1 x4 r κ * x5 (ix2 r c))]
  simp only [add_assoc]

theorem part0A_apply (a b : ℕ) (hab : b = a) (ha : a % 64 = 0) (A : Vec Ideal S1024x256 .f32) (κ : Fin 1024) (c : Fin 256) :
    part0A x0 x1 x2 x3 x4 x5 A (ix2 κ c) = A (ix2 κ c) + ∑ r : Fin 2048, mDs a b x0 x1 x2 x3 x4 x5 r κ * x0 (ix2 r c) * ((Real.log 2 : ℝ) : EReal) := by
  unfold part0A
  rw [stepA_apply tf1024 rf7 none (by norm_num) (by intro a h; cases h) x0 x1 x2 x3 x4 x5 a b (by intro r κ hr hκ; simp only [keep, and_true]; omega)]
  rw [stepA_apply tf1024 rf6 none (by norm_num) (by intro a h; cases h) x0 x1 x2 x3 x4 x5 a b (by intro r κ hr hκ; simp only [keep, and_true]; omega)]
  rw [stepA_apply tf1024 rf5 none (by norm_num) (by intro a h; cases h) x0 x1 x2 x3 x4 x5 a b (by intro r κ hr hκ; simp only [keep, and_true]; omega)]
  rw [stepA_apply tf1024 rf4 none (by norm_num) (by intro a h; cases h) x0 x1 x2 x3 x4 x5 a b (by intro r κ hr hκ; simp only [keep, and_true]; omega)]
  rw [stepA_apply tf1024 rf3 (some 768#32) (by norm_num) (by intro a h; cases h; decide) x0 x1 x2 x3 x4 x5 a b (by intro r κ hr hκ; simp only [keep, BitVec.toNat_ofNat]; omega)]
  rw [stepA_apply tf768 rf2 (some 512#32) (by norm_num) (by intro a h; cases h; decide) x0 x1 x2 x3 x4 x5 a b (by intro r κ hr hκ; simp only [keep, BitVec.toNat_ofNat]; omega)]
  rw [stepA_apply tf512 rf1 (some 256#32) (by norm_num) (by intro a h; cases h; decide) x0 x1 x2 x3 x4 x5 a b (by intro r κ hr hκ; simp only [keep, BitVec.toNat_ofNat]; omega)]
  rw [stepA_apply tf256 rf0 (some 0#32) (by norm_num) (by intro a h; cases h; decide) x0 x1 x2 x3 x4 x5 a b (by intro r κ hr hκ; simp only [keep, BitVec.toNat_ofNat]; omega)]
  simp only [sum_mul_ln2]
  rw [sum_rows (fun r => mDs a b x0 x1 x2 x3 x4 x5 r κ * x0 (ix2 r c) * ((Real.log 2 : ℝ) : EReal))]
  simp only [add_assoc]

theorem part0D_apply (i : grid0.Coords) (hc : k0_cond4 i = 1#1) (a b : ℕ) (hi : a = 2048 * (i 2).val) (hab : b = a) (ha : a % 64 = 0) (D : Vec Ideal S8192x256 .f32) (ρ : Fin 8192) (c : Fin 256) :
    part0D i hc x0 x1 x2 x3 x4 x5 D (ix2 ρ c) = D (ix2 ρ c) + zto a 2048 (rowZ x0 x1 x2 x3 x4 x5 a b c) ρ.val := by
  unfold part0D
  refine stepD_chain x0 x1 x2 x3 x4 x5 tf1024 rf7 none (by norm_num) (by intro a h; cases h) a b (by intro r κ hr hκ; simp only [keep, and_true]; omega) _ (k0_off2_inb i hc 7) (by rw [hi]; exact off2_at i 1792#32 (by decide)) rfl _ D ρ c ?_
  refine stepD_chain x0 x1 x2 x3 x4 x5 tf1024 rf6 none (by norm_num) (by intro a h; cases h) a b (by intro r κ hr hκ; simp only [keep, and_true]; omega) _ (k0_off2_inb i hc 6) (by rw [hi]; exact off2_at i 1536#32 (by decide)) rfl _ D ρ c ?_
  refine stepD_chain x0 x1 x2 x3 x4 x5 tf1024 rf5 none (by norm_num) (by intro a h; cases h) a b (by intro r κ hr hκ; simp only [keep, and_true]; omega) _ (k0_off2_inb i hc 5) (by rw [hi]; exact off2_at i 1280#32 (by decide)) rfl _ D ρ c ?_
  refine stepD_chain x0 x1 x2 x3 x4 x5 tf1024 rf4 none (by norm_num) (by intro a h; cases h) a b (by intro r κ hr hκ; simp only [keep, and_true]; omega) _ (k0_off2_inb i hc 4) (by rw [hi]; exact off2_at i 1024#32 (by decide)) rfl _ D ρ c ?_
  refine stepD_chain x0 x1 x2 x3 x4 x5 tf1024 rf3 (some 768#32) (by norm_num) (by intro a h; cases h; decide) a b (by intro r κ hr hκ; simp only [keep, BitVec.toNat_ofNat]; omega) _ (k0_off2_inb i hc 3) (by rw [hi]; exact off2_at i 768#32 (by decide)) rfl _ D ρ c ?_
  refine stepD_chain x0 x1 x2 x3 x4 x5 tf768 rf2 (some 512#32) (by norm_num) (by intro a h; cases h; decide) a b (by intro r κ hr hκ; simp only [keep, BitVec.toNat_ofNat]; omega) _ (k0_off2_inb i hc 2) (by rw [hi]; exact off2_at i 512#32 (by decide)) rfl _ D ρ c ?_
  refine stepD_chain x0 x1 x2 x3 x4 x5 tf512 rf1 (some 256#32) (by norm_num) (by intro a h; cases h; decide) a b (by intro r κ hr hκ; simp only [keep, BitVec.toNat_ofNat]; omega) _ (k0_off2_inb i hc 1) (by rw [hi]; exact off2_at i 256#32 (by decide)) rfl _ D ρ c ?_
  refine stepD_chain x0 x1 x2 x3 x4 x5 tf256 rf0 (some 0#32) (by norm_num) (by intro a h; cases h; decide) a b (by intro r κ hr hκ; simp only [keep, BitVec.toNat_ofNat]; omega) _ (k0_off2_inb i hc 0) (by rw [hi]; exact off2_at i 0#32 (by decide)) rfl _ D ρ c ?_
  rw [zto, if_neg (by omega), add_zero]

theorem part1B_apply (a b : ℕ) (hab : b = a + 1024) (ha : a % 64 = 0) (B : Vec Ideal S1024x128 .f32) (κ : Fin 1024) (c : Fin 128) :
    part1B x0 x1 x2 x3 x4 x5 B (ix2 κ c) = B (ix2 κ c) + ∑ r : Fin 2048, mP a b x0 x1 x4 r κ * x5 (ix2 r c) := by
  unfold part1B
  rw [stepB_apply tf1024 rf7 (some 768#32) (by norm_num) (by intro a h; cases h; decide) x0 x1 x2 x3 x4 x5 a b (by intro r κ hr hκ; simp only [keep, BitVec.toNat_ofNat]; omega)]
  rw [stepB_apply tf768 rf6 (some 512#32) (by norm_num) (by intro a h; cases h; decide) x0 x1 x2 x3 x4 x5 a b (by intro r κ hr hκ; simp only [keep, BitVec.toNat_ofNat]; omega)]
  rw [stepB_apply tf512 rf5 (some 256#32) (by norm_num) (by intro a h; cases h; decide) x0 x1 x2 x3 x4 x5 a b (by intro r κ hr hκ; simp only [keep, BitVec.toNat_ofNat]; omega)]
  rw [stepB_apply tf256 rf4 (some 0#32) (by norm_num) (by intro a h; cases h; decide) x0 x1 x2 x3 x4 x5 a b (by intro r κ hr hκ; simp only [keep, BitVec.toNat_ofNat]; omega)]
  rw [sum_rows_half (fun r => mP a b x0 x1 x4 r κ * x5 (ix2 r c)) (fun r hr => by rw [mP_zero x0 x1 x4 a b r κ (by omega), zero_mul])]
  simp only [add_assoc]

theorem part1A_apply (a b : ℕ) (hab : b = a + 1024) (ha : a % 64 = 0) (A : Vec Ideal S1024x256 .f32) (κ : Fin 1024) (c : Fin 256) :
    part1A x0 x1 x2 x3 x4 x5 A (ix2 κ c) = A (ix2 κ c) + ∑ r : Fin 2048, mDs a b x0 x1 x2 x3 x4 x5 r κ * x0 (ix2 r c) * ((Real.log 2 : ℝ) : EReal) := by
  unfold part1A
  rw [stepA_apply tf1024 rf7 (some 768#32) (by norm_num) (by intro a h; cases h; decide) x0 x1 x2 x3 x4 x5 a b (by intro r κ hr hκ; simp only [keep, BitVec.toNat_ofNat]; omega)]
  rw [stepA_apply tf768 rf6 (some 512#32) (by norm_num) (by intro a h; cases h; decide) x0 x1 x2 x3 x4 x5 a b (by intro r κ hr hκ; simp only [keep, BitVec.toNat_ofNat]; omega)]
  rw [stepA_apply tf512 rf5 (some 256#32) (by norm_num) (by intro a h; cases h; decide) x0 x1 x2 x3 x4 x5 a b (by intro r κ hr hκ; simp only [keep, BitVec.toNat_ofNat]; omega)]
  rw [stepA_apply tf256 rf4 (some 0#32) (by norm_num) (by intro a h; cases h; decide) x0 x1 x2 x3 x4 x5 a b (by intro r κ hr hκ; simp only [keep, BitVec.toNat_ofNat]; omega)]
  simp only [sum_mul_ln2]
  rw [sum_rows_half (fun r => mDs a b x0 x1 x2 x3 x4 x5 r κ * x0 (ix2 r c) * ((Real.log 2 : ℝ) : EReal)) (fun r hr => by rw [mDs_zero x0 x1 x2 x3 x4 x5 a b r κ (by omega), zero_mul, zero_mul])]
  simp only [add_assoc]

theorem part1D_apply (i : grid0.Coords) (hc : k0_cond5 i = 1#1) (a b : ℕ) (hi : a = 2048 * (i 2).val) (hab : b = a + 1024) (ha : a % 64 = 0) (D : Vec Ideal S8192x256 .f32) (ρ : Fin 8192) (c : Fin 256) :
    part1D i hc x0 x1 x2 x3 x4 x5 D (ix2 ρ c) = D (ix2 ρ c) + zto a 2048 (rowZ x0 x1 x2 x3 x4 x5 a b c) ρ.val := by
  unfold part1D
  refine stepD_chain x0 x1 x2 x3 x4 x5 tf1024 rf7 (some 768#32) (by norm_num) (by intro a h; cases h; decide) a b (by intro r κ hr hκ; simp only [keep, BitVec.toNat_ofNat]; omega) _ (k0_off3_inb i hc 3) (by rw [hi]; exact off3_at i 1792#32 (by decide)) rfl _ D ρ c ?_
  refine stepD_chain x0 x1 x2 x3 x4 x5 tf768 rf6 (some 512#32) (by norm_num) (by intro a h; cases h; decide) a b (by intro r κ hr hκ; simp only [keep, BitVec.toNat_ofNat]; omega) _ (k0_off3_inb i hc 2) (by rw [hi]; exact off3_at i 1536#32 (by decide)) rfl _ D ρ c ?_
  refine stepD_chain x0 x1 x2 x3 x4 x5 tf512 rf5 (some 256#32) (by norm_num) (by intro a h; cases h; decide) a b (by intro r κ hr hκ; simp only [keep, BitVec.toNat_ofNat]; omega) _ (k0_off3_inb i hc 1) (by rw [hi]; exact off3_at i 1280#32 (by decide)) rfl _ D ρ c ?_
  refine stepD_chain x0 x1 x2 x3 x4 x5 tf256 rf4 (some 0#32) (by norm_num) (by intro a h; cases h; decide) a b (by intro r κ hr hκ; simp only [keep, BitVec.toNat_ofNat]; omega) _ (k0_off3_inb i hc 0) (by rw [hi]; exact off3_at i 1024#32 (by decide)) rfl _ D ρ c ?_
  unfold zto
  split
  · rw [rowZ_zero x0 x1 x2 x3 x4 x5 a b c _ (fun κ hκ => by omega), add_zero]
  · rw [add_zero]

/-- One point adds to the values' accumulator the products of its weights. -/
theorem bodyB_apply (t : Fin cfg0.N) (B : Vec Ideal S1024x128 .f32) (κ : Fin 1024) (c : Fin 128) :
    bodyB (grid0.coords t) x0 x1 x2 x3 x4 x5 B (ix2 κ c) =
      (if t.val % 4 = 0 then 0 else B (ix2 κ c)) + ∑ r : Fin 2048, mP (2048 * (t.val % 4)) (1024 * (t.val / 4 % 8)) x0 x1 x4 r κ * x5 (ix2 r c) := by
  unfold bodyB
  have hz : (if accCond (grid0.coords t) = 1#1 then k0_pay3 (F := Ideal) else B) (ix2 κ c) = if t.val % 4 = 0 then 0 else B (ix2 κ c) := by
    by_cases h : t.val % 4 = 0
    · rw [if_pos ((onA t).2 h), if_pos h]; unfold k0_pay3; pointwise
    · rw [if_neg (fun h' => h ((onA t).1 h')), if_neg h]
  rw [← hz]
  generalize (if accCond (grid0.coords t) = 1#1 then k0_pay3 (F := Ideal) else B) = B1
  by_cases h3 : t.val / 4 % 8 + 1 ≤ 2 * (t.val % 4)
  · rw [if_pos ((on3 t).2 h3), if_neg (fun h => absurd ((on4 t).1 h) (by omega)), if_neg (fun h => absurd ((on5 t).1 h) (by omega))]
    exact wholeB_apply x0 x1 x2 x3 x4 x5 _ _ (by omega) B1 κ c
  · rw [if_neg (fun h => h3 ((on3 t).1 h))]
    by_cases h4 : t.val / 4 % 8 = 2 * (t.val % 4)
    · rw [if_pos ((on4 t).2 h4), if_neg (fun h => absurd ((on5 t).1 h) (by omega))]
      exact part0B_apply x0 x1 x2 x3 x4 x5 _ _ (by omega) (by omega) B1 κ c
    · rw [if_neg (fun h => h4 ((on4 t).1 h))]
      by_cases h5 : t.val / 4 % 8 = 2 * (t.val % 4) + 1
      · rw [if_pos ((on5 t).2 h5)]
        exact part1B_apply x0 x1 x2 x3 x4 x5 _ _ (by omega) (by omega) B1 κ c
      · rw [if_neg (fun h => h5 ((on5 t).1 h)), Finset.sum_eq_zero, add_zero]
        intro r _
        rw [mP_zero x0 x1 x4 _ _ r κ (by omega), zero_mul]

/-- One point adds to the keys' accumulator the products of its gradient. -/
theorem bodyA_apply (t : Fin cfg0.N) (A : Vec Ideal S1024x256 .f32) (κ : Fin 1024) (c : Fin 256) :
    bodyA (grid0.coords t) x0 x1 x2 x3 x4 x5 A (ix2 κ c) =
      (if t.val % 4 = 0 then 0 else A (ix2 κ c)) + ∑ r : Fin 2048, mDs (2048 * (t.val % 4)) (1024 * (t.val / 4 % 8)) x0 x1 x2 x3 x4 x5 r κ * x0 (ix2 r c) * ((Real.log 2 : ℝ) : EReal) := by
  unfold bodyA
  have hz : (if accCond (grid0.coords t) = 1#1 then k0_pay2 (F := Ideal) else A) (ix2 κ c) = if t.val % 4 = 0 then 0 else A (ix2 κ c) := by
    by_cases h : t.val % 4 = 0
    · rw [if_pos ((onA t).2 h), if_pos h]; unfold k0_pay2; pointwise
    · rw [if_neg (fun h' => h ((onA t).1 h')), if_neg h]
  rw [← hz]
  generalize (if accCond (grid0.coords t) = 1#1 then k0_pay2 (F := Ideal) else A) = A1
  by_cases h3 : t.val / 4 % 8 + 1 ≤ 2 * (t.val % 4)
  · rw [if_pos ((on3 t).2 h3), if_neg (fun h => absurd ((on4 t).1 h) (by omega)), if_neg (fun h => absurd ((on5 t).1 h) (by omega))]
    exact wholeA_apply x0 x1 x2 x3 x4 x5 _ _ (by omega) A1 κ c
  · rw [if_neg (fun h => h3 ((on3 t).1 h))]
    by_cases h4 : t.val / 4 % 8 = 2 * (t.val % 4)
    · rw [if_pos ((on4 t).2 h4), if_neg (fun h => absurd ((on5 t).1 h) (by omega))]
      exact part0A_apply x0 x1 x2 x3 x4 x5 _ _ (by omega) (by omega) A1 κ c
    · rw [if_neg (fun h => h4 ((on4 t).1 h))]
      by_cases h5 : t.val / 4 % 8 = 2 * (t.val % 4) + 1
      · rw [if_pos ((on5 t).2 h5)]
        exact part1A_apply x0 x1 x2 x3 x4 x5 _ _ (by omega) (by omega) A1 κ c
      · rw [if_neg (fun h => h5 ((on5 t).1 h)), Finset.sum_eq_zero, add_zero]
        intro r _
        rw [mDs_zero x0 x1 x2 x3 x4 x5 _ _ r κ (by omega), zero_mul, zero_mul]

/-- One point adds to the rows of its block in the queries' gradient. -/
theorem bodyD_apply (t : Fin cfg0.N) (D : Vec Ideal S8192x256 .f32) (ρ : Fin 8192) (c : Fin 256) :
    bodyD (grid0.coords t) x0 x1 x2 x3 x4 x5 D (ix2 ρ c) =
      (if t.val % 32 = 0 then 0 else D (ix2 ρ c)) + zto (2048 * (t.val % 4)) 2048 (rowZ x0 x1 x2 x3 x4 x5 (2048 * (t.val % 4)) (1024 * (t.val / 4 % 8)) c) ρ.val := by
  unfold bodyD
  have hz : (if k0_cond1 (grid0.coords t) = 1#1 then k0_pay1 (F := Ideal) else D) (ix2 ρ c) = if t.val % 32 = 0 then 0 else D (ix2 ρ c) := by
    by_cases h : t.val % 32 = 0
    · rw [if_pos ((on1 t).2 h), if_pos h]; unfold k0_pay1; pointwise
    · rw [if_neg (fun h' => h ((on1 t).1 h')), if_neg h]
  rw [← hz]
  generalize (if k0_cond1 (grid0.coords t) = 1#1 then k0_pay1 (F := Ideal) else D) = D1
  have hi : 2048 * (t.val % 4) = 2048 * (grid0.coords t 2).val := by rw [co2]
  by_cases h3 : t.val / 4 % 8 + 1 ≤ 2 * (t.val % 4)
  · rw [dif_pos ((on3 t).2 h3), dif_neg (fun h => absurd ((on4 t).1 h) (by omega)), dif_neg (fun h => absurd ((on5 t).1 h) (by omega))]
    exact wholeD_apply x0 x1 x2 x3 x4 x5 _ _ _ _ hi (by omega) D1 ρ c
  · rw [dif_neg (fun h => h3 ((on3 t).1 h))]
    by_cases h4 : t.val / 4 % 8 = 2 * (t.val % 4)
    · rw [dif_pos ((on4 t).2 h4), dif_neg (fun h => absurd ((on5 t).1 h) (by omega))]
      exact part0D_apply x0 x1 x2 x3 x4 x5 _ _ _ _ hi (by omega) (by omega) D1 ρ c
    · rw [dif_neg (fun h => h4 ((on4 t).1 h))]
      by_cases h5 : t.val / 4 % 8 = 2 * (t.val % 4) + 1
      · rw [dif_pos ((on5 t).2 h5)]
        exact part1D_apply x0 x1 x2 x3 x4 x5 _ _ _ _ hi (by omega) (by omega) D1 ρ c
      · rw [dif_neg (fun h => h5 ((on5 t).1 h))]
        unfold zto
        split
        · rw [rowZ_zero x0 x1 x2 x3 x4 x5 _ _ c _ (fun κ hκ => by omega), add_zero]
        · rw [add_zero]

end Points

end Cert.KernelIdeal.Gen
-- ==== Proof.Grid.lean ====
module

public import proofs.«01_k».proof.Proof.BodyRead
public import Idealize.ShloMosaic.Lib.Pipeline.ValueKit
public import Idealize.ShloMosaic.PureOps.Ideal.Laws
public import Idealize.ShloMosaic.Lib.Pointwise
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.TcCoe
open Idealize.ShloMosaic.ValueIdx (contrEquiv1 contrEquiv1_symm_val)
open Idealize.ShloMosaic.VecWindow (window put)
open scoped BigOperators

/-! What the points of the grid leave, over the whole arrays. -/

/-- A lane of a head among all of them. -/
def hd256 (h : Fin 4) (e : Fin 256) : Fin 1024 := ⟨h.val * 256 + e.val, by omega⟩
def hd128 (h : Fin 4) (e : Fin 128) : Fin 512 := ⟨h.val * 128 + e.val, by omega⟩
/-- A row, by its block of queries and by its block of keys. -/
def rowQ (i : Fin 4) (r : Fin 2048) : Fin 8192 := ⟨i.val * 2048 + r.val, by omega⟩
def rowK (j : Fin 8) (κ : Fin 1024) : Fin 8192 := ⟨j.val * 1024 + κ.val, by omega⟩

section Whole

variable (Q K : S8192x1024.Idx → EReal) (W O DO : S8192x512.Idx → EReal) (L : S4x8192x1.Idx → EReal)

/-- The logits of a head, its weights, and the gradient of its logits. -/
def gS (h : Fin 4) (ρ κ : Fin 8192) : EReal := ∑ e : Fin 256, Q (ix2 ρ (hd256 h e)) * K (ix2 κ (hd256 h e))
def gP (h : Fin 4) (ρ κ : Fin 8192) : EReal := if κ.val / 64 ≤ ρ.val / 64 then Ideal.exp2 (gS Q K h ρ κ - L (ix3 h ρ 0)) else 0
def gDs (h : Fin 4) (ρ κ : Fin 8192) : EReal :=
  gP Q K L h ρ κ * ((∑ e : Fin 128, DO (ix2 ρ (hd128 h e)) * W (ix2 κ (hd128 h e))) - ∑ e : Fin 128, DO (ix2 ρ (hd128 h e)) * O (ix2 ρ (hd128 h e)))

/-- The three gradients. -/
def gdV (h : Fin 4) (κ : Fin 8192) (c : Fin 128) : EReal := ∑ ρ : Fin 8192, gP Q K L h ρ κ * DO (ix2 ρ (hd128 h c))
def gdK (h : Fin 4) (κ : Fin 8192) (c : Fin 256) : EReal := ∑ ρ : Fin 8192, gDs Q K W O DO L h ρ κ * Q (ix2 ρ (hd256 h c)) * ((Real.log 2 : ℝ) : EReal)
def gdQ (h : Fin 4) (ρ : Fin 8192) (c : Fin 256) : EReal := ∑ κ : Fin 8192, gDs Q K W O DO L h ρ κ * K (ix2 κ (hd256 h c)) * ((Real.log 2 : ℝ) : EReal)

end Whole

section Blocks

variable {F : FTy → Type} [FloatOps F] [Named F]

theorem idx0 : ∀ t : Fin cfg0.N, win0_0.index t = ![max (t.val % 4) (t.val / 4 % 8 / 2), t.val / 32] :=
  (by decide +kernel : ∀ t : Fin grid0.N, _)
theorem idx1 : ∀ t : Fin cfg0.N, win0_1.index t = ![t.val / 4 % 8, t.val / 32] :=
  (by decide +kernel : ∀ t : Fin grid0.N, _)
theorem idx2 : ∀ t : Fin cfg0.N, win0_2.index t = ![t.val / 4 % 8, t.val / 32] :=
  (by decide +kernel : ∀ t : Fin grid0.N, _)
theorem idx3 : ∀ t : Fin cfg0.N, win0_3.index t = ![max (t.val % 4) (t.val / 4 % 8 / 2), t.val / 32] :=
  (by decide +kernel : ∀ t : Fin grid0.N, _)
theorem idx4 : ∀ t : Fin cfg0.N, win0_4.index t = ![t.val / 32, max (t.val % 4) (t.val / 4 % 8 / 2), 0] :=
  (by decide +kernel : ∀ t : Fin grid0.N, _)
theorem idx5 : ∀ t : Fin cfg0.N, win0_5.index t = ![max (t.val % 4) (t.val / 4 % 8 / 2), t.val / 32] :=
  (by decide +kernel : ∀ t : Fin grid0.N, _)
theorem idx6 : ∀ t : Fin cfg0.N, win0_6.index t = ![0, t.val / 32] :=
  (by decide +kernel : ∀ t : Fin grid0.N, _)
theorem idx7 : ∀ t : Fin cfg0.N, win0_7.index t = ![t.val / 4 % 8, t.val / 32] :=
  (by decide +kernel : ∀ t : Fin grid0.N, _)
theorem idx8 : ∀ t : Fin cfg0.N, win0_8.index t = ![t.val / 4 % 8, t.val / 32] :=
  (by decide +kernel : ∀ t : Fin grid0.N, _)

end Blocks

theorem hd256_val (h : Fin 4) (e : Fin 256) : (hd256 h e).val = h.val * 256 + e.val := rfl
theorem hd128_val (h : Fin 4) (e : Fin 128) : (hd128 h e).val = h.val * 128 + e.val := rfl
theorem rowQ_val (i : Fin 4) (r : Fin 2048) : (rowQ i r).val = i.val * 2048 + r.val := rfl
theorem rowK_val (j : Fin 8) (κ : Fin 1024) : (rowK j κ).val = j.val * 1024 + κ.val := rfl

/-- The head, the block of keys and the block of queries of a point. -/
def ptH (t : Fin cfg0.N) : Fin 4 := ⟨t.val / 32, by have := pt_lt t; omega⟩
def ptJ (t : Fin cfg0.N) : Fin 8 := ⟨t.val / 4 % 8, by omega⟩
def ptI (t : Fin cfg0.N) : Fin 4 := ⟨t.val % 4, by omega⟩

theorem ptH_val (t : Fin cfg0.N) : (ptH t).val = t.val / 32 := rfl
theorem ptJ_val (t : Fin cfg0.N) : (ptJ t).val = t.val / 4 % 8 := rfl
theorem ptI_val (t : Fin cfg0.N) : (ptI t).val = t.val % 4 := rfl

section Points

variable (m : (ℓ : Loc nD τ sig) → Buf (Elt Ideal) ℓ) (c : Dev nD)

/-- The arrays of the call. -/
def aQ : S8192x1024.Idx → EReal := V m c main_arg0
def aK : S8192x1024.Idx → EReal := V m c main_arg1
def aW : S8192x512.Idx → EReal := V m c main_arg2
def aO : S8192x512.Idx → EReal := V m c main_v33
def aL : S4x8192x1.Idx → EReal := V m c main_v43
def aD : S8192x512.Idx → EReal := V m c main_arg3

theorem blk0 (t : Fin cfg0.N) (ht : t.val / 4 % 8 / 2 ≤ t.val % 4) (r : Fin 2048) (e : Fin 256) : (iblk m c 0 t (ix2 r e) : EReal) = aQ m c (ix2 (rowQ (ptI t) r) (hd256 (ptH t) e)) := by
  blk_simp [iblk]
  refine congrArg (V m c main_arg0) ?_
  blk_ext [idx0 t, rowQ_val, rowK_val, hd256_val, hd128_val, ptH_val, ptI_val, ptJ_val]
theorem blk1 (t : Fin cfg0.N) (r : Fin 1024) (e : Fin 256) : (iblk m c 1 t (ix2 r e) : EReal) = aK m c (ix2 (rowK (ptJ t) r) (hd256 (ptH t) e)) := by
  blk_simp [iblk]
  refine congrArg (V m c main_arg1) ?_
  blk_ext [idx1 t, rowQ_val, rowK_val, hd256_val, hd128_val, ptH_val, ptI_val, ptJ_val]
theorem blk2 (t : Fin cfg0.N) (r : Fin 1024) (e : Fin 128) : (iblk m c 2 t (ix2 r e) : EReal) = aW m c (ix2 (rowK (ptJ t) r) (hd128 (ptH t) e)) := by
  blk_simp [iblk]
  refine congrArg (V m c main_arg2) ?_
  blk_ext [idx2 t, rowQ_val, rowK_val, hd256_val, hd128_val, ptH_val, ptI_val, ptJ_val]
theorem blk3 (t : Fin cfg0.N) (ht : t.val / 4 % 8 / 2 ≤ t.val % 4) (r : Fin 2048) (e : Fin 128) : (iblk m c 3 t (ix2 r e) : EReal) = aO m c (ix2 (rowQ (ptI t) r) (hd128 (ptH t) e)) := by
  blk_simp [iblk]
  refine congrArg (V m c main_v33) ?_
  blk_ext [idx3 t, rowQ_val, rowK_val, hd256_val, hd128_val, ptH_val, ptI_val, ptJ_val]
theorem blk5 (t : Fin cfg0.N) (ht : t.val / 4 % 8 / 2 ≤ t.val % 4) (r : Fin 2048) (e : Fin 128) : (iblk m c 5 t (ix2 r e) : EReal) = aD m c (ix2 (rowQ (ptI t) r) (hd128 (ptH t) e)) := by
  blk_simp [iblk]
  refine congrArg (V m c main_arg3) ?_
  blk_ext [idx5 t, rowQ_val, rowK_val, hd256_val, hd128_val, ptH_val, ptI_val, ptJ_val]
theorem blk4 (t : Fin cfg0.N) (ht : t.val / 4 % 8 / 2 ≤ t.val % 4) (r : Fin 2048) : (iblk m c 4 t (ix3 0 r 0) : EReal) = aL m c (ix3 (ptH t) (rowQ (ptI t) r) 0) := by
  blk_simp [iblk]
  refine congrArg (V m c main_v43) ?_
  blk_ext [idx4 t, rowQ_val, ptH_val, ptI_val]

/-- The weights of a point are those of its rows and keys. -/
theorem pt_P (t : Fin cfg0.N) (r : Fin 2048) (κ : Fin 1024) :
    mP (2048 * (t.val % 4)) (1024 * (t.val / 4 % 8)) (iblk m c 0 t) (iblk m c 1 t) (iblk m c 4 t) r κ = gP (aQ m c) (aK m c) (aL m c) (ptH t) (rowQ (ptI t) r) (rowK (ptJ t) κ) := by
  unfold mP gP
  by_cases h : (1024 * (t.val / 4 % 8) + κ.val) / 64 ≤ (2048 * (t.val % 4) + r.val) / 64
  · have ht : t.val / 4 % 8 / 2 ≤ t.val % 4 := by omega
    rw [if_pos h, if_pos (by simp only [rowQ_val, rowK_val, ptI_val, ptJ_val]; omega), mS, gS, blk4 m c t ht]
    simp only [blk0 m c t ht, blk1 m c t]
  · rw [if_neg h, if_neg (by simp only [rowQ_val, rowK_val, ptI_val, ptJ_val]; omega)]

/-- Where the mask lets a point through, its queries are those of its place on the grid. -/
theorem pt_P_ne (t : Fin cfg0.N) (r : Fin 2048) (κ : Fin 1024)
    (h : mP (2048 * (t.val % 4)) (1024 * (t.val / 4 % 8)) (iblk m c 0 t) (iblk m c 1 t) (iblk m c 4 t) r κ ≠ 0) : t.val / 4 % 8 / 2 ≤ t.val % 4 := by
  by_contra hn
  exact h (mP_zero _ _ _ _ _ r κ (by omega))

theorem pt_B (t : Fin cfg0.N) (r : Fin 2048) (κ : Fin 1024) (e : Fin 128) :
    mP (2048 * (t.val % 4)) (1024 * (t.val / 4 % 8)) (iblk m c 0 t) (iblk m c 1 t) (iblk m c 4 t) r κ * (iblk m c 5 t (ix2 r e) : EReal)
      = gP (aQ m c) (aK m c) (aL m c) (ptH t) (rowQ (ptI t) r) (rowK (ptJ t) κ) * aD m c (ix2 (rowQ (ptI t) r) (hd128 (ptH t) e)) := by
  by_cases h : mP (2048 * (t.val % 4)) (1024 * (t.val / 4 % 8)) (iblk m c 0 t) (iblk m c 1 t) (iblk m c 4 t) r κ = 0
  · rw [h, zero_mul, ← pt_P, h, zero_mul]
  · rw [pt_P, blk5 m c t (pt_P_ne m c t r κ h)]

theorem pt_Ds (t : Fin cfg0.N) (r : Fin 2048) (κ : Fin 1024) :
    mDs (2048 * (t.val % 4)) (1024 * (t.val / 4 % 8)) (iblk m c 0 t) (iblk m c 1 t) (iblk m c 2 t) (iblk m c 3 t) (iblk m c 4 t) (iblk m c 5 t) r κ
      = gDs (aQ m c) (aK m c) (aW m c) (aO m c) (aD m c) (aL m c) (ptH t) (rowQ (ptI t) r) (rowK (ptJ t) κ) := by
  unfold mDs gDs
  by_cases h : mP (2048 * (t.val % 4)) (1024 * (t.val / 4 % 8)) (iblk m c 0 t) (iblk m c 1 t) (iblk m c 4 t) r κ = 0
  · rw [h, zero_mul, ← pt_P, h, zero_mul]
  · have ht := pt_P_ne m c t r κ h
    rw [pt_P]
    simp only [blk5 m c t ht, blk3 m c t ht, blk2 m c t]

theorem pt_A (t : Fin cfg0.N) (r : Fin 2048) (κ : Fin 1024) (e : Fin 256) :
    mDs (2048 * (t.val % 4)) (1024 * (t.val / 4 % 8)) (iblk m c 0 t) (iblk m c 1 t) (iblk m c 2 t) (iblk m c 3 t) (iblk m c 4 t) (iblk m c 5 t) r κ * (iblk m c 0 t (ix2 r e) : EReal)
      = gDs (aQ m c) (aK m c) (aW m c) (aO m c) (aD m c) (aL m c) (ptH t) (rowQ (ptI t) r) (rowK (ptJ t) κ) * aQ m c (ix2 (rowQ (ptI t) r) (hd256 (ptH t) e)) := by
  by_cases h : mP (2048 * (t.val % 4)) (1024 * (t.val / 4 % 8)) (iblk m c 0 t) (iblk m c 1 t) (iblk m c 4 t) r κ = 0
  · rw [← pt_Ds, mDs, h, zero_mul, zero_mul, zero_mul]
  · rw [pt_Ds, blk0 m c t (pt_P_ne m c t r κ h)]

/-- What a block of queries adds to the values' gradient, to the keys', and a block of keys to the queries'. -/
def addB (h : Fin 4) (κ : Fin 8192) (e : Fin 128) (i : Fin 4) : EReal :=
  ∑ r : Fin 2048, gP (aQ m c) (aK m c) (aL m c) h (rowQ i r) κ * aD m c (ix2 (rowQ i r) (hd128 h e))
def addA (h : Fin 4) (κ : Fin 8192) (e : Fin 256) (i : Fin 4) : EReal :=
  ∑ r : Fin 2048, gDs (aQ m c) (aK m c) (aW m c) (aO m c) (aD m c) (aL m c) h (rowQ i r) κ * aQ m c (ix2 (rowQ i r) (hd256 h e)) * ((Real.log 2 : ℝ) : EReal)
def addD (h : Fin 4) (ρ : Fin 8192) (e : Fin 256) (j : Fin 8) : EReal :=
  ∑ κ : Fin 1024, gDs (aQ m c) (aK m c) (aW m c) (aO m c) (aD m c) (aL m c) h ρ (rowK j κ) * aK m c (ix2 (rowK j κ) (hd256 h e)) * ((Real.log 2 : ℝ) : EReal)

/-- A sum over the marked places, one more of them marked. -/
theorem sum_marks {n : ℕ} (f : Fin n → EReal) (p q : Fin n → Prop) [DecidablePred p] [DecidablePred q] (j : Fin n) (b : Prop) [Decidable b]
    (h1 : ∀ i, p i ↔ q i ∨ (i = j ∧ b)) (h2 : q j → ¬ b) :
    (∑ i, if q i then f i else 0) + (if b then f j else 0) = ∑ i, if p i then f i else 0 := by
  have e : (if b then f j else 0) = ∑ i, if i = j ∧ b then f i else 0 := by
    by_cases hb : b
    · simp [hb]
    · simp [hb]
  rw [e, ← Finset.sum_add_distrib]
  refine Finset.sum_congr rfl fun i _ => ?_
  by_cases hij : i = j
  · subst hij
    by_cases hb : b
    · rw [if_neg (fun h => h2 h hb), if_pos ⟨rfl, hb⟩, if_pos ((h1 i).2 (.inr ⟨rfl, hb⟩)), zero_add]
    · by_cases hq : q i
      · rw [if_pos hq, if_neg (fun h => hb h.2), if_pos ((h1 i).2 (.inl hq)), add_zero]
      · rw [if_neg hq, if_neg (fun h => hb h.2), if_neg (fun h => ((h1 i).1 h).elim hq fun h => hb h.2), add_zero]
  · by_cases hq : q i
    · rw [if_pos hq, if_neg (fun h => hij h.1), if_pos ((h1 i).2 (.inl hq)), add_zero]
    · rw [if_neg hq, if_neg (fun h => hij h.1), if_neg (fun h => ((h1 i).1 h).elim hq fun h => hij h.1), add_zero]

theorem sum_none {n : ℕ} (f : Fin n → EReal) (q : Fin n → Prop) [DecidablePred q] (h : ∀ i, ¬ q i) : (∑ i, if q i then f i else 0) = 0 :=
  Finset.sum_eq_zero fun i _ => if_neg (h i)

theorem stB_val (n : ℕ) (hn : n < cfg0.N) (κ : Fin 1024) (e : Fin 128) :
    stB m c n hn (ix2 κ e) = ∑ i : Fin 4, if i.val ≤ n % 4 then addB m c (ptH ⟨n, hn⟩) (rowK (ptJ ⟨n, hn⟩) κ) e i else 0 := by
  induction n using Nat.strong_induction_on with
  | _ n ih =>
  have key : ∀ B : Vec Ideal S1024x128 .f32, bodyB (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) B (ix2 κ e)
      = (if n % 4 = 0 then 0 else B (ix2 κ e)) + addB m c (ptH ⟨n, hn⟩) (rowK (ptJ ⟨n, hn⟩) κ) e (ptI ⟨n, hn⟩) := fun B => by
    rw [bodyB_apply]
    refine congrArg ((if n % 4 = 0 then 0 else B (ix2 κ e)) + ·) (Finset.sum_congr rfl fun r _ => ?_)
    exact pt_B m c ⟨n, hn⟩ r κ e
  have one := sum_marks (addB m c (ptH ⟨n, hn⟩) (rowK (ptJ ⟨n, hn⟩) κ) e) (fun i => i.val ≤ n % 4) (fun i => i.val < n % 4) (ptI ⟨n, hn⟩) True
    (fun i => by rw [Fin.ext_iff, ptI_val]; simp only [and_true]; omega) (fun h => absurd h (by rw [ptI_val]; simp))
  rw [if_pos trivial] at one
  rw [← one]
  by_cases h0 : n % 4 = 0
  · rw [stB_fresh m c ⟨n, hn⟩ h0 (k0_pay3 (F := Ideal)), key, if_pos h0, sum_none _ _ (fun i => by omega)]
  · have hp : n ≠ 0 := fun h => h0 (by rw [h])
    rw [stB_pos m c ⟨n, hn⟩ hp, key, if_neg h0]
    refine congrArg (· + addB m c (ptH ⟨n, hn⟩) (rowK (ptJ ⟨n, hn⟩) κ) e (ptI ⟨n, hn⟩)) ((ih (n - 1) (by omega) (by omega)).trans ?_)
    have eH : ptH ⟨n - 1, by omega⟩ = ptH ⟨n, hn⟩ := Fin.ext (by rw [ptH_val, ptH_val]; dsimp only; omega)
    have eJ : ptJ ⟨n - 1, by omega⟩ = ptJ ⟨n, hn⟩ := Fin.ext (by rw [ptJ_val, ptJ_val]; dsimp only; omega)
    rw [eH, eJ]
    refine Finset.sum_congr rfl fun i _ => if_congr (by omega) rfl rfl

theorem stA_val (n : ℕ) (hn : n < cfg0.N) (κ : Fin 1024) (e : Fin 256) :
    stA m c n hn (ix2 κ e) = ∑ i : Fin 4, if i.val ≤ n % 4 then addA m c (ptH ⟨n, hn⟩) (rowK (ptJ ⟨n, hn⟩) κ) e i else 0 := by
  induction n using Nat.strong_induction_on with
  | _ n ih =>
  have key : ∀ A : Vec Ideal S1024x256 .f32, bodyA (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) A (ix2 κ e)
      = (if n % 4 = 0 then 0 else A (ix2 κ e)) + addA m c (ptH ⟨n, hn⟩) (rowK (ptJ ⟨n, hn⟩) κ) e (ptI ⟨n, hn⟩) := fun A => by
    rw [bodyA_apply]
    refine congrArg ((if n % 4 = 0 then 0 else A (ix2 κ e)) + ·) (Finset.sum_congr rfl fun r _ => congrArg (· * ((Real.log 2 : ℝ) : EReal)) ?_)
    exact pt_A m c ⟨n, hn⟩ r κ e
  have one := sum_marks (addA m c (ptH ⟨n, hn⟩) (rowK (ptJ ⟨n, hn⟩) κ) e) (fun i => i.val ≤ n % 4) (fun i => i.val < n % 4) (ptI ⟨n, hn⟩) True
    (fun i => by rw [Fin.ext_iff, ptI_val]; simp only [and_true]; omega) (fun h => absurd h (by rw [ptI_val]; simp))
  rw [if_pos trivial] at one
  rw [← one]
  by_cases h0 : n % 4 = 0
  · rw [stA_fresh m c ⟨n, hn⟩ h0 (k0_pay2 (F := Ideal)), key, if_pos h0, sum_none _ _ (fun i => by omega)]
  · have hp : n ≠ 0 := fun h => h0 (by rw [h])
    rw [stA_pos m c ⟨n, hn⟩ hp, key, if_neg h0]
    refine congrArg (· + addA m c (ptH ⟨n, hn⟩) (rowK (ptJ ⟨n, hn⟩) κ) e (ptI ⟨n, hn⟩)) ((ih (n - 1) (by omega) (by omega)).trans ?_)
    have eH : ptH ⟨n - 1, by omega⟩ = ptH ⟨n, hn⟩ := Fin.ext (by rw [ptH_val, ptH_val]; dsimp only; omega)
    have eJ : ptJ ⟨n - 1, by omega⟩ = ptJ ⟨n, hn⟩ := Fin.ext (by rw [ptJ_val, ptJ_val]; dsimp only; omega)
    rw [eH, eJ]
    refine Finset.sum_congr rfl fun i _ => if_congr (by omega) rfl rfl

theorem stD_val (n : ℕ) (hn : n < cfg0.N) (ρ : Fin 8192) (e : Fin 256) :
    stD m c n hn (ix2 ρ e) = ∑ j : Fin 8, if j.val < n / 4 % 8 ∨ (j.val = n / 4 % 8 ∧ ρ.val / 2048 ≤ n % 4) then addD m c (ptH ⟨n, hn⟩) ρ e j else 0 := by
  induction n using Nat.strong_induction_on with
  | _ n ih =>
  have key : ∀ D : Vec Ideal S8192x256 .f32, bodyD (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) D (ix2 ρ e)
      = (if n % 32 = 0 then 0 else D (ix2 ρ e)) + if ρ.val / 2048 = n % 4 then addD m c (ptH ⟨n, hn⟩) ρ e (ptJ ⟨n, hn⟩) else 0 := fun D => by
    rw [bodyD_apply]
    refine congrArg ((if n % 32 = 0 then 0 else D (ix2 ρ e)) + ·) ?_
    unfold zto
    by_cases hr : ρ.val / 2048 = n % 4
    · rw [if_pos (by dsimp only; omega), if_pos hr]
      have hlt : ρ.val - 2048 * (n % 4) < 2048 := by omega
      refine (rowZ_val _ _ _ _ _ _ _ _ e ⟨ρ.val - 2048 * (n % 4), hlt⟩).trans ?_
      rw [sum_mul_ln2]
      refine Finset.sum_congr rfl fun κ _ => congrArg (· * ((Real.log 2 : ℝ) : EReal)) ?_
      have er : rowQ (ptI ⟨n, hn⟩) ⟨ρ.val - 2048 * (n % 4), hlt⟩ = ρ := Fin.ext (by rw [rowQ_val, ptI_val]; dsimp only; omega)
      rw [pt_Ds, er]
      exact congrArg _ (blk1 m c ⟨n, hn⟩ κ e)
    · rw [if_neg (by dsimp only; omega), if_neg hr]
  have one := sum_marks (addD m c (ptH ⟨n, hn⟩) ρ e) (fun j => j.val < n / 4 % 8 ∨ (j.val = n / 4 % 8 ∧ ρ.val / 2048 ≤ n % 4))
    (fun j => j.val < n / 4 % 8 ∨ (j.val = n / 4 % 8 ∧ ρ.val / 2048 < n % 4)) (ptJ ⟨n, hn⟩) (ρ.val / 2048 = n % 4)
    (fun j => by rw [Fin.ext_iff, ptJ_val]; dsimp only; omega) (fun h => by rw [ptJ_val] at h; dsimp only at h; omega)
  rw [← one]
  by_cases h0 : n % 32 = 0
  · rw [stD_fresh m c ⟨n, hn⟩ h0 (k0_pay1 (F := Ideal)), key, if_pos h0, sum_none _ _ (fun j => by omega)]
  · have hp : n ≠ 0 := fun h => h0 (by rw [h])
    rw [stD_pos m c ⟨n, hn⟩ hp, key, if_neg h0]
    refine congrArg (· + if ρ.val / 2048 = n % 4 then addD m c (ptH ⟨n, hn⟩) ρ e (ptJ ⟨n, hn⟩) else 0) ((ih (n - 1) (by omega) (by omega)).trans ?_)
    have eH : ptH ⟨n - 1, by omega⟩ = ptH ⟨n, hn⟩ := Fin.ext (by rw [ptH_val, ptH_val]; dsimp only; omega)
    rw [eH]
    refine Finset.sum_congr rfl fun j _ => if_congr ?_ rfl rfl
    have := ρ.isLt
    have := j.isLt
    omega

theorem all_addB (h : Fin 4) (κ : Fin 8192) (e : Fin 128) : ∑ i : Fin 4, addB m c h κ e i = gdV (aQ m c) (aK m c) (aD m c) (aL m c) h κ e := by
  rw [gdV, Fin.sum_univ_tiles 4 2048 rfl]; rfl
theorem all_addA (h : Fin 4) (κ : Fin 8192) (e : Fin 256) : ∑ i : Fin 4, addA m c h κ e i = gdK (aQ m c) (aK m c) (aW m c) (aO m c) (aD m c) (aL m c) h κ e := by
  rw [gdK, Fin.sum_univ_tiles 4 2048 rfl]; rfl
theorem all_addD (h : Fin 4) (ρ : Fin 8192) (e : Fin 256) : ∑ j : Fin 8, addD m c h ρ e j = gdQ (aQ m c) (aK m c) (aW m c) (aO m c) (aD m c) (aL m c) h ρ e := by
  rw [gdQ, Fin.sum_univ_tiles 8 1024 rfl]; rfl

/-- The three results, as arrays. -/
def resV (y : S8192x512.Idx) : EReal := gdV (aQ m c) (aK m c) (aD m c) (aL m c) ⟨(y 1).val / 128, by have h : (y 1).val < 512 := (y 1).isLt; omega⟩ (y 0) ⟨(y 1).val % 128, by omega⟩
def resK (y : S8192x1024.Idx) : EReal := gdK (aQ m c) (aK m c) (aW m c) (aO m c) (aD m c) (aL m c) ⟨(y 1).val / 256, by have h : (y 1).val < 1024 := (y 1).isLt; omega⟩ (y 0) ⟨(y 1).val % 256, by omega⟩
def resQ (y : S8192x1024.Idx) : EReal := gdQ (aQ m c) (aK m c) (aW m c) (aO m c) (aD m c) (aL m c) ⟨(y 1).val / 256, by have h : (y 1).val < 1024 := (y 1).isLt; omega⟩ (y 0) ⟨(y 1).val % 256, by omega⟩

end Points

end Cert.KernelIdeal.Gen
-- ==== Proof.RefRead.lean ====
module

public import proofs.«01_k».proof.Proof.Grid
public import proofs.«01_k».proof.Proof.Gen.ReferenceIdeal.Read
public import Idealize.ShloMosaic.PureOps.Ideal.Laws
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.TcCoe
open Cert.KernelIdeal.Gen (hd256 hd128 gS)
open scoped BigOperators

/-! The reference's operations, each read at a head, a row of queries and a row of keys. -/

theorem ix_v3 (ρ : Fin 8192) (h : Fin 4) (e : Fin 256) : idx_main_v3 (ix3 ρ h e) = ix2 ρ (hd256 h e) := by
  funext a; apply Fin.ext
  match a with
  | ⟨0, _⟩ => show ((ρ.val * 4 + h.val) * 256 + e.val) / 1024 = ρ.val; have hh := h.isLt; have hr := ρ.isLt; have he := e.isLt; omega
  | ⟨1, _⟩ => show ((ρ.val * 4 + h.val) * 256 + e.val) % 1024 = h.val * 256 + e.val; have hh := h.isLt; have hr := ρ.isLt; have he := e.isLt; omega

theorem ix_v4 (ρ : Fin 8192) (h : Fin 4) (e : Fin 256) : idx_main_v4 (ix3 ρ h e) = ix2 ρ (hd256 h e) := by
  funext a; apply Fin.ext
  match a with
  | ⟨0, _⟩ => show ((ρ.val * 4 + h.val) * 256 + e.val) / 1024 = ρ.val; have hh := h.isLt; have hr := ρ.isLt; have he := e.isLt; omega
  | ⟨1, _⟩ => show ((ρ.val * 4 + h.val) * 256 + e.val) % 1024 = h.val * 256 + e.val; have hh := h.isLt; have hr := ρ.isLt; have he := e.isLt; omega

theorem ix_v45 (ρ : Fin 8192) (h : Fin 4) (e : Fin 128) : idx_main_v45 (ix3 ρ h e) = ix2 ρ (hd128 h e) := by
  funext a; apply Fin.ext
  match a with
  | ⟨0, _⟩ => show ((ρ.val * 4 + h.val) * 128 + e.val) / 512 = ρ.val; have hh := h.isLt; have hr := ρ.isLt; have he := e.isLt; omega
  | ⟨1, _⟩ => show ((ρ.val * 4 + h.val) * 128 + e.val) % 512 = h.val * 128 + e.val; have hh := h.isLt; have hr := ρ.isLt; have he := e.isLt; omega

theorem ix_v49 (ρ : Fin 8192) (h : Fin 4) (e : Fin 128) : idx_main_v49 (ix3 ρ h e) = ix2 ρ (hd128 h e) := by
  funext a; apply Fin.ext
  match a with
  | ⟨0, _⟩ => show ((ρ.val * 4 + h.val) * 128 + e.val) / 512 = ρ.val; have hh := h.isLt; have hr := ρ.isLt; have he := e.isLt; omega
  | ⟨1, _⟩ => show ((ρ.val * 4 + h.val) * 128 + e.val) % 512 = h.val * 128 + e.val; have hh := h.isLt; have hr := ρ.isLt; have he := e.isLt; omega

theorem ix_v48 (ρ : Fin 8192) (h : Fin 4) (e : Fin 128) : idx_main_v48 (ix2 ρ (hd128 h e)) = ix3 ρ h e := by
  funext a; apply Fin.ext
  match a with
  | ⟨0, _⟩ => show (ρ.val * 512 + (h.val * 128 + e.val)) / 512 = ρ.val; have hh := h.isLt; have hr := ρ.isLt; have he := e.isLt; omega
  | ⟨1, _⟩ => show (ρ.val * 512 + (h.val * 128 + e.val)) / 128 % 4 = h.val; have hh := h.isLt; have hr := ρ.isLt; have he := e.isLt; omega
  | ⟨2, _⟩ => show (ρ.val * 512 + (h.val * 128 + e.val)) % 128 = e.val; have hh := h.isLt; have hr := ρ.isLt; have he := e.isLt; omega

theorem ix_v54 (ρ : Fin 8192) (h : Fin 4) (e : Fin 128) : idx_main_v54 (ix2 ρ (hd128 h e)) = ix3 ρ h e := by
  funext a; apply Fin.ext
  match a with
  | ⟨0, _⟩ => show (ρ.val * 512 + (h.val * 128 + e.val)) / 512 = ρ.val; have hh := h.isLt; have hr := ρ.isLt; have he := e.isLt; omega
  | ⟨1, _⟩ => show (ρ.val * 512 + (h.val * 128 + e.val)) / 128 % 4 = h.val; have hh := h.isLt; have hr := ρ.isLt; have he := e.isLt; omega
  | ⟨2, _⟩ => show (ρ.val * 512 + (h.val * 128 + e.val)) % 128 = e.val; have hh := h.isLt; have hr := ρ.isLt; have he := e.isLt; omega

theorem ix_v74 (ρ : Fin 8192) (h : Fin 4) (e : Fin 256) : idx_main_v74 (ix2 ρ (hd256 h e)) = ix3 ρ h e := by
  funext a; apply Fin.ext
  match a with
  | ⟨0, _⟩ => show (ρ.val * 1024 + (h.val * 256 + e.val)) / 1024 = ρ.val; have hh := h.isLt; have hr := ρ.isLt; have he := e.isLt; omega
  | ⟨1, _⟩ => show (ρ.val * 1024 + (h.val * 256 + e.val)) / 256 % 4 = h.val; have hh := h.isLt; have hr := ρ.isLt; have he := e.isLt; omega
  | ⟨2, _⟩ => show (ρ.val * 1024 + (h.val * 256 + e.val)) % 256 = e.val; have hh := h.isLt; have hr := ρ.isLt; have he := e.isLt; omega

theorem ix_v75 (ρ : Fin 8192) (h : Fin 4) (e : Fin 256) : idx_main_v75 (ix2 ρ (hd256 h e)) = ix3 ρ h e := by
  funext a; apply Fin.ext
  match a with
  | ⟨0, _⟩ => show (ρ.val * 1024 + (h.val * 256 + e.val)) / 1024 = ρ.val; have hh := h.isLt; have hr := ρ.isLt; have he := e.isLt; omega
  | ⟨1, _⟩ => show (ρ.val * 1024 + (h.val * 256 + e.val)) / 256 % 4 = h.val; have hh := h.isLt; have hr := ρ.isLt; have he := e.isLt; omega
  | ⟨2, _⟩ => show (ρ.val * 1024 + (h.val * 256 + e.val)) % 256 = e.val; have hh := h.isLt; have hr := ρ.isLt; have he := e.isLt; omega

theorem ix_v59 (h : Fin 4) (ρ : Fin 8192) (z : Fin 1) : idx_main_v59 (ix3 h ρ z) = ix2 h ρ := by
  funext a; apply Fin.ext
  match a with
  | ⟨0, _⟩ => show ((h.val * 8192 + ρ.val) * 1 + z.val) / 8192 = h.val; have hh := h.isLt; have hr := ρ.isLt; have hz := z.isLt; omega
  | ⟨1, _⟩ => show ((h.val * 8192 + ρ.val) * 1 + z.val) % 8192 = ρ.val; have hh := h.isLt; have hr := ρ.isLt; have hz := z.isLt; omega

theorem ix_l5 (h : Fin 4) (ρ κ : Fin 8192) (e : Fin 256) : lidx_main_v5 (ix3 h ρ κ) e = ix3 ρ h e := by
  funext a; apply Fin.ext
  match a with
  | ⟨0, _⟩ => rfl
  | ⟨1, _⟩ => rfl
  | ⟨2, _⟩ => rfl

theorem ix_r5 (h : Fin 4) (ρ κ : Fin 8192) (e : Fin 256) : ridx_main_v5 (ix3 h ρ κ) e = ix3 κ h e := by
  funext a; apply Fin.ext
  match a with
  | ⟨0, _⟩ => rfl
  | ⟨1, _⟩ => rfl
  | ⟨2, _⟩ => rfl

theorem ix_38 (h : Fin 4) (ρ κ : Fin 8192) : idx_main_v38 (ix2 h ρ) κ = ix3 h ρ κ := by
  funext a; apply Fin.ext
  match a with
  | ⟨0, _⟩ => rfl
  | ⟨1, _⟩ => rfl
  | ⟨2, _⟩ => rfl

theorem ix_58 (h : Fin 4) (ρ κ : Fin 8192) : idx_main_v58 (ix2 h ρ) κ = ix3 h ρ κ := by
  funext a; apply Fin.ext
  match a with
  | ⟨0, _⟩ => rfl
  | ⟨1, _⟩ => rfl
  | ⟨2, _⟩ => rfl

theorem ix_63 (h : Fin 4) (ρ : Fin 8192) (z : Fin 1) : idx_main_v63 (ix2 h ρ) z = ix3 h ρ z := by
  funext a; apply Fin.ext
  match a with
  | ⟨0, _⟩ => rfl
  | ⟨1, _⟩ => rfl
  | ⟨2, _⟩ => rfl

theorem ix_l46 (h : Fin 4) (ρ κ : Fin 8192) (e : Fin 128) : lidx_main_v46 (ix3 h e ρ) κ = ix3 κ h e := by
  funext a; apply Fin.ext
  match a with
  | ⟨0, _⟩ => rfl
  | ⟨1, _⟩ => rfl
  | ⟨2, _⟩ => rfl

theorem ix_r46 (h : Fin 4) (ρ κ : Fin 8192) (e : Fin 128) : ridx_main_v46 (ix3 h e ρ) κ = ix3 h ρ κ := by
  funext a; apply Fin.ext
  match a with
  | ⟨0, _⟩ => rfl
  | ⟨1, _⟩ => rfl
  | ⟨2, _⟩ => rfl

theorem ix_47 (h : Fin 4) (ρ : Fin 8192) (e : Fin 128) : idx_main_v47 (ix3 ρ h e) = ix3 h e ρ := by
  funext a; apply Fin.ext
  match a with
  | ⟨0, _⟩ => rfl
  | ⟨1, _⟩ => rfl
  | ⟨2, _⟩ => rfl

theorem ix_50 (h : Fin 4) (ρ : Fin 8192) (e : Fin 128) : idx_main_v50 (ix3 h e ρ) = ix3 ρ h e := by
  funext a; apply Fin.ext
  match a with
  | ⟨0, _⟩ => rfl
  | ⟨1, _⟩ => rfl
  | ⟨2, _⟩ => rfl

theorem ix_l51 (h : Fin 4) (ρ κ : Fin 8192) (e : Fin 128) : lidx_main_v51 (ix3 h ρ κ) e = ix3 h e ρ := by
  funext a; apply Fin.ext
  match a with
  | ⟨0, _⟩ => rfl
  | ⟨1, _⟩ => rfl
  | ⟨2, _⟩ => rfl

theorem ix_r51 (h : Fin 4) (ρ κ : Fin 8192) (e : Fin 128) : ridx_main_v51 (ix3 h ρ κ) e = ix3 κ h e := by
  funext a; apply Fin.ext
  match a with
  | ⟨0, _⟩ => rfl
  | ⟨1, _⟩ => rfl
  | ⟨2, _⟩ => rfl

theorem ix_l52 (h : Fin 4) (ρ κ : Fin 8192) (e : Fin 128) : lidx_main_v52 (ix3 h e κ) ρ = ix3 h e ρ := by
  funext a; apply Fin.ext
  match a with
  | ⟨0, _⟩ => rfl
  | ⟨1, _⟩ => rfl
  | ⟨2, _⟩ => rfl

theorem ix_r52 (h : Fin 4) (ρ κ : Fin 8192) (e : Fin 128) : ridx_main_v52 (ix3 h e κ) ρ = ix3 h ρ κ := by
  funext a; apply Fin.ext
  match a with
  | ⟨0, _⟩ => rfl
  | ⟨1, _⟩ => rfl
  | ⟨2, _⟩ => rfl

theorem ix_53 (h : Fin 4) (κ : Fin 8192) (e : Fin 128) : idx_main_v53 (ix3 κ h e) = ix3 h e κ := by
  funext a; apply Fin.ext
  match a with
  | ⟨0, _⟩ => rfl
  | ⟨1, _⟩ => rfl
  | ⟨2, _⟩ => rfl

theorem ix_l70 (h : Fin 4) (ρ κ : Fin 8192) (e : Fin 256) : lidx_main_v70 (ix3 h κ e) ρ = ix3 h ρ κ := by
  funext a; apply Fin.ext
  match a with
  | ⟨0, _⟩ => rfl
  | ⟨1, _⟩ => rfl
  | ⟨2, _⟩ => rfl

theorem ix_r70 (h : Fin 4) (ρ κ : Fin 8192) (e : Fin 256) : ridx_main_v70 (ix3 h κ e) ρ = ix3 ρ h e := by
  funext a; apply Fin.ext
  match a with
  | ⟨0, _⟩ => rfl
  | ⟨1, _⟩ => rfl
  | ⟨2, _⟩ => rfl

theorem ix_71 (h : Fin 4) (κ : Fin 8192) (e : Fin 256) : idx_main_v71 (ix3 κ h e) = ix3 h κ e := by
  funext a; apply Fin.ext
  match a with
  | ⟨0, _⟩ => rfl
  | ⟨1, _⟩ => rfl
  | ⟨2, _⟩ => rfl

theorem ix_l72 (h : Fin 4) (ρ κ : Fin 8192) (e : Fin 256) : lidx_main_v72 (ix3 h ρ e) κ = ix3 h ρ κ := by
  funext a; apply Fin.ext
  match a with
  | ⟨0, _⟩ => rfl
  | ⟨1, _⟩ => rfl
  | ⟨2, _⟩ => rfl

theorem ix_r72 (h : Fin 4) (ρ κ : Fin 8192) (e : Fin 256) : ridx_main_v72 (ix3 h ρ e) κ = ix3 κ h e := by
  funext a; apply Fin.ext
  match a with
  | ⟨0, _⟩ => rfl
  | ⟨1, _⟩ => rfl
  | ⟨2, _⟩ => rfl

theorem ix_73 (h : Fin 4) (ρ : Fin 8192) (e : Fin 256) : idx_main_v73 (ix3 ρ h e) = ix3 h ρ e := by
  funext a; apply Fin.ext
  match a with
  | ⟨0, _⟩ => rfl
  | ⟨1, _⟩ => rfl
  | ⟨2, _⟩ => rfl

theorem ix_39 (h : Fin 4) (ρ : Fin 8192) (z : Fin 1) : idx_main_v39 (ix3 h ρ z) = ix2 h ρ := by
  funext a; apply Fin.ext
  match a with
  | ⟨0, _⟩ => rfl
  | ⟨1, _⟩ => rfl

theorem ix_34 (h : Fin 4) (ρ : Fin 8192) (z : Fin 1) : idx_main_v34 (ix3 h ρ z) = ix2 h ρ := by
  funext a; apply Fin.ext
  match a with
  | ⟨0, _⟩ => rfl
  | ⟨1, _⟩ => rfl

theorem ix_35 (h : Fin 4) (ρ κ : Fin 8192) : idx_main_v35 (ix3 h ρ κ) = ix3 h ρ 0 := by
  funext a; apply Fin.ext
  match a with
  | ⟨0, _⟩ => rfl
  | ⟨1, _⟩ => rfl
  | ⟨2, _⟩ => rfl

theorem ix_40 (h : Fin 4) (ρ κ : Fin 8192) : idx_main_v40 (ix3 h ρ κ) = ix3 h ρ 0 := by
  funext a; apply Fin.ext
  match a with
  | ⟨0, _⟩ => rfl
  | ⟨1, _⟩ => rfl
  | ⟨2, _⟩ => rfl

theorem ix_55 (h : Fin 4) (ρ κ : Fin 8192) : idx_main_v55 (ix3 h ρ κ) = ix3 h ρ 0 := by
  funext a; apply Fin.ext
  match a with
  | ⟨0, _⟩ => rfl
  | ⟨1, _⟩ => rfl
  | ⟨2, _⟩ => rfl

theorem ix_61 (h : Fin 4) (ρ κ : Fin 8192) : idx_main_v61 (ix3 h ρ κ) = ix3 h ρ 0 := by
  funext a; apply Fin.ext
  match a with
  | ⟨0, _⟩ => rfl
  | ⟨1, _⟩ => rfl
  | ⟨2, _⟩ => rfl

theorem ix_64 (h : Fin 4) (ρ κ : Fin 8192) : idx_main_v64 (ix3 h ρ κ) = ix2 h ρ := by
  funext a; apply Fin.ext
  match a with
  | ⟨0, _⟩ => rfl
  | ⟨1, _⟩ => rfl

theorem word_chunks : ∀ n : Fin 8192, (let x : BitVec 32 := BitVec.ofNat 32 n.val
    Scalar.select (IntOp.andi (IntOp.cmpi .ne (if x = 0 then (0 : BitVec 32) else if x.msb then -1 else 1) (1#32)) (IntOp.cmpi .ne (IntOp.remsi .host x 64#32) 0#32))
      (IntOp.subi (IntOp.divsi .host x 64#32) 1#32) (IntOp.divsi .host x 64#32)) = BitVec.ofNat 32 (n.val / 64) := by
  decide +kernel

theorem sign_chunk (j : S_.Idx) : val_main_call0_v4 (F := Ideal) j = 1#32 := by
  unfold val_main_call0_v4
  show (if (64#32 : BitVec 32) = 0 then (0 : BitVec 32) else if (64#32 : BitVec 32).msb then -1 else 1) = 1#32
  decide

theorem r10 (i : S8192.Idx) : val_main_v10 (F := Ideal) i = BitVec.ofNat 32 ((i 0).val / 64) := by
  rw [val_main_v10_apply, val_main_call0_v11_apply, val_main_call0_v6_apply, val_main_call0_v10_apply, val_main_call0_v13_apply, val_main_call0_v2_apply, val_main_call0_v5_apply,
    val_main_call0_v8_apply, val_main_call0_v1_apply, val_main_call0_v7_apply, val_main_call0_v9_apply, val_main_call0_v12_apply, sign_chunk]
  exact word_chunks (i 0)

theorem r16m (h : Fin 4) (ρ κ : Fin 8192) : val_main_v16_1 (F := Ideal) (ix3 h ρ κ) = BitVec.ofBool (decide (κ.val / 64 ≤ ρ.val / 64)) := by
  rw [val_main_v16_1_apply, val_main_v15_apply, val_main_v13_apply, val_main_v14_apply, val_main_v11_apply, val_main_v12_apply, r10, r10]
  exact WordCmp.cmpi_sle_ofNat (by have := κ.isLt; show κ.val / 64 < 2 ^ (32 - 1); omega) (by have := ρ.isLt; show ρ.val / 64 < 2 ^ (32 - 1); omega)

theorem two_bits : Ideal.ofBits .f32 0x40000000#32 = ((2 : ℝ) : EReal) := by simp [Ideal.ofBits, Ideal.ieee, -EReal.coe_mul]; norm_num
theorem bot_bits : Ideal.ofBits .f32 0xFF800000#32 = (⊥ : EReal) := by simp [Ideal.ofBits, Ideal.ieee]
theorem one_bits : Ideal.ofBits .f32 0x3F800000#32 = ((1 : ℝ) : EReal) := by simp [Ideal.ofBits, Ideal.ieee, -EReal.coe_mul]; norm_num

theorem r6 (i : S_.Idx) : (val_main_v6 (F := Ideal) i : EReal) = ((Real.log 2 : ℝ) : EReal) := by
  rw [val_main_v6_apply, val_main_cst_apply, Ideal.hostUnary_log_def, Ideal.ofBits_def, two_bits, Ideal.log_coe, if_neg (by norm_num)]

section Entries

variable (x0 x1 : (⟨S8192x1024, .bf16⟩ : BufTy).Contents (Elt Ideal)) (x2 : (⟨S8192x512, .bf16⟩ : BufTy).Contents (Elt Ideal)) (x3 : (⟨S8192x512, .f32⟩ : BufTy).Contents (Elt Ideal))

/-- Scores under the mask, the row's greatest, the terms and their sum. -/
def eS (h : Fin 4) (ρ κ : Fin 8192) : EReal := val_main_v16_0 (F := Ideal) x0 x1 (ix3 h ρ κ)
def eM (h : Fin 4) (ρ : Fin 8192) : EReal := val_main_v17 (F := Ideal) x0 x1 (ix2 h ρ)
def eU (h : Fin 4) (ρ κ : Fin 8192) : EReal := val_main_v37 (F := Ideal) x0 x1 (ix3 h ρ κ)
def eL (h : Fin 4) (ρ : Fin 8192) : EReal := val_main_v38 (F := Ideal) x0 x1 (ix2 h ρ)
def eP (h : Fin 4) (ρ κ : Fin 8192) : EReal := val_main_v41 (F := Ideal) x0 x1 (ix3 h ρ κ)
def eC (h : Fin 4) (ρ κ : Fin 8192) : EReal := val_main_v51 (F := Ideal) x2 x3 (ix3 h ρ κ)
def eD (h : Fin 4) (ρ κ : Fin 8192) : EReal := val_main_v67 (F := Ideal) x0 x1 x2 x3 (ix3 h ρ κ)

theorem r3 (ρ : Fin 8192) (h : Fin 4) (e : Fin 256) : val_main_v3 (F := Ideal) x0 (ix3 ρ h e) = x0 (ix2 ρ (hd256 h e)) := by
  rw [val_main_v3_apply, ix_v3]; rfl
theorem r4 (ρ : Fin 8192) (h : Fin 4) (e : Fin 256) : val_main_v4 (F := Ideal) x1 (ix3 ρ h e) = x1 (ix2 ρ (hd256 h e)) := by
  rw [val_main_v4_apply, ix_v4]; rfl
theorem r45 (ρ : Fin 8192) (h : Fin 4) (e : Fin 128) : val_main_v45 (F := Ideal) x2 (ix3 ρ h e) = x2 (ix2 ρ (hd128 h e)) := by
  rw [val_main_v45_apply, ix_v45]; rfl
theorem r50 (ρ : Fin 8192) (h : Fin 4) (e : Fin 128) : val_main_v50 (F := Ideal) x3 (ix3 h e ρ) = x3 (ix2 ρ (hd128 h e)) := by
  rw [val_main_v50_apply, ix_50, val_main_v49_apply, ix_v49]

theorem eS_eq (h : Fin 4) (ρ κ : Fin 8192) : eS x0 x1 h ρ κ = if κ.val / 64 ≤ ρ.val / 64 then gS x0 x1 h ρ κ * ((Real.log 2 : ℝ) : EReal) else ⊥ := by
  unfold eS
  rw [val_main_v16_0_apply, r16m, WordCmp.select_decide, val_main_v8_apply, val_main_v7_apply, r6, val_main_v5_apply, val_main_call1_v2_apply]
  refine if_congr Iff.rfl ?_ bot_bits
  unfold gS
  exact congrArg (· * ((Real.log 2 : ℝ) : EReal)) (Finset.sum_congr rfl fun e _ => by rw [ix_l5, ix_r5, r3, r4])

theorem lift_last (h' : S4x8192x8192.Reduces [2] S4x8192) (h : Fin 4) (ρ : Fin 8192) (κ : Fin (S4x8192x8192.size 2)) : h'.lift (ix2 h ρ) κ = ix3 h ρ (κ : Fin 8192) := by
  funext a; apply Fin.ext
  fin_cases a <;> rfl

theorem eM_eq (h : Fin 4) (ρ : Fin 8192) : eM x0 x1 h ρ = Finset.fold max (⊥ : EReal) (fun κ => eS x0 x1 h ρ κ) (Finset.univ : Finset (Fin 8192)) := by
  unfold eM val_main_v17 val_main_cst_1
  rw [Host.reduce_eq_fold_single FloatOps.maximumf _ _ reducesTo_S4x8192x8192_S4x8192_d2 (by decide) h_S_]
  have hf : (val_main_v16_0 (F := Ideal) x0 x1 ∘ Shape.Reduces.lift (s := S4x8192x8192) (t := S4x8192) (a := 2) (by decide) (ix2 h ρ)) = fun κ : Fin 8192 => eS x0 x1 h ρ κ :=
    funext fun κ => congrArg (val_main_v16_0 (F := Ideal) x0 x1) (lift_last _ h ρ κ)
  exact (congrArg (fun f => Finset.fold max (Ideal.ofBits .f32 0xFF800000#32) f (Finset.univ : Finset (Fin 8192))) hf).trans (by rw [bot_bits])

theorem r24 (h : Fin 4) (ρ : Fin 8192) : (val_main_v24 (F := Ideal) x0 x1 (ix2 h ρ) : EReal) = eM x0 x1 h ρ := by
  rw [val_main_v24_apply, val_main_v23_apply]
  show max (Ideal.ofBits .f32 0xFF800000#32) (eM x0 x1 h ρ) = _
  rw [bot_bits]
  exact max_eq_right bot_le

theorem eU_eq (h : Fin 4) (ρ κ : Fin 8192) : eU x0 x1 h ρ κ = Ideal.exp (eS x0 x1 h ρ κ - eM x0 x1 h ρ) := by
  unfold eU
  rw [val_main_v37_apply, val_main_v36_apply, val_main_v35_apply, ix_35, val_main_v34_apply, ix_34, r24]
  rfl

theorem eL_eq (h : Fin 4) (ρ : Fin 8192) : eL x0 x1 h ρ = ∑ κ : Fin 8192, eU x0 x1 h ρ κ := by
  unfold eL
  rw [val_main_v38_apply, val_main_cst_9_apply, Ideal.ofBits_def, Ideal.ofBits_zero_f32, zero_add]
  exact Finset.sum_congr rfl fun κ _ => by rw [ix_38]; rfl

theorem r39 (h : Fin 4) (ρ : Fin 8192) (z : Fin 1) : (val_main_v39 (F := Ideal) x0 x1 (ix3 h ρ z) : EReal) = eL x0 x1 h ρ := by
  rw [val_main_v39_apply, ix_39]; rfl

theorem eP_eq (h : Fin 4) (ρ κ : Fin 8192) : eP x0 x1 h ρ κ = Ideal.div (eU x0 x1 h ρ κ) (eL x0 x1 h ρ) := by
  unfold eP
  rw [val_main_v41_apply, val_main_v40_apply, ix_40, r39]
  rfl

theorem r48 (h : Fin 4) (ρ : Fin 8192) (e : Fin 128) : (val_main_v48 (F := Ideal) x0 x1 x2 (ix2 ρ (hd128 h e)) : EReal) = ∑ κ : Fin 8192, (x2 (ix2 κ (hd128 h e)) : EReal) * eP x0 x1 h ρ κ := by
  rw [val_main_v48_apply, ix_v48, val_main_v47_apply, ix_47, val_main_v46_apply]
  exact Finset.sum_congr rfl fun κ _ => by rw [ix_l46, ix_r46, r45]; rfl

theorem eC_eq (h : Fin 4) (ρ κ : Fin 8192) : eC x2 x3 h ρ κ = ∑ e : Fin 128, (x3 (ix2 ρ (hd128 h e)) : EReal) * x2 (ix2 κ (hd128 h e)) := by
  unfold eC
  rw [val_main_v51_apply]
  exact Finset.sum_congr rfl fun e _ => by rw [ix_l51, ix_r51, r45, r50]

theorem r54 (h : Fin 4) (κ : Fin 8192) (e : Fin 128) : (val_main_v54 (F := Ideal) x0 x1 x3 (ix2 κ (hd128 h e)) : EReal) = ∑ ρ : Fin 8192, (x3 (ix2 ρ (hd128 h e)) : EReal) * eP x0 x1 h ρ κ := by
  rw [val_main_v54_apply, ix_v54, val_main_v53_apply, ix_53, val_main_v52_apply]
  exact Finset.sum_congr rfl fun ρ _ => by rw [ix_l52, ix_r52, r50]; rfl

theorem r57 (h : Fin 4) (ρ κ : Fin 8192) : (val_main_v57 (F := Ideal) x0 x1 x2 x3 (ix3 h ρ κ) : EReal) = eC x2 x3 h ρ κ * Ideal.div 1 (eL x0 x1 h ρ * eL x0 x1 h ρ) * eU x0 x1 h ρ κ := by
  rw [val_main_v57_apply, val_main_v56_apply, val_main_v55_apply, ix_55, val_main_v44_apply, val_main_v43_apply, val_main_v42_apply, r39]
  show eC x2 x3 h ρ κ * Ideal.div (Ideal.ofBits .f32 0x3F800000#32) (eL x0 x1 h ρ * eL x0 x1 h ρ) * eU x0 x1 h ρ κ = _
  rw [one_bits, EReal.coe_one]

theorem r60 (h : Fin 4) (ρ : Fin 8192) (z : Fin 1) : (val_main_v60 (F := Ideal) x0 x1 x2 x3 (ix3 h ρ z) : EReal) = -(∑ κ : Fin 8192, eC x2 x3 h ρ κ * Ideal.div 1 (eL x0 x1 h ρ * eL x0 x1 h ρ) * eU x0 x1 h ρ κ) := by
  rw [val_main_v60_apply, val_main_v59_apply, ix_v59, val_main_v58_apply, val_main_cst_11_apply, Ideal.ofBits_def, Ideal.ofBits_zero_f32, zero_add]
  exact congrArg (fun x : EReal => -x) (Finset.sum_congr rfl fun κ _ => by rw [ix_58, r57])

theorem eD_eq (h : Fin 4) (ρ κ : Fin 8192) : eD x0 x1 x2 x3 h ρ κ = if κ.val / 64 ≤ ρ.val / 64 then
    (Ideal.div (eC x2 x3 h ρ κ) (eL x0 x1 h ρ) + -(∑ κ : Fin 8192, eC x2 x3 h ρ κ * Ideal.div 1 (eL x0 x1 h ρ * eL x0 x1 h ρ) * eU x0 x1 h ρ κ)) * eU x0 x1 h ρ κ else 0 := by
  unfold eD
  rw [val_main_v67_apply, r16m, WordCmp.select_decide]
  refine if_congr Iff.rfl ?_ ?_
  · rw [val_main_v66_apply, val_main_v65_apply, val_main_v62_apply, val_main_v61_apply, ix_61, r39, val_main_v64_apply, ix_64, val_main_v63_apply, val_main_cst_12_apply,
      Ideal.ofBits_def, Ideal.ofBits_zero_f32, zero_add]
    rw [Fin.sum_univ_one, ix_63, r60]
    rfl
  · exact Ideal.ofBits_zero_f32

theorem r69 (h : Fin 4) (ρ κ : Fin 8192) : (val_main_v69 (F := Ideal) x0 x1 x2 x3 (ix3 h ρ κ) : EReal) = eD x0 x1 x2 x3 h ρ κ * ((Real.log 2 : ℝ) : EReal) := by
  rw [val_main_v69_apply, val_main_v68_apply, r6]
  rfl

theorem r74 (h : Fin 4) (κ : Fin 8192) (e : Fin 256) : (val_main_v74 (F := Ideal) x0 x1 x2 x3 (ix2 κ (hd256 h e)) : EReal)
    = ∑ ρ : Fin 8192, eD x0 x1 x2 x3 h ρ κ * ((Real.log 2 : ℝ) : EReal) * x0 (ix2 ρ (hd256 h e)) := by
  rw [val_main_v74_apply, ix_v74, val_main_v71_apply, ix_71, val_main_v70_apply]
  exact Finset.sum_congr rfl fun ρ _ => by rw [ix_l70, ix_r70, r69, r3]

theorem r75 (h : Fin 4) (ρ : Fin 8192) (e : Fin 256) : (val_main_v75 (F := Ideal) x0 x1 x2 x3 (ix2 ρ (hd256 h e)) : EReal)
    = ∑ κ : Fin 8192, eD x0 x1 x2 x3 h ρ κ * ((Real.log 2 : ℝ) : EReal) * x1 (ix2 κ (hd256 h e)) := by
  rw [val_main_v75_apply, ix_v75, val_main_v73_apply, ix_73, val_main_v72_apply]
  exact Finset.sum_congr rfl fun κ _ => by rw [ix_l72, ix_r72, r69, r4]

end Entries

end Cert.ReferenceIdeal.Read
-- ==== Proof.Alg.lean ====
module

public import proofs.«01_k».proof.Proof.RefRead
public import Idealize.ShloMosaic.PureOps.Ideal.Laws

@[expose] public section

noncomputable section

namespace Cert.Proof

open Idealize.ShloMosaic
open scoped BigOperators

/-! One row of the softmax, in the reals: `a` the scores before the factor ln 2, `p` the unmasked keys. -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem div_coe (x y : ℝ) (hy : y ≠ 0) : Ideal.div (x : EReal) (y : EReal) = ((x / y : ℝ) : EReal) := by
  unfold Ideal.div
  rw [if_neg (fun h => hy (EReal.coe_eq_zero.1 h)), div_eq_mul_inv, EReal.coe_mul, EReal.coe_inv]

theorem fold_real {n : ℕ} (f : Fin n → EReal) (g : Fin n → ℝ) (p : Fin n → Prop) [DecidablePred p] (hf : ∀ k, f k = if p k then ((g k : ℝ) : EReal) else ⊥)
    (k₀ : Fin n) (h₀ : p k₀) : ∃ μ : ℝ, Finset.fold max (⊥ : EReal) f Finset.univ = (μ : EReal) := by
  have e : Finset.fold max (⊥ : EReal) f Finset.univ = Finset.univ.sup f := rfl
  have ht : Finset.univ.sup f ≠ ⊤ := by
    refine ((Finset.sup_lt_iff (bot_lt_top)).2 fun k _ => ?_).ne
    rw [hf]
    split
    · exact EReal.coe_lt_top _
    · exact bot_lt_top
  have hb : Finset.univ.sup f ≠ ⊥ := by
    have h1 : f k₀ ≤ Finset.univ.sup f := Finset.le_sup (Finset.mem_univ k₀)
    rw [hf, if_pos h₀] at h1
    exact ((EReal.bot_lt_coe _).trans_le h1).ne'
  exact ⟨(Finset.univ.sup f).toReal, by rw [e, EReal.coe_toReal ht hb]⟩

section Row

variable {n : ℕ} (p : Fin n → Prop) [DecidablePred p] (a : Fin n → ℝ) (μ : ℝ)

/-- A row's terms and their sum. -/
def uR (k : Fin n) : ℝ := if p k then Real.exp (a k * Real.log 2 - μ) else 0
def lR : ℝ := ∑ k, uR p a μ k

theorem uR_nonneg (k : Fin n) : 0 ≤ uR p a μ k := by
  unfold uR
  split
  · exact (Real.exp_pos _).le
  · exact le_refl _

theorem lR_pos (k₀ : Fin n) (h₀ : p k₀) : 0 < lR p a μ := by
  refine Finset.sum_pos' (fun k _ => uR_nonneg p a μ k) ⟨k₀, Finset.mem_univ _, ?_⟩
  unfold uR
  rw [if_pos h₀]
  exact Real.exp_pos _

theorem exp_term (k : Fin n) : Ideal.exp ((if p k then ((a k : ℝ) : EReal) * ((Real.log 2 : ℝ) : EReal) else ⊥) - (μ : EReal)) = ((uR p a μ k : ℝ) : EReal) := by
  unfold uR
  split
  · rw [← EReal.coe_mul, ← EReal.coe_sub, Ideal.exp_coe]
  · rw [EReal.bot_sub, Ideal.exp_bot, EReal.coe_zero]

theorem log_two_ne : Real.log 2 ≠ 0 := (Real.log_pos (by norm_num)).ne'

theorem lse_real (l : ℝ) (hl : 0 < l) : Ideal.div (Ideal.log (l : EReal) + (μ : EReal)) ((Real.log 2 : ℝ) : EReal) = (((Real.log l + μ) / Real.log 2 : ℝ) : EReal) := by
  rw [Ideal.log_coe, if_neg (not_le.2 hl), ← EReal.coe_add, div_coe _ _ log_two_ne]

theorem prob_real (l : ℝ) (hl : 0 < l) (k : Fin n) :
    (if p k then Ideal.exp2 (((a k : ℝ) : EReal) - (((Real.log l + μ) / Real.log 2 : ℝ) : EReal)) else 0) = ((uR p a μ k / l : ℝ) : EReal) := by
  unfold uR
  split
  · rw [← EReal.coe_sub, Ideal.exp2_coe]
    refine congrArg _ ?_
    show (2 : ℝ) ^ (a k - (Real.log l + μ) / Real.log 2) = _
    rw [Real.rpow_def_of_pos (by norm_num), mul_sub, mul_div_cancel₀ _ log_two_ne]
    have e : Real.log 2 * a k - (Real.log l + μ) = (a k * Real.log 2 - μ) - Real.log l := by ring
    rw [e, Real.exp_sub, Real.exp_log hl]
  · rw [zero_div, EReal.coe_zero]

/-- The gradient of a score, both ways. -/
theorem grad_real (C : Fin n → ℝ) (l : ℝ) (hl : 0 < l) (k : Fin n) :
    (if p k then (Ideal.div ((C k : ℝ) : EReal) (l : EReal) + -(∑ j, ((C j : ℝ) : EReal) * Ideal.div 1 ((l : EReal) * (l : EReal)) * ((uR p a μ j : ℝ) : EReal))) * ((uR p a μ k : ℝ) : EReal) else 0)
      = ((uR p a μ k / l * (C k - ∑ j, C j * (uR p a μ j / l)) : ℝ) : EReal) := by
  have h1 : Ideal.div 1 ((l : EReal) * (l : EReal)) = ((1 / (l * l) : ℝ) : EReal) := by
    rw [← EReal.coe_mul, ← EReal.coe_one, div_coe _ _ (mul_pos hl hl).ne']
  rw [h1]
  have h2 : (∑ j, ((C j : ℝ) : EReal) * ((1 / (l * l) : ℝ) : EReal) * ((uR p a μ j : ℝ) : EReal)) = ((∑ j, C j * (1 / (l * l)) * uR p a μ j : ℝ) : EReal) := by
    rw [coe_sum]
    exact Finset.sum_congr rfl fun j _ => by rw [EReal.coe_mul, EReal.coe_mul]
  rw [h2, div_coe _ _ hl.ne', ← EReal.coe_neg, ← EReal.coe_add, ← EReal.coe_mul]
  split
  · refine congrArg _ ?_
    have h3 : (∑ j, C j * (1 / (l * l)) * uR p a μ j) = (1 / l) * ∑ j, C j * (uR p a μ j / l) := by
      rw [Finset.mul_sum]
      exact Finset.sum_congr rfl fun j _ => by field_simp
    rw [h3]
    field_simp
    ring
  · rename_i hk
    have h4 : uR p a μ k = 0 := if_neg hk
    rw [h4, zero_div, zero_mul, EReal.coe_zero]

end Row

/-- A row of the result against its cotangent, through the probabilities. -/
theorem swap_real {n d : ℕ} (D : Fin d → ℝ) (W : Fin n → Fin d → ℝ) (P : Fin n → ℝ) :
    (∑ e, D e * ∑ k, W k e * P k) = ∑ k, (∑ e, D e * W k e) * P k := by
  simp only [Finset.mul_sum, Finset.sum_mul]
  rw [Finset.sum_comm]
  exact Finset.sum_congr rfl fun k _ => Finset.sum_congr rfl fun e _ => by ring

end Cert.Proof
-- ==== Proof.Arrays.lean ====
module

public import proofs.«01_k».proof.Proof.Grid
public import Idealize.ShloMosaic.PureOps.Ideal.Laws
public import Idealize.ShloMosaic.Lib.Pointwise
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.TcCoe
open Idealize.ShloMosaic.ValueIdx (contrEquiv1 contrEquiv1_symm_val)
open Idealize.ShloMosaic.VecWindow (window put)
open scoped BigOperators

/-! The three results of the call, as arrays. -/

section Arrays

variable (m : (ℓ : Loc nD τ sig) → Buf (Elt Ideal) ℓ) (c : Dev nD)

theorem resV_at (h : Fin 4) (κ : Fin 8192) (e : Fin 128) (y : S8192x512.Idx) (h0 : (y 0).val = κ.val) (h1 : (y 1).val = h.val * 128 + e.val) :
    resV m c y = gdV (aQ m c) (aK m c) (aD m c) (aL m c) h κ e := by
  unfold resV
  have e1 : (⟨(y 1).val / 128, by omega⟩ : Fin 4) = h := Fin.ext (by dsimp only; omega)
  have e2 : (y 0 : Fin 8192) = κ := Fin.ext h0
  have e3 : (⟨(y 1).val % 128, by omega⟩ : Fin 128) = e := Fin.ext (by dsimp only; omega)
  rw [e1, e3]
  exact congrArg (fun k => gdV (aQ m c) (aK m c) (aD m c) (aL m c) h k e) e2

theorem arr8 : (pdat m 0 c).arrAt 8 cfg0.N = resV m c := by
  refine (pdat m 0 c).arrAt_eq_of_covers 8 _ (by decide +kernel) fun t hf y => ?_
  have ht : t.val % 4 = 3 := (flush0_8 t).1 hf
  blk_simp
  rw [aft8]
  have hy : y = ix2 (y 0) (y 1) := eq_ix2 _
  have hz : ∀ (κ : Fin 1024) (e : Fin 128), stB m c t.val t.isLt (ix2 κ e) = gdV (aQ m c) (aK m c) (aD m c) (aL m c) (ptH t) (rowK (ptJ t) κ) e := fun κ e => by
    rw [stB_val, ← all_addB]
    exact Finset.sum_congr rfl fun i _ => if_pos (by have := i.isLt; have := κ.isLt; omega)
  refine (congrArg _ hy).trans ((hz (y 0) (y 1)).trans (resV_at m c (ptH t) _ _ _ ?_ ?_).symm)
  · blk_simp [idx8 t, rowK_val, ptJ_val]
    first | done | rfl | omega
  · blk_simp [idx8 t, ptH_val]
    first | done | rfl | omega

theorem resK_at (h : Fin 4) (κ : Fin 8192) (e : Fin 256) (y : S8192x1024.Idx) (h0 : (y 0).val = κ.val) (h1 : (y 1).val = h.val * 256 + e.val) :
    resK m c y = gdK (aQ m c) (aK m c) (aW m c) (aO m c) (aD m c) (aL m c) h κ e := by
  unfold resK
  have e1 : (⟨(y 1).val / 256, by omega⟩ : Fin 4) = h := Fin.ext (by dsimp only; omega)
  have e2 : (y 0 : Fin 8192) = κ := Fin.ext h0
  have e3 : (⟨(y 1).val % 256, by omega⟩ : Fin 256) = e := Fin.ext (by dsimp only; omega)
  rw [e1, e3]
  exact congrArg (fun k => gdK (aQ m c) (aK m c) (aW m c) (aO m c) (aD m c) (aL m c) h k e) e2

theorem arr7 : (pdat m 0 c).arrAt 7 cfg0.N = resK m c := by
  refine (pdat m 0 c).arrAt_eq_of_covers 7 _ (by decide +kernel) fun t hf y => ?_
  have ht : t.val % 4 = 3 := (flush0_7 t).1 hf
  blk_simp
  rw [aft7]
  have hy : y = ix2 (y 0) (y 1) := eq_ix2 _
  have hz : ∀ (κ : Fin 1024) (e : Fin 256), stA m c t.val t.isLt (ix2 κ e) = gdK (aQ m c) (aK m c) (aW m c) (aO m c) (aD m c) (aL m c) (ptH t) (rowK (ptJ t) κ) e := fun κ e => by
    rw [stA_val, ← all_addA]
    exact Finset.sum_congr rfl fun i _ => if_pos (by have := i.isLt; have := κ.isLt; omega)
  refine (congrArg _ hy).trans ((hz (y 0) (y 1)).trans (resK_at m c (ptH t) _ _ _ ?_ ?_).symm)
  · blk_simp [idx7 t, rowK_val, ptJ_val]
    first | done | rfl | omega
  · blk_simp [idx7 t, ptH_val]
    first | done | rfl | omega

theorem resQ_at (h : Fin 4) (κ : Fin 8192) (e : Fin 256) (y : S8192x1024.Idx) (h0 : (y 0).val = κ.val) (h1 : (y 1).val = h.val * 256 + e.val) :
    resQ m c y = gdQ (aQ m c) (aK m c) (aW m c) (aO m c) (aD m c) (aL m c) h κ e := by
  unfold resQ
  have e1 : (⟨(y 1).val / 256, by omega⟩ : Fin 4) = h := Fin.ext (by dsimp only; omega)
  have e2 : (y 0 : Fin 8192) = κ := Fin.ext h0
  have e3 : (⟨(y 1).val % 256, by omega⟩ : Fin 256) = e := Fin.ext (by dsimp only; omega)
  rw [e1, e3]
  exact congrArg (fun k => gdQ (aQ m c) (aK m c) (aW m c) (aO m c) (aD m c) (aL m c) h k e) e2

theorem arr6 : (pdat m 0 c).arrAt 6 cfg0.N = resQ m c := by
  refine (pdat m 0 c).arrAt_eq_of_covers 6 _ (by decide +kernel) fun t hf y => ?_
  have ht : t.val % 32 = 31 := (flush0_6 t).1 hf
  blk_simp
  rw [aft6]
  have hy : y = ix2 (y 0) (y 1) := eq_ix2 _
  have hz : ∀ (κ : Fin 8192) (e : Fin 256), stD m c t.val t.isLt (ix2 κ e) = gdQ (aQ m c) (aK m c) (aW m c) (aO m c) (aD m c) (aL m c) (ptH t) (κ) e := fun κ e => by
    rw [stD_val, ← all_addD]
    exact Finset.sum_congr rfl fun i _ => if_pos (by have := i.isLt; have := κ.isLt; omega)
  refine (congrArg _ hy).trans ((hz (y 0) (y 1)).trans (resQ_at m c (ptH t) _ _ _ ?_ ?_).symm)
  · blk_simp [idx6 t, rowK_val, ptJ_val]
    first | done | rfl | omega
  · blk_simp [idx6 t, ptH_val]
    first | done | rfl | omega

end Arrays

end Cert.KernelIdeal.Gen
-- ==== Proof.Host.lean ====
module

public import proofs.«01_k».proof.Proof.Arrays
public import proofs.«01_k».proof.Proof.RefRead
public import Idealize.ShloMosaic.Lib.StableHlo.ReadAt

@[expose] public section

set_option maxRecDepth 16384

noncomputable section

namespace Cert.KernelIdeal.Gen

open Idealize.ShloMosaic Idealize.ShloMosaic.TcCoe
open Cert.ReferenceIdeal.Read (eL eM eP)

/-! What the lines before the call leave in the two arrays that the call takes from the forward pass. -/

section Host

variable (m : (ℓ : Loc nD τ sig) → Buf (Elt Ideal) ℓ) (c : Dev nD)

set_option maxHeartbeats 2000000 in
theorem host_o : V m c main_v33 = Cert.ReferenceIdeal.Read.val_main_v48 (F := Ideal) (m ((c : Thread nD τ).loc main_arg0)) (m ((c : Thread nD τ).loc main_arg1)) (m ((c : Thread nD τ).loc main_arg2)) := by
  unfold V
  simp only [hostOps0, hostOps0_1, hostOps0_2, hostOps0_3, hostOps0_4, List.flatten_cons, List.flatten_nil, List.append_nil, List.cons_append, List.nil_append]
  after_results_simp
  rfl

/-- The logarithm of the sum of the terms, in units of ln 2, from the scores `S` and the rows' greatest `M`. -/
def lseOf (S : S4x8192x8192.Idx → EReal) (M : S4x8192.Idx → EReal) : S4x8192x1.Idx → EReal :=
  Host.divf (F := Ideal) (φ := .f32)
    (addf (F := Ideal) (φ := .f32)
      (Host.log (F := Ideal) (φ := .f32) (broadcastInDim S4x8192x1 ![0, 1] bcast_S4x8192_S4x8192x1_0_1
        (Host.reduceAdd (F := Ideal) (φ := .f32) (Host.exp (F := Ideal) (φ := .f32) (subf (F := Ideal) (φ := .f32) S
          (broadcastInDim S4x8192x8192 ![0, 1, 2] bcast_S4x8192x1_S4x8192x8192_0_1_2 (broadcastInDim S4x8192x1 ![0, 1] bcast_S4x8192_S4x8192x1_0_1 M))))
          (constant (F := Ideal) S_ .f32 0x00000000#32) reducesTo_S4x8192x8192_S4x8192_d2 h_S_)))
      (broadcastInDim S4x8192x1 ![0, 1] bcast_S4x8192_S4x8192x1_0_1 M))
    (broadcastInDim S4x8192x1 ![] bcast_S_S4x8192x1 (Host.log (F := Ideal) (φ := .f32) (constant (F := Ideal) S_ .f32 0x40000000#32)))

set_option maxHeartbeats 2000000 in
theorem host_l : V m c main_v43 = lseOf (Cert.ReferenceIdeal.Read.val_main_v16_0 (F := Ideal) (m ((c : Thread nD τ).loc main_arg0)) (m ((c : Thread nD τ).loc main_arg1)))
    (Cert.ReferenceIdeal.Read.val_main_v17 (F := Ideal) (m ((c : Thread nD τ).loc main_arg0)) (m ((c : Thread nD τ).loc main_arg1))) := by
  unfold V
  simp only [hostOps0, hostOps0_1, hostOps0_2, hostOps0_3, hostOps0_4, List.flatten_cons, List.flatten_nil, List.append_nil, List.cons_append, List.nil_append]
  after_results_simp
  rfl

end Host

section Lse

variable (x0 x1 : S8192x1024.Idx → EReal)

theorem v24_eq : Cert.ReferenceIdeal.Read.val_main_v24 (F := Ideal) x0 x1 = Cert.ReferenceIdeal.Read.val_main_v17 (F := Ideal) x0 x1 := by
  funext i
  rw [eq_ix2 i]
  exact Cert.ReferenceIdeal.Read.r24 x0 x1 (i 0) (i 1)

theorem lse_at (h : Fin 4) (ρ : Fin 8192) :
    lseOf (Cert.ReferenceIdeal.Read.val_main_v16_0 (F := Ideal) x0 x1) (Cert.ReferenceIdeal.Read.val_main_v17 (F := Ideal) x0 x1) (ix3 h ρ 0)
      = Ideal.div (Ideal.log (eL x0 x1 h ρ) + eM x0 x1 h ρ) ((Real.log 2 : ℝ) : EReal) := by
  rw [← v24_eq]
  have e1 := Cert.ReferenceIdeal.Read.r39 x0 x1 h ρ 0
  have e2 : Cert.ReferenceIdeal.Read.val_main_v34 (F := Ideal) x0 x1 (ix3 h ρ 0) = eM x0 x1 h ρ := by
    rw [Cert.ReferenceIdeal.Read.val_main_v34_apply, Cert.ReferenceIdeal.Read.ix_34, Cert.ReferenceIdeal.Read.r24]
  have e3 : (broadcastInDim S4x8192x1 ![] bcast_S_S4x8192x1 (Cert.ReferenceIdeal.Read.val_main_v6 (F := Ideal)) (ix3 h ρ 0) : EReal) = ((Real.log 2 : ℝ) : EReal) := by
    rw [broadcastInDim_apply _ bcast_S_S4x8192x1 _ (ix3 h ρ 0) (fun a => a.elim0) (fun a => a.elim0)]
    exact Cert.ReferenceIdeal.Read.r6 _
  rw [← e1, ← e2, ← e3]
  rfl

end Lse

end Cert.KernelIdeal.Gen
-- ==== Proof.Row.lean ====
module

public import proofs.«01_k».proof.Proof.Alg
public import proofs.«01_k».proof.Proof.Host

@[expose] public section

noncomputable section

namespace Cert.Proof

open Idealize.ShloMosaic
open Cert.KernelIdeal (S8192x1024 S8192x512 S4x8192x1)
open Cert.KernelIdeal.Gen (hd256 hd128 gS gP gDs gdV gdK gdQ)
open Cert.ReferenceIdeal.Read (eS eM eU eL eP eC eD eS_eq eM_eq eU_eq eL_eq eP_eq eC_eq eD_eq)
open scoped BigOperators

/-! The kernel's row of probabilities and of score gradients is the reference's. -/

section Rows

variable (x0 x1 : S8192x1024.Idx → EReal) (x2 x3 : S8192x512.Idx → EReal) (q k : S8192x1024.Idx → ℝ) (v d : S8192x512.Idx → ℝ)

/-- A score before the factor ln 2, in the reals. -/
def aR (h : Fin 4) (ρ κ : Fin 8192) : ℝ := ∑ e : Fin 256, q (ix2 ρ (hd256 h e)) * k (ix2 κ (hd256 h e))

/-- The keys that a row of queries sees. -/
abbrev seen (ρ κ : Fin 8192) : Prop := κ.val / 64 ≤ ρ.val / 64

variable (h0 : ∀ i, x0 i = ((q i : ℝ) : EReal)) (h1 : ∀ i, x1 i = ((k i : ℝ) : EReal))

include h0 h1

theorem gS_real (h : Fin 4) (ρ κ : Fin 8192) : gS x0 x1 h ρ κ = ((aR q k h ρ κ : ℝ) : EReal) := by
  unfold gS aR
  rw [coe_sum]
  exact Finset.sum_congr rfl fun e _ => by rw [h0, h1, EReal.coe_mul]

theorem row_real (h : Fin 4) (ρ : Fin 8192) : ∃ μ : ℝ, eM x0 x1 h ρ = (μ : EReal)
    ∧ (∀ κ, eU x0 x1 h ρ κ = ((uR (seen ρ) (aR q k h ρ) μ κ : ℝ) : EReal))
    ∧ eL x0 x1 h ρ = ((lR (seen ρ) (aR q k h ρ) μ : ℝ) : EReal) ∧ 0 < lR (seen ρ) (aR q k h ρ) μ := by
  have hS : ∀ κ, eS x0 x1 h ρ κ = if seen ρ κ then ((aR q k h ρ κ : ℝ) : EReal) * ((Real.log 2 : ℝ) : EReal) else ⊥ := fun κ => by
    rw [eS_eq, gS_real x0 x1 q k h0 h1]
  obtain ⟨μ, hμ⟩ := fold_real (fun κ => eS x0 x1 h ρ κ) (fun κ => aR q k h ρ κ * Real.log 2) (seen ρ) (fun κ => by rw [hS, EReal.coe_mul]) ρ (le_refl _)
  have hU : ∀ κ, eU x0 x1 h ρ κ = ((uR (seen ρ) (aR q k h ρ) μ κ : ℝ) : EReal) := fun κ => by
    rw [eU_eq, eM_eq, hμ, hS, exp_term]
  refine ⟨μ, (eM_eq x0 x1 h ρ).trans hμ, hU, ?_, lR_pos _ _ _ ρ (le_refl _)⟩
  rw [eL_eq]
  unfold lR
  rw [coe_sum]
  exact Finset.sum_congr rfl fun κ _ => hU κ

theorem gP_eq (L : S4x8192x1.Idx → EReal) (h : Fin 4) (ρ κ : Fin 8192)
    (hL : L (ix3 h ρ 0) = Ideal.div (Ideal.log (eL x0 x1 h ρ) + eM x0 x1 h ρ) ((Real.log 2 : ℝ) : EReal)) :
    gP x0 x1 L h ρ κ = eP x0 x1 h ρ κ := by
  obtain ⟨μ, hM, hU, hl, hpos⟩ := row_real x0 x1 q k h0 h1 h ρ
  unfold gP
  rw [hL, hl, hM, lse_real μ _ hpos, gS_real x0 x1 q k h0 h1, eP_eq, hU, hl, div_coe _ _ hpos.ne']
  exact prob_real (seen ρ) (aR q k h ρ) μ _ hpos κ

theorem gDs_eq (h2 : ∀ i, x2 i = ((v i : ℝ) : EReal)) (h3 : ∀ i, x3 i = ((d i : ℝ) : EReal)) (O : S8192x512.Idx → EReal) (L : S4x8192x1.Idx → EReal) (h : Fin 4) (ρ κ : Fin 8192)
    (hL : L (ix3 h ρ 0) = Ideal.div (Ideal.log (eL x0 x1 h ρ) + eM x0 x1 h ρ) ((Real.log 2 : ℝ) : EReal))
    (hO : ∀ e, O (ix2 ρ (hd128 h e)) = ∑ κ : Fin 8192, x2 (ix2 κ (hd128 h e)) * eP x0 x1 h ρ κ) :
    gDs x0 x1 x2 O x3 L h ρ κ = eD x0 x1 x2 x3 h ρ κ := by
  obtain ⟨μ, hM, hU, hl, hpos⟩ := row_real x0 x1 q k h0 h1 h ρ
  have hP : ∀ κ, eP x0 x1 h ρ κ = ((uR (seen ρ) (aR q k h ρ) μ κ / lR (seen ρ) (aR q k h ρ) μ : ℝ) : EReal) := fun κ => by
    rw [eP_eq, hU, hl, div_coe _ _ hpos.ne']
  have hC : ∀ κ, eC x2 x3 h ρ κ = ((∑ e : Fin 128, d (ix2 ρ (hd128 h e)) * v (ix2 κ (hd128 h e)) : ℝ) : EReal) := fun κ => by
    rw [eC_eq, coe_sum]
    exact Finset.sum_congr rfl fun e _ => by rw [h3, h2, EReal.coe_mul]
  have hDO : (∑ e : Fin 128, x3 (ix2 ρ (hd128 h e)) * O (ix2 ρ (hd128 h e)))
      = ((∑ e : Fin 128, d (ix2 ρ (hd128 h e)) * ∑ κ : Fin 8192, v (ix2 κ (hd128 h e)) * (uR (seen ρ) (aR q k h ρ) μ κ / lR (seen ρ) (aR q k h ρ) μ) : ℝ) : EReal) := by
    rw [coe_sum]
    refine Finset.sum_congr rfl fun e _ => ?_
    rw [hO, h3, EReal.coe_mul, coe_sum]
    refine congrArg _ (Finset.sum_congr rfl fun κ _ => ?_)
    rw [h2, hP, EReal.coe_mul]
  unfold gDs
  rw [gP_eq x0 x1 q k h0 h1 L h ρ κ hL, hP, hDO, ← eC_eq, hC, eD_eq]
  simp only [hC, hl, hU]
  rw [← EReal.coe_sub, ← EReal.coe_mul, swap_real (fun e => d (ix2 ρ (hd128 h e))) (fun κ e => v (ix2 κ (hd128 h e)))]
  exact (grad_real (seen ρ) (aR q k h ρ) μ (fun κ => ∑ e : Fin 128, d (ix2 ρ (hd128 h e)) * v (ix2 κ (hd128 h e))) _ hpos κ).symm

end Rows

end Cert.Proof
-- ==== Proof.Finite.lean ====
module

public import proofs.«01_k».proof.Proof.Alg

@[expose] public section

noncomputable section

/-! Real entries, and the derivative of the gate's activation at an extended real. -/

namespace Cert.Proof

open Idealize.ShloMosaic
open scoped BigOperators

theorem inf_bits : Ideal.ofBits .f32 0x7F800000#32 = (⊤ : EReal) := by simp [Ideal.ofBits, Ideal.ieee]

/-- An entry whose absolute value is below infinity is a real number. -/
theorem real_of_abs (x : EReal) (h : Ideal.cmp .olt (max x (-x)) (Ideal.ofBits .f32 0x7F800000#32) = 1#1) : x = ((x.toReal : ℝ) : EReal) := by
  rw [inf_bits] at h
  have h' : decide (max x (-x) < ⊤) = true := (BitVec.ofBool_eq_iff_eq.1 (h.trans (rfl : (1#1 : BitVec 1) = BitVec.ofBool true)))
  have h2 := of_decide_eq_true h'
  refine (EReal.coe_toReal ?_ ?_).symm
  · rintro rfl
    exact absurd (le_max_left _ _) (not_le.2 h2)
  · rintro rfl
    exact absurd ((le_of_eq EReal.neg_bot.symm).trans (le_max_right _ _)) (not_le.2 h2)

/-- A sum of products of real numbers is a real number. -/
theorem real_dot {ι : Type} [Fintype ι] (f g : ι → EReal) (hf : ∀ i, f i = (((f i).toReal : ℝ) : EReal)) (hg : ∀ i, g i = (((g i).toReal : ℝ) : EReal)) :
    ∑ i, f i * g i = ((∑ i, (f i).toReal * (g i).toReal : ℝ) : EReal) := by
  rw [coe_sum]
  exact Finset.sum_congr rfl fun i _ => by rw [EReal.coe_mul, ← hf i, ← hg i]

theorem logistic_bot : Ideal.logistic ⊥ = 0 := by
  unfold Ideal.logistic
  rw [EReal.neg_bot, show Ideal.exp ⊤ = ⊤ from rfl, show (1 : EReal) + ⊤ = ⊤ from rfl]
  simp [Ideal.div]

theorem logistic_top : Ideal.logistic ⊤ = 1 := by
  unfold Ideal.logistic
  rw [EReal.neg_top, show Ideal.exp ⊥ = 0 from rfl]
  simp [Ideal.div]

theorem logistic_coe (x : ℝ) : Ideal.logistic (x : EReal) = ((1 / (1 + Real.exp (-x)) : ℝ) : EReal) := by
  have h : (1 + Real.exp (-x) : ℝ) ≠ 0 := by positivity
  unfold Ideal.logistic
  rw [← EReal.coe_neg, show Ideal.exp ((-x : ℝ) : EReal) = ((Real.exp (-x) : ℝ) : EReal) from rfl, ← EReal.coe_one, ← EReal.coe_add]
  exact div_coe 1 _ h

/-- The two forms of the gate's gradient agree when the gradient they scale is real. -/
theorem silu_grad (x : ℝ) (g : EReal) :
    (x : EReal) * Ideal.logistic g * (1 + g * (1 - Ideal.logistic g)) = x * Ideal.logistic g + g * x * (Ideal.logistic g * (1 - Ideal.logistic g)) := by
  induction g with
  | bot => simp [logistic_bot]
  | top =>
    have h : (1 : EReal) - 1 = 0 := by rw [← EReal.coe_one, ← EReal.coe_sub, sub_self, EReal.coe_zero]
    simp [logistic_top, h]
  | coe g =>
    rw [logistic_coe]
    generalize (1 / (1 + Real.exp (-g)) : ℝ) = s
    rw [← EReal.coe_one, ← EReal.coe_sub, ← EReal.coe_mul, ← EReal.coe_mul, ← EReal.coe_add, ← EReal.coe_mul, ← EReal.coe_mul, ← EReal.coe_mul, ← EReal.coe_mul, ← EReal.coe_add]
    exact congrArg _ (by ring)

end Cert.Proof

end
-- ==== Proof.Value.lean ====
module

public import proofs.«01_k».proof.Defs
public import proofs.«01_k».proof.Proof.Row
public import proofs.«01_k».proof.Proof.Finite
public import proofs.«01_k».proof.Proof.Gen.Pre_finite

@[expose] public section

noncomputable section

namespace Cert.Proof

open Idealize.ShloMosaic Idealize.ShloMosaic.TcCoe Idealize.SL.Sem
open Cert.KernelIdeal (S8192x1024 S8192x512 S4x8192x1)
open Cert.KernelIdeal.Gen (hd256 hd128 gS gP gDs gdV gdK gdQ aQ aK aW aO aL aD resV resK resQ resV_at resK_at resQ_at)
open Cert.ReferenceIdeal.Read (eS eM eU eL eP eC eD)
open scoped BigOperators

/-! The claim of equal results. -/

section Arrays

variable (m : (ℓ : Loc Cert.KernelIdeal.nD Cert.KernelIdeal.τ Cert.KernelIdeal.sig) → Buf (Elt Ideal) ℓ) (c : Dev Cert.KernelIdeal.nD)

/-- The four arguments. -/
def iQ : S8192x1024.Idx → EReal := m ((c.tc : Thread Cert.KernelIdeal.nD Cert.KernelIdeal.τ).loc Cert.KernelIdeal.main_arg0)
def iK : S8192x1024.Idx → EReal := m ((c.tc : Thread Cert.KernelIdeal.nD Cert.KernelIdeal.τ).loc Cert.KernelIdeal.main_arg1)
def iV : S8192x512.Idx → EReal := m ((c.tc : Thread Cert.KernelIdeal.nD Cert.KernelIdeal.τ).loc Cert.KernelIdeal.main_arg2)
def iD : S8192x512.Idx → EReal := m ((c.tc : Thread Cert.KernelIdeal.nD Cert.KernelIdeal.τ).loc Cert.KernelIdeal.main_arg3)

theorem aQ_eq : aQ m c = iQ m c := Cert.KernelIdeal.Gen.V_main_arg0 m c
theorem aK_eq : aK m c = iK m c := Cert.KernelIdeal.Gen.V_main_arg1 m c
theorem aW_eq : aW m c = iV m c := Cert.KernelIdeal.Gen.V_main_arg2 m c
theorem aD_eq : aD m c = iD m c := Cert.KernelIdeal.Gen.V_main_arg3 m c

theorem aL_at (h : Fin 4) (ρ : Fin 8192) : aL m c (ix3 h ρ 0) = Ideal.div (Ideal.log (eL (iQ m c) (iK m c) h ρ) + eM (iQ m c) (iK m c) h ρ) ((Real.log 2 : ℝ) : EReal) :=
  (congrFun (Cert.KernelIdeal.Gen.host_l m c) (ix3 h ρ 0)).trans (Cert.KernelIdeal.Gen.lse_at (iQ m c) (iK m c) h ρ)

theorem aO_at (h : Fin 4) (ρ : Fin 8192) (e : Fin 128) : aO m c (ix2 ρ (hd128 h e)) = ∑ κ : Fin 8192, iV m c (ix2 κ (hd128 h e)) * eP (iQ m c) (iK m c) h ρ κ :=
  (congrFun (Cert.KernelIdeal.Gen.host_o m c) (ix2 ρ (hd128 h e))).trans (Cert.ReferenceIdeal.Read.r48 (iQ m c) (iK m c) (iV m c) h ρ e)

variable (hp : Cert.Pre_KernelIdeal_finite (hPre_finite := Cert.Pre_finite.Gen.facts) m)

include hp

theorem iQ_real (i : S8192x1024.Idx) : iQ m c i = (((iQ m c i).toReal : ℝ) : EReal) := real_of_abs _ (congrFun (hp c).1 i)
theorem iK_real (i : S8192x1024.Idx) : iK m c i = (((iK m c i).toReal : ℝ) : EReal) := real_of_abs _ (congrFun (hp c).2.1 i)
theorem iV_real (i : S8192x512.Idx) : iV m c i = (((iV m c i).toReal : ℝ) : EReal) := real_of_abs _ (congrFun (hp c).2.2.1 i)
theorem iD_real (i : S8192x512.Idx) : iD m c i = (((iD m c i).toReal : ℝ) : EReal) := real_of_abs _ (congrFun (hp c).2.2.2 i)

theorem probs (h : Fin 4) (ρ κ : Fin 8192) : gP (iQ m c) (iK m c) (aL m c) h ρ κ = eP (iQ m c) (iK m c) h ρ κ :=
  gP_eq _ _ _ _ (iQ_real m c hp) (iK_real m c hp) _ h ρ κ (aL_at m c h ρ)

theorem grads (h : Fin 4) (ρ κ : Fin 8192) : gDs (iQ m c) (iK m c) (iV m c) (aO m c) (iD m c) (aL m c) h ρ κ = eD (iQ m c) (iK m c) (iV m c) (iD m c) h ρ κ :=
  gDs_eq _ _ _ _ _ _ _ _ (iQ_real m c hp) (iK_real m c hp) (iV_real m c hp) (iD_real m c hp) _ _ h ρ κ (aL_at m c h ρ) (aO_at m c h ρ)

theorem split_512 (y : S8192x512.Idx) : ∃ (h : Fin 4) (ρ : Fin 8192) (e : Fin 128), y = ix2 ρ (hd128 h e) := by
  have h1 : (y 1).val < 512 := (y 1).isLt
  have e1 : (y 1).val = (y 1).val / 128 * 128 + (y 1).val % 128 := by omega
  exact ⟨⟨(y 1).val / 128, by omega⟩, y 0, ⟨(y 1).val % 128, by omega⟩, (eq_ix2 y).trans (congrArg (ix2 (y 0 : Fin 8192)) (Fin.ext e1))⟩

theorem split_1024 (y : S8192x1024.Idx) : ∃ (h : Fin 4) (ρ : Fin 8192) (e : Fin 256), y = ix2 ρ (hd256 h e) := by
  have h1 : (y 1).val < 1024 := (y 1).isLt
  have e1 : (y 1).val = (y 1).val / 256 * 256 + (y 1).val % 256 := by omega
  exact ⟨⟨(y 1).val / 256, by omega⟩, y 0, ⟨(y 1).val % 256, by omega⟩, (eq_ix2 y).trans (congrArg (ix2 (y 0 : Fin 8192)) (Fin.ext e1))⟩

theorem dv_eq : resV m c = Cert.ReferenceIdeal.Read.val_main_v54 (F := Ideal) (iQ m c) (iK m c) (iD m c) := by
  funext y
  obtain ⟨h, y₀, e, rfl⟩ := split_512 m hp y
  rw [resV_at m c h y₀ e _ rfl rfl, aQ_eq, aK_eq, aD_eq]
  refine Eq.trans ?_ (Cert.ReferenceIdeal.Read.r54 (iQ m c) (iK m c) (iD m c) h y₀ e).symm
  unfold gdV
  exact Finset.sum_congr rfl fun ρ _ => by rw [probs m c hp]; exact mul_comm _ _

theorem dk_eq : resK m c = Cert.ReferenceIdeal.Read.val_main_v74 (F := Ideal) (iQ m c) (iK m c) (iV m c) (iD m c) := by
  funext y
  obtain ⟨h, y₀, e, rfl⟩ := split_1024 m hp y
  rw [resK_at m c h y₀ e _ rfl rfl, aQ_eq, aK_eq, aW_eq, aD_eq]
  refine Eq.trans ?_ (Cert.ReferenceIdeal.Read.r74 (iQ m c) (iK m c) (iV m c) (iD m c) h y₀ e).symm
  unfold gdK
  exact Finset.sum_congr rfl fun ρ _ => by rw [grads m c hp]; exact mul_right_comm _ _ _

theorem dq_eq : resQ m c = Cert.ReferenceIdeal.Read.val_main_v75 (F := Ideal) (iQ m c) (iK m c) (iV m c) (iD m c) := by
  funext y
  obtain ⟨h, y₀, e, rfl⟩ := split_1024 m hp y
  rw [resQ_at m c h y₀ e _ rfl rfl, aQ_eq, aK_eq, aW_eq, aD_eq]
  refine Eq.trans ?_ (Cert.ReferenceIdeal.Read.r75 (iQ m c) (iK m c) (iV m c) (iD m c) h y₀ e).symm
  unfold gdQ
  exact Finset.sum_congr rfl fun κ _ => by rw [grads m c hp]; exact mul_right_comm _ _ _

end Arrays

/-- The call's three arrays are the reference's three gradients. -/
theorem equal_results : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp hm
  refine ⟨fun c => resQ m c, fun c => resK m c, fun c => resV m c, ?_, ?_⟩
  · refine (θ_run Cert.KernelIdeal.defs _ _).mono (fun r h c => ?_) (θ_run_and (Cert.KernelIdeal.Gen.ends (F := Ideal) m g) (Cert.KernelIdeal.Gen.framed (F := Ideal) m g))
    exact ⟨(Pipeline.FramePost.out_eq h.1 c 6).trans (Cert.KernelIdeal.Gen.arr6 m c), (Pipeline.FramePost.out_eq h.1 c 7).trans (Cert.KernelIdeal.Gen.arr7 m c),
      (Pipeline.FramePost.out_eq h.1 c 8).trans (Cert.KernelIdeal.Gen.arr8 m c), h.2.1 c⟩
  · refine (θ_run Cert.ReferenceIdeal.defs _ _).mono (fun r h c => ?_) (Cert.ReferenceIdeal.Value.run (F := Ideal) m' g')
    obtain ⟨m0, m1, m2, m3⟩ := hm c
    refine ⟨(h c).1.trans ?_, (h c).2.1.trans ?_, (h c).2.2.1.trans ?_, (h c).2.2.2⟩
    · rw [Cert.ReferenceIdeal.Read.val_main_v75_eq, m0, m1, m2, m3]
      exact (dq_eq m c hp).symm
    · rw [Cert.ReferenceIdeal.Read.val_main_v74_eq, m0, m1, m2, m3]
      exact (dk_eq m c hp).symm
    · rw [Cert.ReferenceIdeal.Read.val_main_v54_eq, m0, m1, m3]
      exact (dv_eq m c hp).symm

end Cert.Proof
-- ==== Proof.Down.lean ====
module

public import proofs.«01_k».proof.Defs
public import proofs.«01_k».proof.Proof.Gen.Kernel7Ideal.Value
public import proofs.«01_k».proof.Proof.Gen.Reference7Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The second product of the feed-forward layer: every block of rows is the block of the whole product. -/

namespace Cert.Kernel7Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: block `t` of rows, the whole weight. -/
theorem idx : ∀ t : Fin cfg0.N, win0_0.index t = ![t.val, 0] ∧ win0_1.index t = ![0, 0] ∧ win0_2.index t = ![t.val, 0] :=
  (by decide +kernel : ∀ t : Fin grid0.N, _)

/-- What the call leaves is the reference's product. -/
theorem array : (dats m 0 c).arrAt 2 cfg0.N
    = Cert.Reference7Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2⟩ := idx t
  refine Eq.trans (?_ : _ = (∑ k, _ : EReal)) (Cert.Reference7Ideal.Read.val_main_v2_apply _ _ _).symm
  unfold k0_pay1
  pointwise
  refine Finset.sum_congr rfl fun k _ => ?_
  rw [Cert.Reference7Ideal.Read.val_main_v0_apply, Cert.Reference7Ideal.Read.val_main_v1_apply]
  congr 1 <;> blk_ext [iblk, V, e0, e1, e2]

end Cert.Kernel7Ideal.Gen
-- ==== Proof.Dx.lean ====
module

public import proofs.«01_k».proof.Defs
public import proofs.«01_k».proof.Proof.Gen.Kernel6Ideal.Value
public import proofs.«01_k».proof.Proof.Gen.Reference6Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The gradient with respect to the feed-forward input: the gradient of one product, added to what is already there. -/

namespace Cert.Kernel6Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: block `t` of rows, the whole weight. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

open Cert.Reference6Ideal.Read in
/-- The reference's sum at a place. -/
theorem reference_apply (x0 : Vec Ideal S8192x2816 .bf16) (x1 : Vec Ideal S1024x2816 .bf16) (x2 : Vec Ideal S8192x1024 .f32) (i : S8192x1024.Idx) :
    val_main_v5 (F := Ideal) x0 x1 x2 i = (x2 i + ∑ k : Fin 2816, x0 (lidx_main_v4 i k) * x1 (ridx_main_v4 i k) : EReal) := by
  rw [val_main_v5_apply, val_main_v4_apply]
  rfl

/-- What the call leaves is the reference's sum. -/
theorem array : (dats m 0 c).arrAt 3 cfg0.N
    = Cert.Reference6Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨e0, e1, e2, e3⟩ := idx t
  refine Eq.trans ?_ (reference_apply _ _ _ _).symm
  unfold k0_pay1
  pointwise
  rw [add_comm]
  congr 1
  refine Finset.sum_congr rfl fun k _ => ?_
  congr 1 <;> blk_ext [iblk, V, e0, e1, e3]

end Cert.Kernel6Ideal.Gen
-- ==== Proof.Up.lean ====
module

public import proofs.«01_k».proof.Defs
public import proofs.«01_k».proof.Proof.Gen.Kernel3Ideal.Value
public import proofs.«01_k».proof.Proof.Gen.Reference3Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The first half of the feed-forward layer: gate, up and their hidden product, block by block. -/

namespace Cert.Kernel3Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: a block of rows and a block of columns. -/
theorem idx : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

open Cert.Reference3Ideal.Read in
/-- The reference's gate at a place. -/
theorem gate_apply (x0 : Vec Ideal S8192x1024 .f32) (x1 : Vec Ideal S1024x2816 .bf16) (i : S8192x2816.Idx) :
    val_main_v2 (F := Ideal) x0 x1 i = (∑ k : Fin 1024, x0 (lidx_main_v2 i k) * x1 (ridx_main_v2 i k) : EReal) := by
  rw [val_main_v2_apply]
  rfl

open Cert.Reference3Ideal.Read in
/-- The reference's up at a place. -/
theorem up_apply (x0 : Vec Ideal S8192x1024 .f32) (x2 : Vec Ideal S1024x2816 .bf16) (i : S8192x2816.Idx) :
    val_main_v3 (F := Ideal) x0 x2 i = (∑ k : Fin 1024, x0 (lidx_main_v3 i k) * x2 (ridx_main_v3 i k) : EReal) := by
  rw [val_main_v3_apply]
  rfl

open Cert.Reference3Ideal.Read in
/-- The reference's hidden product at a place. -/
theorem hidden_apply (x0 : Vec Ideal S8192x1024 .f32) (x1 x2 : Vec Ideal S1024x2816 .bf16) (i : S8192x2816.Idx) :
    val_main_v8 (F := Ideal) x0 x1 x2 i
      = (val_main_v2 (F := Ideal) x0 x1 i * Ideal.logistic (val_main_v2 (F := Ideal) x0 x1 i) * val_main_v3 (F := Ideal) x0 x2 i : EReal) := by
  rw [val_main_v8_apply, val_main_v5_apply, val_main_v4_apply, val_main_call0_v5_apply, val_main_call0_v4_apply, val_main_call0_v3_apply,
    val_main_call0_v2_apply, val_main_call0_v1_apply, val_main_call0_v0_apply, val_main_call0_cst_apply, val_main_call0_cst_0_apply]
  simp [Ideal.logistic]

/-- A block's gate. -/
theorem tile_gate (a : Vec Ideal S512x1024 .f32) (b : Vec Ideal S1024x1408 .bf16) (y : S512x1408.Idx) :
    k0_pay2 a b y = (∑ k : Fin 1024, a (ix2 (y 0) k) * b (ix2 k (y 1)) : EReal) := by
  unfold k0_pay2 k0_pay1
  pointwise

/-- A block's up. -/
theorem tile_up (a : Vec Ideal S512x1024 .f32) (b : Vec Ideal S1024x1408 .bf16) (y : S512x1408.Idx) :
    k0_pay3 a b y = (∑ k : Fin 1024, a (ix2 (y 0) k) * b (ix2 k (y 1)) : EReal) := by
  unfold k0_pay3 k0_pay1
  pointwise

/-- A block's gate is the reference's gate at the block's place. -/
theorem block_gate (t : Fin cfg0.N) (y : S512x1408.Idx) (i : S8192x2816.Idx) (h0 : (i 0).val = t.val / 2 * 512 + (y 0).val)
    (h1 : (i 1).val = t.val % 2 * 1408 + (y 1).val) :
    (k0_pay2 (iblk m c 0 t) (iblk m c 1 t) y : EReal)
      = Cert.Reference3Ideal.Read.val_main_v2 (F := Ideal) (m ((c : Thread nD τ).loc main_arg0)) (m ((c : Thread nD τ).loc main_arg1)) i := by
  obtain ⟨e0, e1, _⟩ := idx t
  refine Eq.trans ?_ (gate_apply _ _ _).symm
  refine (tile_gate _ _ _).trans (Finset.sum_congr rfl fun k _ => ?_)
  congr 1 <;> blk_ext [iblk, V, e0, e1]

/-- A block's up is the reference's up at the block's place. -/
theorem block_up (t : Fin cfg0.N) (y : S512x1408.Idx) (i : S8192x2816.Idx) (h0 : (i 0).val = t.val / 2 * 512 + (y 0).val)
    (h1 : (i 1).val = t.val % 2 * 1408 + (y 1).val) :
    (k0_pay3 (iblk m c 0 t) (iblk m c 2 t) y : EReal)
      = Cert.Reference3Ideal.Read.val_main_v3 (F := Ideal) (m ((c : Thread nD τ).loc main_arg0)) (m ((c : Thread nD τ).loc main_arg2)) i := by
  obtain ⟨e0, _, e2, _⟩ := idx t
  refine Eq.trans ?_ (up_apply _ _ _).symm
  refine (tile_up _ _ _).trans (Finset.sum_congr rfl fun k _ => ?_)
  congr 1 <;> blk_ext [iblk, V, e0, e2]

/-- What the call leaves as gate. -/
theorem array_gate : (dats m 0 c).arrAt 3 cfg0.N
    = Cert.Reference3Ideal.Read.val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  have e := (idx t).2.2.2.1
  exact block_gate m c t y _ (by blk_simp [e]) (by blk_simp [e])

/-- What the call leaves as up. -/
theorem array_up : (dats m 0 c).arrAt 4 cfg0.N
    = Cert.Reference3Ideal.Read.val_main_v7 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  have e := (idx t).2.2.2.2.1
  exact block_up m c t y _ (by blk_simp [e]) (by blk_simp [e])

/-- What the call leaves as the hidden product. -/
theorem array_hidden : (dats m 0 c).arrAt 5 cfg0.N
    = Cert.Reference3Ideal.Read.val_main_v8 (F := Ideal) (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  rw [after0_5]
  frame_out
  have e := (idx t).2.2.2.2.2
  refine Eq.trans ?_ (hidden_apply _ _ _ _).symm
  rw [← block_gate m c t y _ (by blk_simp [e]) (by blk_simp [e]), ← block_up m c t y _ (by blk_simp [e]) (by blk_simp [e])]
  rfl

end Cert.Kernel3Ideal.Gen
-- ==== Proof.Dact.lean ====
module

public import proofs.«01_k».proof.Defs
public import proofs.«01_k».proof.Proof.Gen.Kernel2Ideal.Value
public import proofs.«01_k».proof.Proof.Gen.Reference2Ideal.Read
public import proofs.«01_k».proof.Proof.Finite
public import proofs.«01_k».proof.Proof.Gen.Pre_finite2
public import Idealize.ShloMosaic.PureOps.Ideal.Laws
public import Idealize.ShloMosaic.Lib.Pointwise
public import Idealize.ShloMosaic.Lib.Pipeline.ValueKit

@[expose] public section

set_option maxRecDepth 16384

noncomputable section

/-! The gradients with respect to gate and up, block by block. -/

namespace Cert.Kernel2Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: a block of rows and a block of columns. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

open Cert.Reference2Ideal.Read in
/-- The reference's gradient of the hidden product at a place. -/
theorem dact_apply (x0 : Vec Ideal S8192x1024 .f32) (x1 : Vec Ideal S2816x1024 .bf16) (i : S8192x2816.Idx) :
    val_main_v6 (F := Ideal) x0 x1 i = (∑ k : Fin 1024, x0 (lidx_main_v6 i k) * x1 (ridx_main_v6 i k) : EReal) := by
  rw [val_main_v6_apply]
  rfl

open Cert.Reference2Ideal.Read in
/-- The reference's logistic of the gate. -/
theorem sig_apply (x2 : Vec Ideal S8192x2816 .bf16) (i : S8192x2816.Idx) :
    val_main_v3_2 (F := Ideal) x2 i = Ideal.logistic (x2 i) := by
  rw [val_main_v3_2_apply, val_main_call0_v4_apply, val_main_call0_v3_apply,
    val_main_call0_v2_apply, val_main_call0_v1_apply, val_main_call0_v0_apply, val_main_call0_cst_apply, val_main_call0_cst_0_apply, val_main_v0_apply]
  simp [Ideal.logistic]

open Cert.Reference2Ideal.Read in
/-- The reference's gradient of gate at a place. -/
theorem dgate_apply (x0 : Vec Ideal S8192x1024 .f32) (x1 : Vec Ideal S2816x1024 .bf16) (x2 x3 : Vec Ideal S8192x2816 .bf16) (i : S8192x2816.Idx) :
    val_main_v10 (F := Ideal) x0 x1 x2 x3 i
      = (val_main_v6 (F := Ideal) x0 x1 i * x3 i * Ideal.logistic (x2 i)
        + x2 i * (val_main_v6 (F := Ideal) x0 x1 i * x3 i) * (Ideal.logistic (x2 i) * (1 - Ideal.logistic (x2 i))) : EReal) := by
  rw [val_main_v10_apply, val_main_v9_apply, val_main_call1_v1_apply, val_main_call1_v2_apply, val_main_call1_v0_apply, val_main_v8_apply,
    val_main_v3_1_apply, val_main_call0_v7_apply, val_main_call0_v6_apply, val_main_call0_cst_1_apply, sig_apply, val_main_v0_apply, val_main_v1_apply]
  simp

open Cert.Reference2Ideal.Read in
/-- The reference's gradient of up at a place. -/
theorem dup_apply (x0 : Vec Ideal S8192x1024 .f32) (x1 : Vec Ideal S2816x1024 .bf16) (x2 : Vec Ideal S8192x2816 .bf16) (i : S8192x2816.Idx) :
    val_main_v11 (F := Ideal) x0 x1 x2 i = (x2 i * Ideal.logistic (x2 i) * val_main_v6 (F := Ideal) x0 x1 i : EReal) := by
  rw [val_main_v11_apply, val_main_v7_apply, val_main_v3_0_apply, sig_apply, val_main_v0_apply]
  simp

/-- A block's gradient of the hidden product. -/
theorem tile_dact (a : Vec Ideal S512x1024 .f32) (b : Vec Ideal S1408x1024 .bf16) (y : S512x1408.Idx) :
    k0_pay1 a b y = (∑ k : Fin 1024, a (ix2 (y 0) k) * b (ix2 (y 1) k) : EReal) := by
  unfold k0_pay1
  pointwise

/-- A block's gradient of gate. -/
theorem tile_dgate (a : Vec Ideal S512x1024 .f32) (b : Vec Ideal S1408x1024 .bf16) (g u : Vec Ideal S512x1408 .bf16) (y : S512x1408.Idx) :
    k0_pay4 a b g u y = (k0_pay1 a b y * u y * Ideal.logistic (g y) * (1 + g y * (1 - Ideal.logistic (g y))) : EReal) := by
  unfold k0_pay4 k0_pay3 k0_pay2
  pointwise

/-- A block's gradient of up. -/
theorem tile_dup (a : Vec Ideal S512x1024 .f32) (b : Vec Ideal S1408x1024 .bf16) (g : Vec Ideal S512x1408 .bf16) (y : S512x1408.Idx) :
    k0_pay5 a b g y = (k0_pay1 a b y * g y * Ideal.logistic (g y) : EReal) := by
  unfold k0_pay5 k0_pay3 k0_pay2
  pointwise

/-- A block's gradient of the hidden product is the reference's at the block's place. -/
theorem block_dact (t : Fin cfg0.N) (y : S512x1408.Idx) (i : S8192x2816.Idx) (h0 : (i 0).val = t.val / 2 * 512 + (y 0).val)
    (h1 : (i 1).val = t.val % 2 * 1408 + (y 1).val) :
    (k0_pay1 (iblk m c 0 t) (iblk m c 1 t) y : EReal)
      = Cert.Reference2Ideal.Read.val_main_v6 (F := Ideal) (m ((c : Thread nD τ).loc main_arg0)) (m ((c : Thread nD τ).loc main_arg1)) i := by
  obtain ⟨e0, e1, _⟩ := idx t
  refine Eq.trans ?_ (dact_apply _ _ _).symm
  refine (tile_dact _ _ _).trans (Finset.sum_congr rfl fun k _ => ?_)
  congr 1 <;> blk_ext [iblk, V, e0, e1]

/-- A block of gate, and of up, at the block's place. -/
theorem block_gate (t : Fin cfg0.N) (y : S512x1408.Idx) (i : S8192x2816.Idx) (h0 : (i 0).val = t.val / 2 * 512 + (y 0).val)
    (h1 : (i 1).val = t.val % 2 * 1408 + (y 1).val) : (iblk m c 2 t y : EReal) = m ((c : Thread nD τ).loc main_arg2) i := by
  have e := (idx t).2.2.1
  blk_ext [iblk, V, e]

theorem block_up (t : Fin cfg0.N) (y : S512x1408.Idx) (i : S8192x2816.Idx) (h0 : (i 0).val = t.val / 2 * 512 + (y 0).val)
    (h1 : (i 1).val = t.val % 2 * 1408 + (y 1).val) : (iblk m c 3 t y : EReal) = m ((c : Thread nD τ).loc main_arg3) i := by
  have e := (idx t).2.2.2.1
  blk_ext [iblk, V, e]

/-- What the call leaves as the gradient of up. -/
theorem array_dup : (dats m 0 c).arrAt 5 cfg0.N
    = Cert.Reference2Ideal.Read.val_main_v11 (F := Ideal) (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  rw [after0_5]
  frame_out
  have e := (idx t).2.2.2.2.2
  refine Eq.trans ?_ (dup_apply _ _ _ _).symm
  rw [← block_dact m c t y _ (by blk_simp [e]) (by blk_simp [e]), ← block_gate m c t y _ (by blk_simp [e]) (by blk_simp [e])]
  exact (tile_dup _ _ _ _).trans ((mul_assoc _ _ _).trans (mul_comm _ _))

/-- What the call leaves as the gradient of gate, for real gradients, weights and up. -/
theorem array_dgate (hp : Cert.Pre_Kernel2Ideal_finite2 (hPre_finite2 := Cert.Pre_finite2.Gen.facts) m) : (dats m 0 c).arrAt 4 cfg0.N
    = Cert.Reference2Ideal.Read.val_main_v10 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  frame_out
  have e := (idx t).2.2.2.2.1
  refine Eq.trans ?_ (dgate_apply _ _ _ _ _).symm
  refine (tile_dgate _ _ _ _ _).trans ?_
  rw [block_dact m c t y (((cfg0.win 4).blk t).view.emb y) (by blk_simp [e]) (by blk_simp [e]),
    block_gate m c t y (((cfg0.win 4).blk t).view.emb y) (by blk_simp [e]) (by blk_simp [e]),
    block_up m c t y (((cfg0.win 4).blk t).view.emb y) (by blk_simp [e]) (by blk_simp [e])]
  obtain ⟨x, hx⟩ : ∃ x : ℝ, (Cert.Reference2Ideal.Read.val_main_v6 (F := Ideal) (m ((c : Thread nD τ).loc main_arg0)) (m ((c : Thread nD τ).loc main_arg1))
      (((cfg0.win 4).blk t).view.emb y) * m ((c : Thread nD τ).loc main_arg3) (((cfg0.win 4).blk t).view.emb y) : EReal) = x := by
    refine ⟨_, Eq.trans (congrArg₂ (fun a b : EReal => a * b) ((dact_apply _ _ _).trans (Cert.Proof.real_dot _ _
      (fun k => Cert.Proof.real_of_abs _ (congrFun (hp c).1 _)) (fun k => Cert.Proof.real_of_abs _ (congrFun (hp c).2.1 _))))
      (Cert.Proof.real_of_abs _ (congrFun (hp c).2.2 _))) (EReal.coe_mul _ _).symm⟩
  rw [hx]
  refine (Cert.Proof.silu_grad x _).trans ?_
  rw [← hx]

end Cert.Kernel2Ideal.Gen
-- ==== Proof.Accumulate.lean ====
module

public import Idealize.ShloMosaic.PureOps.Ideal.Laws
public import Idealize.ShloMosaic.Lib.Pointwise
public import Idealize.ShloMosaic.Lib.Pipeline.ValueKit

@[expose] public section

noncomputable section

/-! A product along 8192 rows, added up over sixteen blocks of 512 rows. -/

namespace Cert.Proof

open Idealize.ShloMosaic
open scoped BigOperators

/-- A product of two blocks along their rows, at a place. -/
def part {a b : ℕ} (x : (⟨2, ![512, a]⟩ : Shape).Idx → EReal) (z : (⟨2, ![512, b]⟩ : Shape).Idx → EReal) (i : Fin a) (j : Fin b) : EReal :=
  ∑ k : Fin 512, x (ix2 k i) * z (ix2 k j)

/-- What starts from zero at the first of sixteen points, and has one block's product added at each, is the whole product at the last. -/
theorem accumulated {N : ℕ} (f : (n : ℕ) → n < N → EReal) (p : Fin N → Fin 512 → EReal) (g : Fin 8192 → EReal)
    (h0 : ∀ t : Fin N, t.val % 16 = 0 → f t.val t.isLt = 0 + ∑ k, p t k)
    (hs : ∀ t : Fin N, ¬t.val % 16 = 0 → f t.val t.isLt = f (t.val - 1) (Nat.lt_of_le_of_lt (Nat.sub_le _ _) t.isLt) + ∑ k, p t k)
    (t : Fin N) (ht : t.val % 16 = 15)
    (hg : ∀ u : Fin N, u.val / 16 = t.val / 16 → ∀ (k : Fin 512) (r : Fin 8192), r.val = u.val % 16 * 512 + k.val → p u k = g r) :
    f t.val t.isLt = ∑ r, g r := by
  rw [Pipeline.eq_sum_fin_of_reset_step_of_flush f 16 0 (fun t => ∑ k, p t k) h0 hs t ht, zero_add, Fin.sum_univ_tiles 16 512 rfl]
  refine Finset.sum_congr rfl fun s _ => Finset.sum_congr rfl fun k _ => ?_
  refine hg _ (by dsimp only; omega) k _ (by dsimp only; omega)

end Cert.Proof
-- ==== Proof.DwUp.lean ====
module

public import proofs.«01_k».proof.Defs
public import proofs.«01_k».proof.Proof.Gen.Kernel4Ideal.Value
public import proofs.«01_k».proof.Proof.Gen.Reference4Ideal.Read
public import proofs.«01_k».proof.Proof.Accumulate
public import Idealize.ShloMosaic.PureOps.Ideal.Laws
public import Idealize.ShloMosaic.Lib.Pointwise
public import Idealize.ShloMosaic.Lib.Pipeline.ValueKit

@[expose] public section

set_option maxRecDepth 16384

noncomputable section

/-! The gradient with respect to a weight of the first half: the products of the blocks of rows, added up in a scratch. -/

namespace Cert.Kernel4Ideal.Gen

open Idealize.ShloMosaic Idealize.ShloMosaic.TcCoe Idealize.SL.Sem
open Idealize.ShloMosaic.Pipeline (Dat)
open Cert.Proof (part accumulated)
open scoped BigOperators

variable (m : (ℓ : Loc nD τ sig) → Buf (Elt Ideal) ℓ) (c : Dev nD)

/-- The windows' blocks. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One step: what the scratch holds, and the product of the two blocks along their rows. -/
theorem step_apply (acc : Vec Ideal S1024x1408 .f32) (x : Vec Ideal S512x1024 .f32) (z : Vec Ideal S512x1408 .bf16) (y : S1024x1408.Idx) :
    k0_pay2 acc x z y = (acc y + part (a := 1024) (b := 1408) x z (y 0) (y 1) : EReal) := by
  unfold k0_pay2
  pointwise
  rfl

/-- The scratch at the start of a run. -/
theorem zero_apply (y : S1024x1408.Idx) : k0_pay1 (F := Ideal) y = (0 : EReal) := by
  unfold k0_pay1
  pointwise

/-- The first point of a run leaves its product. -/
theorem scratch_first (t : Fin cfg0.N) (h : t.val % 16 = 0) (y : S1024x1408.Idx) :
    (outsAt0 m c t.val t.isLt).2 y = (0 + part (a := 1024) (b := 1408) (iblk m c 0 t) (iblk m c 1 t) (y 0) (y 1) : EReal) := by
  rw [outsAt0_A m c t h (by omega)]
  frame_out
  rw [step_apply, zero_apply]

/-- Every later point adds its product. -/
theorem scratch_next (t : Fin cfg0.N) (h : ¬t.val % 16 = 0) (y : S1024x1408.Idx) :
    (outsAt0 m c t.val t.isLt).2 y = ((outsAt0 m c (t.val - 1) (Nat.lt_of_le_of_lt (Nat.sub_le _ _) t.isLt)).2 y
      + part (a := 1024) (b := 1408) (iblk m c 0 t) (iblk m c 1 t) (y 0) (y 1) : EReal) := by
  by_cases h1 : t.val % 16 = 15
  · rw [outsAt0_C m c t h h1]
    frame_out
    exact (congrArg (fun a => k0_pay2 a _ _ y) ((Memref.isWhole_whole _).read_unread _)).trans (step_apply _ _ _ _)
  · rw [outsAt0_B m c t h h1]
    frame_out
    exact (congrArg (fun a => k0_pay2 a _ _ y) ((Memref.isWhole_whole _).read_unread _)).trans (step_apply _ _ _ _)

/-- The last point of a run writes its scratch back. -/
theorem written (t : Fin cfg0.N) (h : t.val % 16 = 15) : (outsAt0 m c t.val t.isLt).1 = (outsAt0 m c t.val t.isLt).2 := by
  rw [outsAt0_C m c t (by omega) h]
  frame_out

open Cert.Reference4Ideal.Read in
/-- The reference's gradient at a place. -/
theorem reference_apply (x0 : Vec Ideal S8192x1024 .f32) (x1 : Vec Ideal S8192x2816 .bf16) (i : S1024x2816.Idx) :
    val_main_v4 (F := Ideal) x0 x1 i = (∑ r : Fin 8192, x0 (ix2 r (i 0)) * x1 (ix2 r (i 1)) : EReal) := by
  rw [val_main_v4_apply, val_main_v3_apply]
  refine Finset.sum_congr rfl fun r _ => (mul_comm _ _).trans ?_
  congr 1 <;> blk_ext

/-- What the call leaves is the reference's gradient. -/
theorem array : (dats m 0 c).arrAt 2 cfg0.N
    = Cert.Reference4Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  have e := (idx t).2.2
  blk_simp
  rw [after0_2, written m c t ht]
  refine Eq.trans ?_ (reference_apply _ _ _).symm
  refine accumulated (fun n h => (outsAt0 m c n h).2 y) _ _ (fun t h => scratch_first m c t h y) (fun t h => scratch_next m c t h y) t ht
    fun u hu k r hr => ?_
  obtain ⟨e0, e1, _⟩ := idx u
  congr 1 <;> blk_ext [iblk, V, e0, e1, e]

end Cert.Kernel4Ideal.Gen
-- ==== Proof.DwDown.lean ====
module

public import proofs.«01_k».proof.Defs
public import proofs.«01_k».proof.Proof.Gen.Kernel5Ideal.Value
public import proofs.«01_k».proof.Proof.Gen.Reference5Ideal.Read
public import proofs.«01_k».proof.Proof.Accumulate
public import Idealize.ShloMosaic.PureOps.Ideal.Laws
public import Idealize.ShloMosaic.Lib.Pointwise
public import Idealize.ShloMosaic.Lib.Pipeline.ValueKit

@[expose] public section

set_option maxRecDepth 16384

noncomputable section

/-! The gradient with respect to the weight of the second half: the products of the blocks of rows, added up in a scratch. -/

namespace Cert.Kernel5Ideal.Gen

open Idealize.ShloMosaic Idealize.ShloMosaic.TcCoe Idealize.SL.Sem
open Idealize.ShloMosaic.Pipeline (Dat)
open Cert.Proof (part accumulated)
open scoped BigOperators

variable (m : (ℓ : Loc nD τ sig) → Buf (Elt Ideal) ℓ) (c : Dev nD)

/-- The windows' blocks. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- One step: what the scratch holds, and the product of the two blocks along their rows. -/
theorem step_apply (acc : Vec Ideal S1408x1024 .f32) (x : Vec Ideal S512x1408 .bf16) (z : Vec Ideal S512x1024 .f32) (y : S1408x1024.Idx) :
    k0_pay2 acc x z y = (acc y + part (a := 1408) (b := 1024) x z (y 0) (y 1) : EReal) := by
  unfold k0_pay2
  pointwise
  rfl

/-- The scratch at the start of a run. -/
theorem zero_apply (y : S1408x1024.Idx) : k0_pay1 (F := Ideal) y = (0 : EReal) := by
  unfold k0_pay1
  pointwise

/-- The first point of a run leaves its product. -/
theorem scratch_first (t : Fin cfg0.N) (h : t.val % 16 = 0) (y : S1408x1024.Idx) :
    (outsAt0 m c t.val t.isLt).2 y = (0 + part (a := 1408) (b := 1024) (iblk m c 0 t) (iblk m c 1 t) (y 0) (y 1) : EReal) := by
  rw [outsAt0_A m c t h (by omega)]
  frame_out
  rw [step_apply, zero_apply]

/-- Every later point adds its product. -/
theorem scratch_next (t : Fin cfg0.N) (h : ¬t.val % 16 = 0) (y : S1408x1024.Idx) :
    (outsAt0 m c t.val t.isLt).2 y = ((outsAt0 m c (t.val - 1) (Nat.lt_of_le_of_lt (Nat.sub_le _ _) t.isLt)).2 y
      + part (a := 1408) (b := 1024) (iblk m c 0 t) (iblk m c 1 t) (y 0) (y 1) : EReal) := by
  by_cases h1 : t.val % 16 = 15
  · rw [outsAt0_C m c t h h1]
    frame_out
    exact (congrArg (fun a => k0_pay2 a _ _ y) ((Memref.isWhole_whole _).read_unread _)).trans (step_apply _ _ _ _)
  · rw [outsAt0_B m c t h h1]
    frame_out
    exact (congrArg (fun a => k0_pay2 a _ _ y) ((Memref.isWhole_whole _).read_unread _)).trans (step_apply _ _ _ _)

/-- The last point of a run writes its scratch back. -/
theorem written (t : Fin cfg0.N) (h : t.val % 16 = 15) : (outsAt0 m c t.val t.isLt).1 = (outsAt0 m c t.val t.isLt).2 := by
  rw [outsAt0_C m c t (by omega) h]
  frame_out

open Cert.Reference5Ideal.Read in
/-- The reference's gradient at a place. -/
theorem reference_apply (x0 : Vec Ideal S8192x2816 .bf16) (x1 : Vec Ideal S8192x1024 .f32) (i : S2816x1024.Idx) :
    val_main_v4 (F := Ideal) x0 x1 i = (∑ r : Fin 8192, x0 (ix2 r (i 0)) * x1 (ix2 r (i 1)) : EReal) := by
  rw [val_main_v4_apply, val_main_v3_apply]
  refine Finset.sum_congr rfl fun r _ => (mul_comm _ _).trans ?_
  congr 1 <;> blk_ext

/-- What the call leaves is the reference's gradient. -/
theorem array : (dats m 0 c).arrAt 2 cfg0.N
    = Cert.Reference5Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  have e := (idx t).2.2
  blk_simp
  rw [after0_2, written m c t ht]
  refine Eq.trans ?_ (reference_apply _ _ _).symm
  refine accumulated (fun n h => (outsAt0 m c n h).2 y) _ _ (fun t h => scratch_first m c t h y) (fun t h => scratch_next m c t h y) t ht
    fun u hu k r hr => ?_
  obtain ⟨e0, e1, _⟩ := idx u
  congr 1 <;> blk_ext [iblk, V, e0, e1, e]

end Cert.Kernel5Ideal.Gen
-- ==== Proof.Ffn.lean ====
module

public import proofs.«01_k».proof.Defs
public import proofs.«01_k».proof.Proof.Down
public import proofs.«01_k».proof.Proof.Dx
public import proofs.«01_k».proof.Proof.Up
public import proofs.«01_k».proof.Proof.Dact
public import proofs.«01_k».proof.Proof.DwUp
public import proofs.«01_k».proof.Proof.DwDown

@[expose] public section

noncomputable section

/-! The claims about the feed-forward layer's calls: the references' frames, and the equal results. -/

namespace Cert.Proof

open Idealize.ShloMosaic Idealize.ShloMosaic.TcCoe Idealize.SL.Sem

theorem reference2_framed : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩) (Cert.Reference2Ideal.Value.run (F := Ideal) m ρ)

theorem reference3_framed : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩) (Cert.Reference3Ideal.Value.run (F := Ideal) m ρ)

theorem reference4_framed : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

theorem reference5_framed : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

theorem reference6_framed : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)

theorem reference7_framed : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

/-- The gradients of gate and up: the call's, and the reference's. -/
theorem equal2 : Cert.algebraic_Kernel2Ideal_Reference2Ideal_pre_finite2 (hKernel2Ideal := Cert.Kernel2Ideal.Gen.facts) (hReference2Ideal := Cert.Reference2Ideal.Gen.facts) (hPre_finite2 := Cert.Pre_finite2.Gen.facts) := by
  intro m g m' g' hp hm
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N, Cert.Kernel2Ideal.Value.run_blocks (F := Ideal) m g, ?_⟩
  refine (θ_run Cert.Reference2Ideal.defs _ _).mono (fun r h c => ?_) (Cert.Reference2Ideal.Value.run (F := Ideal) m' g')
  obtain ⟨m0, m1, m2, m3⟩ := hm c
  refine ⟨(h c).1.trans ?_, (h c).2.1.trans ?_, (h c).2.2⟩
  · rw [Cert.Reference2Ideal.Read.val_main_v10_eq, m0, m1, m2, m3]
    exact (Cert.Kernel2Ideal.Gen.array_dgate m c hp).symm
  · rw [Cert.Reference2Ideal.Read.val_main_v11_eq, m0, m1, m2]
    exact (Cert.Kernel2Ideal.Gen.array_dup m c).symm

/-- The gate, up and hidden product: the call's, and the reference's. -/
theorem equal3 : Cert.algebraic_Kernel3Ideal_Reference3Ideal (hKernel3Ideal := Cert.Kernel3Ideal.Gen.facts) (hReference3Ideal := Cert.Reference3Ideal.Gen.facts) := by
  intro m g m' g' hp hm
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, fun c => (Cert.Kernel3Ideal.Gen.dats m 0 c).arrAt 5 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨m0, m1, m2⟩ := hm c
  refine ⟨(h c).1.trans ?_, (h c).2.1.trans ?_, (h c).2.2.1.trans ?_, (h c).2.2.2⟩
  · rw [Cert.Reference3Ideal.Read.val_main_v6_eq, m0, m1]
    exact (Cert.Kernel3Ideal.Gen.array_gate m c).symm
  · rw [Cert.Reference3Ideal.Read.val_main_v7_eq, m0, m2]
    exact (Cert.Kernel3Ideal.Gen.array_up m c).symm
  · rw [Cert.Reference3Ideal.Read.val_main_v8_eq, m0, m1, m2]
    exact (Cert.Kernel3Ideal.Gen.array_hidden m c).symm

/-- The gradient of a weight of the first half: the call's, and the reference's. -/
theorem equal4 : Cert.algebraic_Kernel4Ideal_Reference4Ideal (hKernel4Ideal := Cert.Kernel4Ideal.Gen.facts) (hReference4Ideal := Cert.Reference4Ideal.Gen.facts) := by
  intro m g m' g' hp hm
  refine ⟨fun c => (Cert.Kernel4Ideal.Gen.dats m 0 c).arrAt 2 Cert.Kernel4Ideal.cfg0.N, Cert.Kernel4Ideal.Value.run_blocks (F := Ideal) m g, ?_⟩
  refine (θ_run Cert.Reference4Ideal.defs _ _).mono (fun r h c => ?_) (Cert.Reference4Ideal.Value.run (F := Ideal) m' g')
  obtain ⟨m0, m1⟩ := hm c
  refine ⟨(h c).1.trans ?_, (h c).2⟩
  · rw [Cert.Reference4Ideal.Read.val_main_v4_eq, m0, m1]
    exact (Cert.Kernel4Ideal.Gen.array m c).symm

/-- The gradient of the weight of the second half: the call's, and the reference's. -/
theorem equal5 : Cert.algebraic_Kernel5Ideal_Reference5Ideal (hKernel5Ideal := Cert.Kernel5Ideal.Gen.facts) (hReference5Ideal := Cert.Reference5Ideal.Gen.facts) := by
  intro m g m' g' hp hm
  refine ⟨fun c => (Cert.Kernel5Ideal.Gen.dats m 0 c).arrAt 2 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨m0, m1⟩ := hm c
  refine ⟨(h c).1.trans ?_, (h c).2⟩
  · rw [Cert.Reference5Ideal.Read.val_main_v4_eq, m0, m1]
    exact (Cert.Kernel5Ideal.Gen.array m c).symm

/-- The gradient of the input, added to what is there: the call's, and the reference's. -/
theorem equal6 : Cert.algebraic_Kernel6Ideal_Reference6Ideal (hKernel6Ideal := Cert.Kernel6Ideal.Gen.facts) (hReference6Ideal := Cert.Reference6Ideal.Gen.facts) := by
  intro m g m' g' hp hm
  refine ⟨fun c => (Cert.Kernel6Ideal.Gen.dats m 0 c).arrAt 3 Cert.Kernel6Ideal.cfg0.N, Cert.Kernel6Ideal.Value.run_blocks (F := Ideal) m g, ?_⟩
  refine (θ_run Cert.Reference6Ideal.defs _ _).mono (fun r h c => ?_) (Cert.Reference6Ideal.Value.run (F := Ideal) m' g')
  obtain ⟨m0, m1, m2⟩ := hm c
  refine ⟨(h c).1.trans ?_, (h c).2⟩
  · rw [Cert.Reference6Ideal.Read.val_main_v5_eq, m0, m1, m2]
    exact (Cert.Kernel6Ideal.Gen.array m c).symm

/-- The second product: the call's, and the reference's. -/
theorem equal7 : Cert.algebraic_Kernel7Ideal_Reference7Ideal (hKernel7Ideal := Cert.Kernel7Ideal.Gen.facts) (hReference7Ideal := Cert.Reference7Ideal.Gen.facts) := by
  intro m g m' g' hp hm
  refine ⟨fun c => (Cert.Kernel7Ideal.Gen.dats m 0 c).arrAt 2 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨m0, m1⟩ := hm c
  refine ⟨(h c).1.trans ?_, (h c).2⟩
  · rw [Cert.Reference7Ideal.Read.val_main_v2_eq, m0, m1]
    exact (Cert.Kernel7Ideal.Gen.array m c).symm

end Cert.Proof

end
-- ==== Proof.InProj.lean ====
module

public import proofs.«01_k».proof.Defs
public import proofs.«01_k».proof.Proof.Gen.Kernel8Ideal.Value
public import proofs.«01_k».proof.Proof.Gen.Reference8Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The input projection: every block is the block of the whole product. -/

namespace Cert.Kernel8Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: a block of rows, half of the weight's columns. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What the call leaves is the reference's product. -/
theorem array : (dats m 0 c).arrAt 2 cfg0.N
    = Cert.Reference8Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2⟩ := idx t
  refine Eq.trans (?_ : _ = (∑ k, _ : EReal)) (Cert.Reference8Ideal.Read.val_main_v1_apply _ _ _).symm
  unfold k0_pay1
  pointwise
  refine Finset.sum_congr rfl fun k _ => ?_
  rw [Cert.Reference8Ideal.Read.val_main_v0_apply]
  congr 1 <;> blk_ext [iblk, V, e0, e1, e2]

end Cert.Kernel8Ideal.Gen
-- ==== Proof.DwIn.lean ====
module

public import proofs.«01_k».proof.Defs
public import proofs.«01_k».proof.Proof.Gen.Kernel9Ideal.Value
public import proofs.«01_k».proof.Proof.Gen.Reference9Ideal.Read
public import proofs.«01_k».proof.Proof.Accumulate
public import Idealize.ShloMosaic.PureOps.Ideal.Laws
public import Idealize.ShloMosaic.Lib.Pointwise
public import Idealize.ShloMosaic.Lib.Pipeline.ValueKit

@[expose] public section

set_option maxRecDepth 16384

noncomputable section

/-! The gradient with respect to the weight of the input projection: the products of the blocks of rows, added up in a scratch. -/

namespace Cert.Kernel9Ideal.Gen

open Idealize.ShloMosaic Idealize.ShloMosaic.TcCoe Idealize.SL.Sem
open Idealize.ShloMosaic.Pipeline (Dat)
open Cert.Proof (part accumulated)
open scoped BigOperators

variable (m : (ℓ : Loc nD τ sig) → Buf (Elt Ideal) ℓ) (c : Dev nD)

/-- The windows' blocks. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One step: what the scratch holds, and the product of the two blocks along their rows. -/
theorem step_apply (acc : Vec Ideal S1024x1536 .f32) (x : Vec Ideal S512x1024 .f32) (z : Vec Ideal S512x1536 .bf16) (y : S1024x1536.Idx) :
    k0_pay2 acc x z y = (acc y + part (a := 1024) (b := 1536) x z (y 0) (y 1) : EReal) := by
  unfold k0_pay2
  pointwise
  rfl

/-- The scratch at the start of a run. -/
theorem zero_apply (y : S1024x1536.Idx) : k0_pay1 (F := Ideal) y = (0 : EReal) := by
  unfold k0_pay1
  pointwise

/-- The first point of a run leaves its product. -/
theorem scratch_first (t : Fin cfg0.N) (h : t.val % 16 = 0) (y : S1024x1536.Idx) :
    (outsAt0 m c t.val t.isLt).2 y = (0 + part (a := 1024) (b := 1536) (iblk m c 0 t) (iblk m c 1 t) (y 0) (y 1) : EReal) := by
  rw [outsAt0_A m c t h (by omega)]
  frame_out
  rw [step_apply, zero_apply]

/-- Every later point adds its product. -/
theorem scratch_next (t : Fin cfg0.N) (h : ¬t.val % 16 = 0) (y : S1024x1536.Idx) :
    (outsAt0 m c t.val t.isLt).2 y = ((outsAt0 m c (t.val - 1) (Nat.lt_of_le_of_lt (Nat.sub_le _ _) t.isLt)).2 y
      + part (a := 1024) (b := 1536) (iblk m c 0 t) (iblk m c 1 t) (y 0) (y 1) : EReal) := by
  by_cases h1 : t.val % 16 = 15
  · rw [outsAt0_C m c t h h1]
    frame_out
    exact (congrArg (fun a => k0_pay2 a _ _ y) ((Memref.isWhole_whole _).read_unread _)).trans (step_apply _ _ _ _)
  · rw [outsAt0_B m c t h h1]
    frame_out
    exact (congrArg (fun a => k0_pay2 a _ _ y) ((Memref.isWhole_whole _).read_unread _)).trans (step_apply _ _ _ _)

/-- The last point of a run writes its scratch back. -/
theorem written (t : Fin cfg0.N) (h : t.val % 16 = 15) : (outsAt0 m c t.val t.isLt).1 = (outsAt0 m c t.val t.isLt).2 := by
  rw [outsAt0_C m c t (by omega) h]
  frame_out

open Cert.Reference9Ideal.Read in
/-- The reference's gradient at a place. -/
theorem reference_apply (x0 : Vec Ideal S8192x1024 .f32) (x1 : Vec Ideal S8192x3072 .bf16) (i : S1024x3072.Idx) :
    val_main_v4 (F := Ideal) x0 x1 i = (∑ r : Fin 8192, x0 (ix2 r (i 0)) * x1 (ix2 r (i 1)) : EReal) := by
  rw [val_main_v4_apply, val_main_v3_apply]
  refine Finset.sum_congr rfl fun r _ => (mul_comm _ _).trans ?_
  congr 1 <;> blk_ext

/-- What the call leaves is the reference's gradient. -/
theorem array : (dats m 0 c).arrAt 2 cfg0.N
    = Cert.Reference9Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  have e := (idx t).2.2
  blk_simp
  rw [after0_2, written m c t ht]
  refine Eq.trans ?_ (reference_apply _ _ _).symm
  refine accumulated (fun n h => (outsAt0 m c n h).2 y) _ _ (fun t h => scratch_first m c t h y) (fun t h => scratch_next m c t h y) t ht
    fun u hu k r hr => ?_
  obtain ⟨e0, e1, _⟩ := idx u
  congr 1 <;> blk_ext [iblk, V, e0, e1, e]

end Cert.Kernel9Ideal.Gen
-- ==== Proof.DxIn.lean ====
module

public import proofs.«01_k».proof.Defs
public import proofs.«01_k».proof.Proof.Gen.Kernel10Ideal.Value
public import proofs.«01_k».proof.Proof.Gen.Reference10Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The gradient with respect to the layer's input: the gradient of the input projection, added to what is already there. -/

namespace Cert.Kernel10Ideal.Gen

open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The windows' blocks: block `t` of rows, the whole weight. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

open Cert.Reference10Ideal.Read in
/-- The reference's sum at a place. -/
theorem reference_apply (x0 : Vec Ideal S8192x3072 .bf16) (x1 : Vec Ideal S1024x3072 .bf16) (x2 : Vec Ideal S8192x1024 .f32) (i : S8192x1024.Idx) :
    val_main_v5 (F := Ideal) x0 x1 x2 i = (x2 i + ∑ k : Fin 3072, x0 (lidx_main_v4 i k) * x1 (ridx_main_v4 i k) : EReal) := by
  rw [val_main_v5_apply, val_main_v4_apply]
  rfl

/-- What the call leaves is the reference's sum. -/
theorem array : (dats m 0 c).arrAt 3 cfg0.N
    = Cert.Reference10Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨e0, e1, e2, e3⟩ := idx t
  refine Eq.trans ?_ (reference_apply _ _ _ _).symm
  unfold k0_pay1
  pointwise
  rw [add_comm]
  congr 1
  refine Finset.sum_congr rfl fun k _ => ?_
  congr 1 <;> blk_ext [iblk, V, e0, e1, e3]

end Cert.Kernel10Ideal.Gen
-- ==== Proof.Projection.lean ====
module

public import proofs.«01_k».proof.Defs
public import proofs.«01_k».proof.Proof.InProj
public import proofs.«01_k».proof.Proof.DwIn
public import proofs.«01_k».proof.Proof.DxIn

@[expose] public section

noncomputable section

/-! The claims about the input projection's calls: the references' frames, and the equal results. -/

namespace Cert.Proof

open Idealize.ShloMosaic Idealize.ShloMosaic.TcCoe Idealize.SL.Sem

theorem reference8_framed : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

theorem reference9_framed : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)

theorem reference10_framed : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run (F := Ideal) m ρ)

/-- The projection of the input: the call's, and the reference's. -/
theorem equal8 : Cert.algebraic_Kernel8Ideal_Reference8Ideal (hKernel8Ideal := Cert.Kernel8Ideal.Gen.facts) (hReference8Ideal := Cert.Reference8Ideal.Gen.facts) := by
  intro m g m' g' hp hm
  refine ⟨fun c => (Cert.Kernel8Ideal.Gen.dats m 0 c).arrAt 2 Cert.Kernel8Ideal.cfg0.N, Cert.Kernel8Ideal.Value.run_blocks (F := Ideal) m g, ?_⟩
  refine (θ_run Cert.Reference8Ideal.defs _ _).mono (fun r h c => ?_) (Cert.Reference8Ideal.Value.run (F := Ideal) m' g')
  obtain ⟨m0, m1⟩ := hm c
  refine ⟨(h c).1.trans ?_, (h c).2⟩
  rw [Cert.Reference8Ideal.Read.val_main_v1_eq, m0, m1]
  exact (Cert.Kernel8Ideal.Gen.array m c).symm

/-- The gradient of the projection's weight: the call's, and the reference's. -/
theorem equal9 : Cert.algebraic_Kernel9Ideal_Reference9Ideal (hKernel9Ideal := Cert.Kernel9Ideal.Gen.facts) (hReference9Ideal := Cert.Reference9Ideal.Gen.facts) := by
  intro m g m' g' hp hm
  refine ⟨fun c => (Cert.Kernel9Ideal.Gen.dats m 0 c).arrAt 2 Cert.Kernel9Ideal.cfg0.N, Cert.Kernel9Ideal.Value.run_blocks (F := Ideal) m g, ?_⟩
  refine (θ_run Cert.Reference9Ideal.defs _ _).mono (fun r h c => ?_) (Cert.Reference9Ideal.Value.run (F := Ideal) m' g')
  obtain ⟨m0, m1⟩ := hm c
  refine ⟨(h c).1.trans ?_, (h c).2⟩
  rw [Cert.Reference9Ideal.Read.val_main_v4_eq, m0, m1]
  exact (Cert.Kernel9Ideal.Gen.array m c).symm

/-- The gradient of the projection's input, added to what is there: the call's, and the reference's. -/
theorem equal10 : Cert.algebraic_Kernel10Ideal_Reference10Ideal (hKernel10Ideal := Cert.Kernel10Ideal.Gen.facts) (hReference10Ideal := Cert.Reference10Ideal.Gen.facts) := by
  intro m g m' g' hp hm
  refine ⟨fun c => (Cert.Kernel10Ideal.Gen.dats m 0 c).arrAt 3 Cert.Kernel10Ideal.cfg0.N, Cert.Kernel10Ideal.Value.run_blocks (F := Ideal) m g, ?_⟩
  refine (θ_run Cert.Reference10Ideal.defs _ _).mono (fun r h c => ?_) (Cert.Reference10Ideal.Value.run (F := Ideal) m' g')
  obtain ⟨m0, m1, m2⟩ := hm c
  refine ⟨(h c).1.trans ?_, (h c).2⟩
  rw [Cert.Reference10Ideal.Read.val_main_v5_eq, m0, m1, m2]
  exact (Cert.Kernel10Ideal.Gen.array m c).symm

end Cert.Proof

end
-- ==== Proof.Norm.lean ====
module

public import proofs.«01_k».proof.Defs
public import proofs.«01_k».proof.Proof.Gen.Kernel11Ideal.Value
public import proofs.«01_k».proof.Proof.Gen.Reference11Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The rows of a block of the normed residual, read as rows of the whole arrays. -/

namespace Cert.Kernel11Ideal.Gen

open Idealize.ShloMosaic Idealize.ShloMosaic.TcCoe Idealize.SL.Sem
open Cert.Reference11Ideal.Read
open scoped BigOperators

variable {e : Fin 256 → Fin 8192} {x d : Vec Ideal S256x1024 .f32} {X D : Vec Ideal S8192x1024 .f32}
  (hx : ∀ i j, (x (ix2 i j) : EReal) = X (ix2 (e i) j)) (hd : ∀ i j, (d (ix2 i j) : EReal) = D (ix2 (e i) j))

include hx hd

/-- The residual. -/
theorem residual_eq (i : Fin 256) (j : Fin 1024) : (k0_pay5 x d (ix2 i j) : EReal) = val_main_v4 (F := Ideal) X D (ix2 (e i) j) := by
  rw [val_main_v4_apply, val_main_v3_apply, val_main_v2_apply, val_main_cst_apply]
  unfold k0_pay5
  pointwise
  rw [hx, hd]

/-- Its mean. -/
theorem mean_eq (i : Fin 256) (j : Fin 1) : (k0_pay6 x d (ix2 i j) : EReal) = val_main_v8 (F := Ideal) X D (ix2 (e i) j) := by
  rw [val_main_v8_apply, val_main_v6_apply, val_main_v7_apply, val_main_cst_1_apply, val_main_v5_apply, val_main_cst_0_apply]
  unfold k0_pay6
  pointwise
  refine congrArg (Ideal.div · _) (Finset.sum_congr rfl fun k _ => (residual_eq hx hd i k).trans (congrArg (val_main_v4 (F := Ideal) X D) ?_))
  blk_ext

/-- The residual about its mean. -/
theorem centred_eq (i : Fin 256) (j : Fin 1024) : (k0_pay7 x d (ix2 i j) : EReal) = val_main_v10 (F := Ideal) X D (ix2 (e i) j) := by
  rw [val_main_v10_apply, val_main_v9_apply]
  unfold k0_pay7
  pointwise
  rw [residual_eq hx hd, mean_eq hx hd]
  exact congrArg (fun u => (_ - val_main_v8 (F := Ideal) X D u : EReal)) (by blk_ext)

/-- The same, as it is multiplied by the scale. -/
theorem centred_eq' (i : Fin 256) (j : Fin 1024) : (k0_pay9 x d (ix2 i j) : EReal) = val_main_v19 (F := Ideal) X D (ix2 (e i) j) :=
  centred_eq hx hd i j

/-- Twice the same. -/
theorem twice_eq (i : Fin 256) (j : Fin 1024) : (k0_pay8 x d (ix2 i j) : EReal) = val_main_v13 (F := Ideal) X D (ix2 (e i) j) := by
  rw [val_main_v13_apply, val_main_v12_apply, val_main_cst_2_apply]
  unfold k0_pay8
  pointwise
  rw [centred_eq hx hd]

/-- The variance and its small constant. -/
theorem variance_eq (i : Fin 256) (j : Fin 1) : (k0_pay10 x d (ix2 i j) : EReal) = val_main_v21 (F := Ideal) X D (ix2 (e i) j) := by
  rw [val_main_v21_apply, val_main_v17_apply, val_main_v20_apply, val_main_cst_5_apply, val_main_v15_apply, val_main_v16_apply,
    val_main_cst_4_apply, val_main_v14_apply, val_main_cst_3_apply]
  unfold k0_pay10
  pointwise
  refine congrArg (Ideal.div · _ + _) (Finset.sum_congr rfl fun k _ => ?_)
  rw [val_main_v11_apply, centred_eq hx hd]
  exact congrArg (fun u => (val_main_v10 (F := Ideal) X D u * val_main_v10 (F := Ideal) X D u : EReal)) (by blk_ext)

/-- The inverse deviation. -/
theorem inverse_eq (i : Fin 256) (j : Fin 1) : (k0_pay11 x d (ix2 i j) : EReal) = val_main_v22 (F := Ideal) X D (ix2 (e i) j) := by
  rw [val_main_v22_apply]
  unfold k0_pay11
  pointwise
  rw [variance_eq hx hd]

/-- The derivative of the inverse deviation in the variance. -/
theorem slope_eq (i : Fin 256) (j : Fin 1) : (k0_pay12 x d (ix2 i j) : EReal) = val_main_v25 (F := Ideal) X D (ix2 (e i) j) := by
  rw [val_main_v25_apply, val_main_v24_apply, val_main_cst_6_apply, val_main_v23_apply]
  unfold k0_pay12
  pointwise
  rw [variance_eq hx hd, inverse_eq hx hd]

/-- The residual about its mean over its deviation. -/
theorem unit_eq (i : Fin 256) (j : Fin 1024) : (k0_pay13 x d (ix2 i j) : EReal) = val_main_v27 (F := Ideal) X D (ix2 (e i) j) := by
  rw [val_main_v27_apply, val_main_v26_apply]
  unfold k0_pay13
  pointwise
  rw [centred_eq' hx hd, inverse_eq hx hd]
  exact congrArg (fun u => (_ * val_main_v22 (F := Ideal) X D u : EReal)) (by blk_ext)

/-- The norm's output before its shift. -/
theorem scaled_eq (g : Vec Ideal S1x1024 .f32) (i : Fin 256) (j : Fin 1024) :
    (k0_pay14 x d g (ix2 i j) : EReal) = val_main_v29 (F := Ideal) X D g (ix2 (e i) j) := by
  rw [val_main_v29_apply, val_main_v28_apply]
  unfold k0_pay14
  pointwise
  rw [unit_eq hx hd]
  exact congrArg (fun u => (_ * g u : EReal)) (by blk_ext)

/-- The norm's output. -/
theorem normed_eq (g b : Vec Ideal S1x1024 .f32) (i : Fin 256) (j : Fin 1024) :
    (k0_pay15 b (k0_pay14 x d g) (ix2 i j) : EReal) = val_main_v31 (F := Ideal) X D g b (ix2 (e i) j) := by
  rw [val_main_v31_apply, val_main_v30_apply]
  unfold k0_pay15
  pointwise
  rw [scaled_eq hx hd]
  exact congrArg (fun u => (_ + b u : EReal)) (by blk_ext)

/-- The gate of the embedding. -/
theorem gate_eq (g b : Vec Ideal S1x1024 .f32) (w : Vec Ideal S1024x1024 .bf16) (i : Fin 256) (j : Fin 1024) :
    (k0_pay16 b (k0_pay3 w) (k0_pay14 x d g) (ix2 i j) : EReal) = val_main_v38 (F := Ideal) X D g b w (ix2 (e i) j) := by
  rw [val_main_v38_apply, val_main_v37_apply, val_main_cst_8_apply, val_main_v36_apply, val_main_v35_apply, val_main_cst_7_apply, val_main_v34_apply,
    val_main_v33_apply, val_main_v32_apply]
  unfold k0_pay16 k0_pay3
  pointwise
  refine congrArg Ideal.logistic (Finset.sum_congr rfl fun k _ => ?_)
  rw [normed_eq hx hd, val_main_v0_apply]
  exact congrArg₂ (fun a c => (val_main_v31 (F := Ideal) X D g b a * w c : EReal)) (by blk_ext) (by blk_ext)

variable {p : Vec Ideal S256x256 .f32} {P : Vec Ideal S8192x256 .f32} {y : Vec Ideal S256x1024 .f32} {Y : Vec Ideal S8192x1024 .f32}
  (hp : ∀ i j, (p (ix2 i j) : EReal) = P (ix2 (e i) j)) (hy : ∀ i j, (y (ix2 i j) : EReal) = Y (ix2 (e i) j))
  (g b : Vec Ideal S1x1024 .f32) (w : Vec Ideal S1024x1024 .bf16) (v : Vec Ideal S256x1024 .bf16)

omit hx hd in
include hy in
/-- The output's gradient. -/
theorem given_eq (i : Fin 256) (j : Fin 1024) : (k0_pay17 y (ix2 i j) : EReal) = val_main_v46 (F := Ideal) Y (ix2 (e i) j) := by
  rw [val_main_v46_apply]
  unfold k0_pay17
  pointwise
  exact (hy i j).trans (congrArg (fun u => (Y u : EReal)) (by blk_ext))

include hy in
/-- The gradient of the embedding's product. -/
theorem dembedded_eq (i : Fin 256) (j : Fin 1024) :
    (k0_pay16 b (k0_pay3 w) (k0_pay14 x d g) (ix2 i j) * k0_pay17 y (ix2 i j) : EReal) = val_main_v47 (F := Ideal) X D g b w Y (ix2 (e i) j) := by
  rw [val_main_v47_apply, gate_eq hx hd, given_eq hy]
  rfl

include hp hy in
/-- The block's share of the gradient of the embedding's weight. -/
theorem dple_eq (i : Fin 256) (j : Fin 1024) : (k0_pay18 p b (k0_pay3 w) (k0_pay14 x d g) y (ix2 i j) : EReal)
    = ∑ k : Fin 256, (val_main_v47 (F := Ideal) X D g b w Y (ix2 (e k) j) * P (ix2 (e k) i) : EReal) := by
  unfold k0_pay18
  pointwise
  refine Finset.sum_congr rfl fun k _ => ?_
  rw [hp, ← dembedded_eq hx hd hy]
  exact mul_comm _ _

include hp hy in
/-- The gradient before the gate's logistic. -/
theorem dgate_eq (i : Fin 256) (j : Fin 1024) : (k0_pay19 p b (k0_pay3 w) (k0_pay4 v) (k0_pay14 x d g) y (ix2 i j) : EReal)
    = val_main_v51 (F := Ideal) X D P g b w v Y (ix2 (e i) j) := by
  rw [val_main_v51_apply, val_main_v48_apply, val_main_v42_apply, val_main_v41_apply, val_main_v40_apply, val_main_v39_apply, val_main_cst_9_apply]
  unfold k0_pay19 k0_pay4
  pointwise
  rw [given_eq hy, gate_eq hx hd]
  refine congrArg (fun a => (_ * a * _ : EReal)) (Finset.sum_congr rfl fun k _ => ?_)
  rw [hp, val_main_v1_apply]
  exact congrArg₂ (fun a c => (P a * v c : EReal)) (by blk_ext) (by blk_ext)

include hp hy in
/-- The block's share of the gradient of the gate's weight. -/
theorem dgate_weight_eq (i j : Fin 1024) : (k0_pay20 p b (k0_pay3 w) (k0_pay4 v) (k0_pay14 x d g) y (ix2 i j) : EReal)
    = ∑ k : Fin 256, (val_main_v51 (F := Ideal) X D P g b w v Y (ix2 (e k) j) * val_main_v31 (F := Ideal) X D g b (ix2 (e k) i) : EReal) := by
  unfold k0_pay20
  pointwise
  refine Finset.sum_congr rfl fun k _ => ?_
  rw [dgate_eq hx hd hp hy, normed_eq hx hd]
  exact mul_comm _ _

include hp hy in
/-- The gradient of the norm's output. -/
theorem dnormed_eq (i : Fin 256) (j : Fin 1024) : (k0_pay21 p b (k0_pay3 w) (k0_pay4 v) (k0_pay14 x d g) y (ix2 i j) : EReal)
    = val_main_v55 (F := Ideal) X D P g b w v Y (ix2 (e i) j) := by
  rw [val_main_v55_apply, val_main_v54_apply]
  unfold k0_pay21 k0_pay3
  pointwise
  rw [val_main_v45_apply]
  refine congrArg₂ (fun a c : EReal => a + c) ((hy i j).trans (congrArg (fun u => (Y u : EReal)) (by blk_ext))) (Finset.sum_congr rfl fun k _ => ?_)
  rw [val_main_v0_apply]
  refine Eq.trans (congrArg (fun a : EReal => a * _) (dgate_eq hx hd hp hy g b w v i k)) ?_
  exact congrArg₂ (fun a c => (val_main_v51 (F := Ideal) X D P g b w v Y a * w c : EReal)) (by blk_ext) (by blk_ext)

include hp hy in
/-- The block's share of the gradient of the shift. -/
theorem dshift_eq (i : Fin 1) (j : Fin 1024) : (k0_pay22 p b (k0_pay3 w) (k0_pay4 v) (k0_pay14 x d g) y (ix2 i j) : EReal)
    = ∑ k : Fin 256, (val_main_v55 (F := Ideal) X D P g b w v Y (ix2 (e k) j) : EReal) := by
  unfold k0_pay22
  pointwise
  exact Finset.sum_congr rfl fun k _ => dnormed_eq hx hd hp hy g b w v k j

include hp hy in
/-- The block's share of the gradient of the scale. -/
theorem dscale_eq (i : Fin 1) (j : Fin 1024) : (k0_pay23 p b (k0_pay3 w) (k0_pay4 v) (k0_pay13 x d) (k0_pay14 x d g) y (ix2 i j) : EReal)
    = ∑ k : Fin 256, (val_main_v58 (F := Ideal) X D P g b w v Y (ix2 (e k) j) : EReal) := by
  unfold k0_pay23
  pointwise
  refine Finset.sum_congr rfl fun k _ => ?_
  rw [unit_eq hx hd, dnormed_eq hx hd hp hy, val_main_v58_apply]
  rfl

include hp hy in
/-- The gradient of the norm's unit. -/
theorem dunit_eq (i : Fin 256) (j : Fin 1024) : (k0_pay24 p g b (k0_pay3 w) (k0_pay4 v) (k0_pay14 x d g) y (ix2 i j) : EReal)
    = val_main_v62 (F := Ideal) X D P g b w v Y (ix2 (e i) j) := by
  rw [val_main_v62_apply, val_main_v61_apply]
  unfold k0_pay24
  pointwise
  rw [dnormed_eq hx hd hp hy]
  exact congrArg (fun u => (_ * g u : EReal)) (by blk_ext)

include hp hy in
/-- The same through the deviation. -/
theorem dcentred_eq (i : Fin 256) (j : Fin 1024) : (k0_pay25 p g b (k0_pay3 w) (k0_pay4 v) (k0_pay11 x d) (k0_pay14 x d g) y (ix2 i j) : EReal)
    = val_main_v67 (F := Ideal) X D P g b w v Y (ix2 (e i) j) := by
  rw [val_main_v67_apply, val_main_v66_apply]
  unfold k0_pay25
  pointwise
  rw [dunit_eq hx hd hp hy, inverse_eq hx hd]
  exact congrArg (fun u => (_ * val_main_v22 (F := Ideal) X D u : EReal)) (by blk_ext)

include hp hy in
/-- Its sum along the row, negated. -/
theorem dmean_eq (i : Fin 256) (j : Fin 1) : (k0_pay26 p g b (k0_pay3 w) (k0_pay4 v) (k0_pay11 x d) (k0_pay14 x d g) y (ix2 i j) : EReal)
    = val_main_v71 (F := Ideal) X D P g b w v Y (ix2 (e i) j) := by
  rw [val_main_v71_apply, val_main_v70_apply, val_main_cst_13_apply]
  unfold k0_pay26
  pointwise
  refine Finset.sum_congr rfl fun k _ => ?_
  rw [dcentred_eq hx hd hp hy, val_main_v69_apply]
  exact (zero_sub _).trans (congrArg (fun u => (-val_main_v67 (F := Ideal) X D P g b w v Y u : EReal)) (by blk_ext))

include hp hy in
/-- The gradient of the variance, over the row's length. -/
theorem dvariance_eq (i : Fin 256) (j : Fin 1) :
    (k0_pay27 p g b (k0_pay3 w) (k0_pay4 v) (k0_pay9 x d) (k0_pay12 x d) (k0_pay14 x d g) y (ix2 i j) : EReal)
    = val_main_v73 (F := Ideal) X D P g b w v Y (ix2 (e i) j) := by
  rw [val_main_v73_apply, val_main_v68_apply, val_main_v72_apply, val_main_cst_14_apply, val_main_v65_apply, val_main_v64_apply, val_main_cst_12_apply]
  unfold k0_pay27
  pointwise
  rw [slope_eq hx hd]
  refine congrArg (fun a : EReal => Ideal.div (a * _) _) (Finset.sum_congr rfl fun k _ => ?_)
  rw [centred_eq' hx hd, dunit_eq hx hd hp hy, val_main_v63_apply]
  exact congrArg (fun u => (val_main_v19 (F := Ideal) X D u * val_main_v62 (F := Ideal) X D P g b w v Y u : EReal)) (by blk_ext)

include hp hy in
/-- The gradient through the squares. -/
theorem dsquare_eq (i : Fin 256) (j : Fin 1024) :
    ((∑ k : Fin 1, (k0_pay27 p g b (k0_pay3 w) (k0_pay4 v) (k0_pay9 x d) (k0_pay12 x d) (k0_pay14 x d g) y (ix2 i k) : EReal)) * k0_pay8 x d (ix2 i j) : EReal)
    = val_main_v76 (F := Ideal) X D P g b w v Y (ix2 (e i) j) := by
  rw [val_main_v76_apply, val_main_v75_apply, val_main_v74_apply, val_main_cst_15_apply, twice_eq hx hd]
  pointwise
  refine congrArg (fun a : EReal => a * _) (Finset.sum_congr rfl fun k _ => ?_)
  rw [dvariance_eq hx hd hp hy]
  exact congrArg (val_main_v73 (F := Ideal) X D P g b w v Y) (by blk_ext)

include hp hy in
/-- The gradient of the residual. -/
theorem dresidual_eq (i : Fin 256) (j : Fin 1024) :
    (k0_pay28 (k0_pay8 x d) (k0_pay25 p g b (k0_pay3 w) (k0_pay4 v) (k0_pay11 x d) (k0_pay14 x d g) y)
      (k0_pay26 p g b (k0_pay3 w) (k0_pay4 v) (k0_pay11 x d) (k0_pay14 x d g) y)
      (k0_pay27 p g b (k0_pay3 w) (k0_pay4 v) (k0_pay9 x d) (k0_pay12 x d) (k0_pay14 x d g) y) (ix2 i j) : EReal)
    = val_main_v86 (F := Ideal) X D P g b w v Y (ix2 (e i) j) := by
  rw [val_main_v86_apply, val_main_v85_apply, val_main_v84_apply, val_main_cst_18_apply, val_main_v80_apply]
  unfold k0_pay28
  pointwise
  have hs := fun k => dsquare_eq hx hd hp hy g b w v i k
  refine congrArg₂ (fun a c : EReal => a + c) (congrArg₂ (fun a c : EReal => a + c) (dcentred_eq hx hd hp hy g b w v i j) (hs j))
    (Finset.sum_congr rfl fun k _ => ?_)
  rw [val_main_v83_apply, val_main_v82_apply, val_main_cst_17_apply, val_main_v81_apply, val_main_v79_apply, val_main_v78_apply, val_main_cst_16_apply,
    dmean_eq hx hd hp hy]
  pointwise
  refine congrArg₂ (fun a c : EReal => Ideal.div (a + c) _) (congrArg (val_main_v71 (F := Ideal) X D P g b w v Y) (by blk_ext))
    (Finset.sum_congr rfl fun l _ => ?_)
  rw [hs l, val_main_v77_apply]
  exact (zero_sub _).trans (congrArg (fun u => (-val_main_v76 (F := Ideal) X D P g b w v Y u : EReal)) (by blk_ext))

include hp hy in
/-- The gradient of the row added to the layer's output. -/
theorem drow_eq (i : Fin 256) (j : Fin 1024) :
    (k0_pay29 (k0_pay8 x d) (k0_pay25 p g b (k0_pay3 w) (k0_pay4 v) (k0_pay11 x d) (k0_pay14 x d g) y)
      (k0_pay26 p g b (k0_pay3 w) (k0_pay4 v) (k0_pay11 x d) (k0_pay14 x d g) y)
      (k0_pay27 p g b (k0_pay3 w) (k0_pay4 v) (k0_pay9 x d) (k0_pay12 x d) (k0_pay14 x d g) y) (ix2 i j) : EReal)
    = val_main_v88 (F := Ideal) X D P g b w v Y (ix2 (e i) j) := by
  rw [val_main_v88_apply, val_main_v87_apply, val_main_cst_19_apply]
  unfold k0_pay29
  pointwise
  rw [dresidual_eq hx hd hp hy]

end Cert.Kernel11Ideal.Gen
-- ==== Proof.Embedded.lean ====
module

public import proofs.«01_k».proof.Defs
public import proofs.«01_k».proof.Proof.Norm

@[expose] public section

set_option maxRecDepth 16384

noncomputable section

/-! The gradients of the second norm and the per-layer embedding: the rows block by block, the weights added up over the blocks. -/

namespace Cert.Kernel11Ideal.Gen

open Idealize.ShloMosaic Idealize.ShloMosaic.TcCoe Idealize.SL.Sem
open Idealize.ShloMosaic.Pipeline (Dat)
open Cert.Reference11Ideal.Read
open scoped BigOperators

variable (m : (ℓ : Loc nD τ sig) → Buf (Elt Ideal) ℓ) (c : Dev nD)

/-- The windows' blocks: rows, and whole arrays. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

theorem out_idx : ∀ t : Fin cfg0.N, win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

/-- A block's row among all rows. -/
def row (t : Fin cfg0.N) (i : Fin 256) : Fin 8192 :=
  ⟨t.val * 256 + i.val, by have := lt_of_lt_of_eq t.isLt (show cfg0.N = 32 from N_0); omega⟩

theorem rows_x1 (t : Fin cfg0.N) (i : Fin 256) (j : Fin 1024) : (iblk m c 0 t (ix2 i j) : EReal) = m ((c : Thread nD τ).loc main_arg0) (ix2 (row t i) j) := by
  have e := (idx t).1
  blk_ext [iblk, V, e, row]

theorem rows_down (t : Fin cfg0.N) (i : Fin 256) (j : Fin 1024) : (iblk m c 1 t (ix2 i j) : EReal) = m ((c : Thread nD τ).loc main_arg1) (ix2 (row t i) j) := by
  have e := (idx t).2.1
  blk_ext [iblk, V, e, row]

theorem rows_p (t : Fin cfg0.N) (i : Fin 256) (j : Fin 256) : (iblk m c 2 t (ix2 i j) : EReal) = m ((c : Thread nD τ).loc main_arg2) (ix2 (row t i) j) := by
  have e := (idx t).2.2.1
  blk_ext [iblk, V, e, row]

theorem rows_dy (t : Fin cfg0.N) (i : Fin 256) (j : Fin 1024) : (iblk m c 7 t (ix2 i j) : EReal) = m ((c : Thread nD τ).loc main_arg7) (ix2 (row t i) j) := by
  have e := (idx t).2.2.2.2.2.2.2
  blk_ext [iblk, V, e, row]

theorem whole_g (t : Fin cfg0.N) : (iblk m c 3 t : Vec Ideal S1x1024 .f32) = m ((c : Thread nD τ).loc main_arg3) := by
  have e := (idx t).2.2.2.1
  funext y
  blk_ext [iblk, V, e]

theorem whole_b (t : Fin cfg0.N) : (iblk m c 4 t : Vec Ideal S1x1024 .f32) = m ((c : Thread nD τ).loc main_arg4) := by
  have e := (idx t).2.2.2.2.1
  funext y
  blk_ext [iblk, V, e]

theorem whole_w (t : Fin cfg0.N) : (iblk m c 5 t : Vec Ideal S1024x1024 .bf16) = m ((c : Thread nD τ).loc main_arg5) := by
  have e := (idx t).2.2.2.2.2.1
  funext y
  blk_ext [iblk, V, e]

theorem whole_v (t : Fin cfg0.N) : (iblk m c 6 t : Vec Ideal S256x1024 .bf16) = m ((c : Thread nD τ).loc main_arg6) := by
  have e := (idx t).2.2.2.2.2.2.1
  funext y
  blk_ext [iblk, V, e]

/-- What starts from zero at the first point, and has a block's rows added at each, is the sum of all rows at the last. -/
theorem summed (f : (n : ℕ) → n < cfg0.N → EReal) (g : Fin 8192 → EReal)
    (h0 : ∀ t : Fin cfg0.N, t.val % 32 = 0 → f t.val t.isLt = 0 + ∑ k, g (row t k))
    (hs : ∀ t : Fin cfg0.N, ¬t.val % 32 = 0 → f t.val t.isLt = f (t.val - 1) (Nat.lt_of_le_of_lt (Nat.sub_le _ _) t.isLt) + ∑ k, g (row t k))
    (t : Fin cfg0.N) (ht : t.val % 32 = 31) : f t.val t.isLt = ∑ r, g r := by
  rw [Pipeline.eq_sum_fin_of_reset_step_of_flush f 32 0 (fun t => ∑ k, g (row t k)) h0 hs t ht, zero_add, Fin.sum_univ_tiles 32 256 rfl]
  have := lt_of_lt_of_eq t.isLt (show cfg0.N = 32 from N_0)
  refine Finset.sum_congr rfl fun s _ => Finset.sum_congr rfl fun k _ => congrArg g (Fin.ext ?_)
  dsimp only [row]
  omega

/-- What a point leaves of the rows' gradient. -/
theorem left_x1 (t : Fin cfg0.N) (i : Fin 256) (j : Fin 1024) : ((outsAt0 m c t.val t.isLt).1 (ix2 i j) : EReal)
    = val_main_v88 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 (row t i) j) := by
  rw [← whole_g m c t, ← whole_b m c t, ← whole_w m c t, ← whole_v m c t, ← drow_eq (rows_x1 m c t) (rows_down m c t) (rows_p m c t) (rows_dy m c t) _ _ _ _ i j]
  by_cases h : t.val % 32 = 0
  · rw [outsAt0_A m c t h]
    frame_out
  · rw [outsAt0_B m c t h]
    frame_out

/-- What a point leaves of the gradient of what is added to them. -/
theorem left_down (t : Fin cfg0.N) (i : Fin 256) (j : Fin 1024) : ((outsAt0 m c t.val t.isLt).2.1 (ix2 i j) : EReal)
    = val_main_v86 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 (row t i) j) := by
  rw [← whole_g m c t, ← whole_b m c t, ← whole_w m c t, ← whole_v m c t, ← dresidual_eq (rows_x1 m c t) (rows_down m c t) (rows_p m c t) (rows_dy m c t) _ _ _ _ i j]
  by_cases h : t.val % 32 = 0
  · rw [outsAt0_A m c t h]
    frame_out
  · rw [outsAt0_B m c t h]
    frame_out

/-- What the call leaves as the gradient of the rows. -/
theorem array_x1 : (dats m 0 c).arrAt 8 cfg0.N
    = val_main_v88 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 8 _ (by decide +kernel) fun t hf y => ?_
  have e := (out_idx t).1
  blk_simp
  rw [after0_8]
  refine Eq.trans ?_ ((left_x1 m c t (y 0) (y 1)).trans (congrArg (val_main_v88 (F := Ideal) _ _ _ _ _ _ _ _) ?_))
  · blk_ext
  · blk_ext [e, row]

/-- What the call leaves as the gradient of what is added to them. -/
theorem array_down : (dats m 0 c).arrAt 9 cfg0.N
    = val_main_v86 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 9 _ (by decide +kernel) fun t hf y => ?_
  have e := (out_idx t).2.1
  blk_simp
  rw [after0_9]
  refine Eq.trans ?_ ((left_down m c t (y 0) (y 1)).trans (congrArg (val_main_v86 (F := Ideal) _ _ _ _ _ _ _ _) ?_))
  · blk_ext
  · blk_ext [e, row]

/-! One step of each sum: what is there, and the block's share. -/

theorem step_g (u acc : Vec Ideal S1x1024 .f32) (y : S1x1024.Idx) : (k0_pay34 u acc y : EReal) = acc y + u y := by
  unfold k0_pay34
  pointwise

theorem step_b (u acc : Vec Ideal S1x1024 .f32) (y : S1x1024.Idx) : (k0_pay35 u acc y : EReal) = acc y + u y := by
  unfold k0_pay35
  pointwise

theorem step_w (u acc : Vec Ideal S1024x1024 .f32) (y : S1024x1024.Idx) : (k0_pay1 u (k0_pay36 acc) y : EReal) = acc y + u y := by
  unfold k0_pay1 k0_pay36
  pointwise

theorem step_v (u acc : Vec Ideal S256x1024 .f32) (y : S256x1024.Idx) : (k0_pay2 u acc y : EReal) = acc y + u y := by
  unfold k0_pay2
  pointwise

/-! What each sum starts from. -/

theorem zero_g (y : S1x1024.Idx) : (k0_pay30 (F := Ideal) y : EReal) = 0 := by
  unfold k0_pay30
  pointwise

theorem zero_b (y : S1x1024.Idx) : (k0_pay31 (F := Ideal) y : EReal) = 0 := by
  unfold k0_pay31
  pointwise

theorem zero_w (y : S1024x1024.Idx) : (k0_pay32 (F := Ideal) y : EReal) = 0 := by
  unfold k0_pay32
  pointwise

theorem zero_v (y : S256x1024.Idx) : (k0_pay33 (F := Ideal) y : EReal) = 0 := by
  unfold k0_pay33
  pointwise

/-- The gradient of the scale at the last point. -/
theorem total_g (t : Fin cfg0.N) (ht : t.val % 32 = 31) (j : Fin 1024) : ((outsAt0 m c t.val t.isLt).2.2.1 (ix2 0 j) : EReal)
    = ∑ r : Fin 8192, (val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 r j) : EReal) := by
  refine summed (fun n h => (outsAt0 m c n h).2.2.1 (ix2 0 j)) _ (fun t h => ?_) (fun t h => ?_) t ht
  · rw [← whole_g m c t, ← whole_b m c t, ← whole_w m c t, ← whole_v m c t]
    rw [outsAt0_A m c t h]
    frame_out
    exact (step_g _ _ _).trans (congrArg₂ (fun a c : EReal => a + c) (zero_g _) (dscale_eq (rows_x1 m c t) (rows_down m c t) (rows_p m c t) (rows_dy m c t) _ _ _ _ 0 j))
  · rw [← whole_g m c t, ← whole_b m c t, ← whole_w m c t, ← whole_v m c t]
    rw [outsAt0_B m c t h]
    frame_out
    exact (step_g _ _ _).trans (congrArg (fun a : EReal => _ + a) (dscale_eq (rows_x1 m c t) (rows_down m c t) (rows_p m c t) (rows_dy m c t) _ _ _ _ 0 j))

/-- The gradient of the shift at the last point. -/
theorem total_b (t : Fin cfg0.N) (ht : t.val % 32 = 31) (j : Fin 1024) : ((outsAt0 m c t.val t.isLt).2.2.2.1 (ix2 0 j) : EReal)
    = ∑ r : Fin 8192, (val_main_v55 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 r j) : EReal) := by
  refine summed (fun n h => (outsAt0 m c n h).2.2.2.1 (ix2 0 j)) _ (fun t h => ?_) (fun t h => ?_) t ht
  · rw [← whole_g m c t, ← whole_b m c t, ← whole_w m c t, ← whole_v m c t]
    rw [outsAt0_A m c t h]
    frame_out
    exact (step_b _ _ _).trans (congrArg₂ (fun a c : EReal => a + c) (zero_b _) (dshift_eq (rows_x1 m c t) (rows_down m c t) (rows_p m c t) (rows_dy m c t) _ _ _ _ 0 j))
  · rw [← whole_g m c t, ← whole_b m c t, ← whole_w m c t, ← whole_v m c t]
    rw [outsAt0_B m c t h]
    frame_out
    exact (step_b _ _ _).trans (congrArg (fun a : EReal => _ + a) (dshift_eq (rows_x1 m c t) (rows_down m c t) (rows_p m c t) (rows_dy m c t) _ _ _ _ 0 j))

/-- The gradient of the gate's weight at the last point. -/
theorem total_w (t : Fin cfg0.N) (ht : t.val % 32 = 31) (i j : Fin 1024) : ((outsAt0 m c t.val t.isLt).2.2.2.2.1 (ix2 i j) : EReal)
    = ∑ r : Fin 8192, (val_main_v51 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 r j)
      * val_main_v31 (F := Ideal) (m ((c : Thread nD τ).loc main_arg0)) (m ((c : Thread nD τ).loc main_arg1)) (m ((c : Thread nD τ).loc main_arg3)) (m ((c : Thread nD τ).loc main_arg4)) (ix2 r i) : EReal) := by
  refine summed (fun n h => (outsAt0 m c n h).2.2.2.2.1 (ix2 i j)) _ (fun t h => ?_) (fun t h => ?_) t ht
  · rw [← whole_g m c t, ← whole_b m c t, ← whole_w m c t, ← whole_v m c t]
    rw [outsAt0_A m c t h]
    frame_out
    exact (step_w _ _ _).trans (congrArg₂ (fun a c : EReal => a + c) (zero_w _) (dgate_weight_eq (rows_x1 m c t) (rows_down m c t) (rows_p m c t) (rows_dy m c t) _ _ _ _ i j))
  · rw [← whole_g m c t, ← whole_b m c t, ← whole_w m c t, ← whole_v m c t]
    rw [outsAt0_B m c t h]
    frame_out
    exact (step_w _ _ _).trans (congrArg (fun a : EReal => _ + a) (dgate_weight_eq (rows_x1 m c t) (rows_down m c t) (rows_p m c t) (rows_dy m c t) _ _ _ _ i j))

/-- The gradient of the embedding's weight at the last point. -/
theorem total_v (t : Fin cfg0.N) (ht : t.val % 32 = 31) (i : Fin 256) (j : Fin 1024) : ((outsAt0 m c t.val t.isLt).2.2.2.2.2 (ix2 i j) : EReal)
    = ∑ r : Fin 8192, (val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (ix2 r j)
      * m ((c : Thread nD τ).loc main_arg2) (ix2 r i) : EReal) := by
  refine summed (fun n h => (outsAt0 m c n h).2.2.2.2.2 (ix2 i j)) _ (fun t h => ?_) (fun t h => ?_) t ht
  · rw [← whole_g m c t, ← whole_b m c t, ← whole_w m c t]
    rw [outsAt0_A m c t h]
    frame_out
    exact (step_v _ _ _).trans (congrArg₂ (fun a c : EReal => a + c) (zero_v _) (dple_eq (rows_x1 m c t) (rows_down m c t) (rows_p m c t) (rows_dy m c t) _ _ _ i j))
  · rw [← whole_g m c t, ← whole_b m c t, ← whole_w m c t]
    rw [outsAt0_B m c t h]
    frame_out
    exact (step_v _ _ _).trans (congrArg (fun a : EReal => _ + a) (dple_eq (rows_x1 m c t) (rows_down m c t) (rows_p m c t) (rows_dy m c t) _ _ _ i j))

/-! The reference's sums at a place. -/

theorem reference_g (x0 x1 : Vec Ideal S8192x1024 .f32) (x2 : Vec Ideal S8192x256 .f32) (x3 x4 : Vec Ideal S1x1024 .f32)
    (x5 : Vec Ideal S1024x1024 .bf16) (x6 : Vec Ideal S256x1024 .bf16) (x7 : Vec Ideal S8192x1024 .f32) (j : Fin 1024) :
    val_main_v60 (F := Ideal) x0 x1 x2 x3 x4 x5 x6 x7 (ix2 0 j) = (∑ r : Fin 8192, val_main_v58 (F := Ideal) x0 x1 x2 x3 x4 x5 x6 x7 (ix2 r j) : EReal) := by
  rw [val_main_v60_apply, val_main_v59_apply, val_main_cst_11_apply]
  pointwise
  exact Finset.sum_congr rfl fun r _ => congrArg (val_main_v58 (F := Ideal) x0 x1 x2 x3 x4 x5 x6 x7) (by blk_ext)

theorem reference_b (x0 x1 : Vec Ideal S8192x1024 .f32) (x2 : Vec Ideal S8192x256 .f32) (x3 x4 : Vec Ideal S1x1024 .f32)
    (x5 : Vec Ideal S1024x1024 .bf16) (x6 : Vec Ideal S256x1024 .bf16) (x7 : Vec Ideal S8192x1024 .f32) (j : Fin 1024) :
    val_main_v57 (F := Ideal) x0 x1 x2 x3 x4 x5 x6 x7 (ix2 0 j) = (∑ r : Fin 8192, val_main_v55 (F := Ideal) x0 x1 x2 x3 x4 x5 x6 x7 (ix2 r j) : EReal) := by
  rw [val_main_v57_apply, val_main_v56_apply, val_main_cst_10_apply]
  pointwise
  exact Finset.sum_congr rfl fun r _ => congrArg (val_main_v55 (F := Ideal) x0 x1 x2 x3 x4 x5 x6 x7) (by blk_ext)

theorem reference_w (x0 x1 : Vec Ideal S8192x1024 .f32) (x2 : Vec Ideal S8192x256 .f32) (x3 x4 : Vec Ideal S1x1024 .f32)
    (x5 : Vec Ideal S1024x1024 .bf16) (x6 : Vec Ideal S256x1024 .bf16) (x7 : Vec Ideal S8192x1024 .f32) (i j : Fin 1024) :
    val_main_v53 (F := Ideal) x0 x1 x2 x3 x4 x5 x6 x7 (ix2 i j)
      = (∑ r : Fin 8192, val_main_v51 (F := Ideal) x0 x1 x2 x3 x4 x5 x6 x7 (ix2 r j) * val_main_v31 (F := Ideal) x0 x1 x3 x4 (ix2 r i) : EReal) := by
  rw [val_main_v53_apply, val_main_v52_apply]
  exact Finset.sum_congr rfl fun r _ => congrArg₂ (fun a c => (val_main_v51 (F := Ideal) x0 x1 x2 x3 x4 x5 x6 x7 a * val_main_v31 (F := Ideal) x0 x1 x3 x4 c : EReal))
    (by blk_ext) (by blk_ext)

theorem reference_v (x0 x1 : Vec Ideal S8192x1024 .f32) (x2 : Vec Ideal S8192x256 .f32) (x3 x4 : Vec Ideal S1x1024 .f32)
    (x5 : Vec Ideal S1024x1024 .bf16) (x7 : Vec Ideal S8192x1024 .f32) (i : Fin 256) (j : Fin 1024) :
    val_main_v50 (F := Ideal) x0 x1 x2 x3 x4 x5 x7 (ix2 i j)
      = (∑ r : Fin 8192, val_main_v47 (F := Ideal) x0 x1 x3 x4 x5 x7 (ix2 r j) * x2 (ix2 r i) : EReal) := by
  rw [val_main_v50_apply, val_main_v49_apply]
  exact Finset.sum_congr rfl fun r _ => congrArg₂ (fun a c => (val_main_v47 (F := Ideal) x0 x1 x3 x4 x5 x7 a * x2 c : EReal)) (by blk_ext) (by blk_ext)

/-- What the call leaves as the gradient of the scale. -/
theorem array_g : (dats m 0 c).arrAt 10 cfg0.N
    = val_main_v60 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 10 _ (by decide +kernel) fun t hf y => ?_
  have e := (out_idx t).2.2.1
  have ht := (flush0_10 t).mp hf
  blk_simp
  rw [after0_10]
  refine Eq.trans ?_ ((total_g m c t ht (y 1)).trans ((reference_g _ _ _ _ _ _ _ _ (y 1)).symm.trans (congrArg (val_main_v60 (F := Ideal) _ _ _ _ _ _ _ _) ?_)))
  · blk_ext
  · blk_ext [e]

/-- What the call leaves as the gradient of the shift. -/
theorem array_b : (dats m 0 c).arrAt 11 cfg0.N
    = val_main_v57 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 11 _ (by decide +kernel) fun t hf y => ?_
  have e := (out_idx t).2.2.2.1
  have ht := (flush0_11 t).mp hf
  blk_simp
  rw [after0_11]
  refine Eq.trans ?_ ((total_b m c t ht (y 1)).trans ((reference_b _ _ _ _ _ _ _ _ (y 1)).symm.trans (congrArg (val_main_v57 (F := Ideal) _ _ _ _ _ _ _ _) ?_)))
  · blk_ext
  · blk_ext [e]

/-- What the call leaves as the gradient of the gate's weight. -/
theorem array_w : (dats m 0 c).arrAt 12 cfg0.N
    = val_main_v53 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 12 _ (by decide +kernel) fun t hf y => ?_
  have e := (out_idx t).2.2.2.2.1
  have ht := (flush0_12 t).mp hf
  blk_simp
  rw [after0_12]
  refine Eq.trans ?_ ((total_w m c t ht (y 0) (y 1)).trans ((reference_w _ _ _ _ _ _ _ _ (y 0) (y 1)).symm.trans (congrArg (val_main_v53 (F := Ideal) _ _ _ _ _ _ _ _) ?_)))
  · blk_ext
  · blk_ext [e]

/-- What the call leaves as the gradient of the embedding's weight. -/
theorem array_v : (dats m 0 c).arrAt 13 cfg0.N
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 13 _ (by decide +kernel) fun t hf y => ?_
  have e := (out_idx t).2.2.2.2.2
  have ht := (flush0_13 t).mp hf
  blk_simp
  rw [after0_13]
  refine Eq.trans ?_ ((total_v m c t ht (y 0) (y 1)).trans ((reference_v _ _ _ _ _ _ _ (y 0) (y 1)).symm.trans (congrArg (val_main_v50 (F := Ideal) _ _ _ _ _ _ _) ?_)))
  · blk_ext
  · blk_ext [e]

end Cert.Kernel11Ideal.Gen
-- ==== Proof.Heads.lean ====
module

public import proofs.«01_k».proof.Defs
public import proofs.«01_k».proof.Proof.Gen.Kernel14Ideal.Value
public import proofs.«01_k».proof.Proof.Gen.Reference14Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The gated heads and their gradients: a column of the kernel's is a head and a place within it of the reference's. -/

namespace Cert.Kernel14Ideal.Gen

open Idealize.ShloMosaic Idealize.ShloMosaic.TcCoe Idealize.SL.Sem
open Cert.Reference14Ideal.Read
open scoped BigOperators

theorem head_place (k : Fin 512) : k.val / 128 * 128 + k.val % 128 = k.val := by omega

/-- The gate's columns among the projected ones. -/
theorem gate_place (j : Fin 512) : 1536 + j.val < 3072 := by omega

/-- Which head a column lies in, as the kernel asks. -/
theorem head_cases (k : Fin 512) : k.val < 128 ∨ (¬k.val < 128 ∧ k.val - 128 < 128) ∨ (¬k.val < 128 ∧ ¬k.val - 128 < 128 ∧ k.val - 128 - 128 < 128)
    ∨ (¬k.val < 128 ∧ ¬k.val - 128 < 128 ∧ ¬k.val - 128 - 128 < 128) := by omega

variable {e : Fin 256 → Fin 8192} {o z a : Vec Ideal S256x512 .f32} {x : Vec Ideal S256x1024 .f32} {O A : Vec Ideal S8192x512 .f32}
  {B : Vec Ideal S8192x3072 .f32} {X : Vec Ideal S8192x1024 .f32}
  (ho : ∀ i j, (o (ix2 i j) : EReal) = O (ix2 (e i) j)) (hz : ∀ i (j : Fin 512), (z (ix2 i j) : EReal) = B (ix2 (e i) ⟨1536 + j.val, gate_place j⟩))
  (ha : ∀ i j, (a (ix2 i j) : EReal) = A (ix2 (e i) j)) (hx : ∀ i j, (x (ix2 i j) : EReal) = X (ix2 (e i) j))
  (s : Vec Ideal S1x512 .f32) (w : Vec Ideal S1024x1024 .bf16)

include ho in
/-- The heads over their root mean squares. -/
theorem heads_eq (i : Fin 256) (k : Fin 512) : (k0_pay21 (F := Ideal) (k0_pay4 o) (k0_pay5 o) (k0_pay6 o) (k0_pay10 o) (k0_pay14 o) (ix2 i k) : EReal)
    = val_main_v16 (F := Ideal) O (ix3 (e i) ⟨k.val / 128, by omega⟩ ⟨k.val % 128, by omega⟩) := by
  unfold k0_pay21 k0_pay19 k0_pay18 k0_pay16 k0_pay15 k0_pay14 k0_pay12 k0_pay11 k0_pay10 k0_pay8 k0_pay7 k0_pay6 k0_pay5 k0_pay4 k0_pay3 val_main_v16
    val_main_v15 val_main_v11 val_main_v10 val_main_v9 val_main_cst_1 val_main_v8 val_main_v7 val_main_cst_0 val_main_v6 val_main_v5 val_main_cst val_main_v4
    val_main_v2
  pointwise
  simp only [ho, head_place]
  rcases head_cases k with h0 | ⟨h0, h1⟩ | ⟨h0, h1, h2⟩ | ⟨h0, h1, h2⟩
  · have hq : k.val / 128 * 128 = 0 := by omega
    rw [dif_pos h0]
    simp only [hq, Nat.zero_add]
  · have hq : k.val / 128 * 128 = 128 := by omega
    have hr : 128 + (k.val - 128) = k.val := by omega
    rw [dif_neg h0, dif_pos h1]
    simp only [hq, hr]
  · have hq : k.val / 128 * 128 = 256 := by omega
    have hr : 256 + (k.val - 128 - 128) = k.val := by omega
    rw [dif_neg h0, dif_neg h1, dif_pos h2]
    simp only [hq, hr]
  · have hq : k.val / 128 * 128 = 384 := by omega
    have hr : 384 + (k.val - 128 - 128 - 128) = k.val := by omega
    rw [dif_neg h0, dif_neg h1, dif_neg h2]
    simp only [hq, hr]

include ho in
/-- The same, scaled. -/
theorem scaled_eq (i : Fin 256) (k : Fin 512) : (k0_pay22 (F := Ideal) s (k0_pay4 o) (k0_pay5 o) (k0_pay6 o) (k0_pay10 o) (k0_pay14 o) (ix2 i k) : EReal)
    = val_main_v19 (F := Ideal) O s (ix3 (e i) ⟨k.val / 128, by omega⟩ ⟨k.val % 128, by omega⟩) := by
  unfold k0_pay22 val_main_v19 val_main_v18 val_main_v17 val_main_v3
  pointwise
  simp only [heads_eq ho, head_place]

include hz in
/-- The gate's logistic. -/
theorem gate_eq (i : Fin 256) (k : Fin 512) : (k0_pay23 (F := Ideal) z (ix2 i k) : EReal)
    = val_main_v21_2 (F := Ideal) B (ix3 (e i) ⟨k.val / 128, by omega⟩ ⟨k.val % 128, by omega⟩) := by
  unfold k0_pay23 val_main_v21_2 val_main_call0_v4 val_main_call0_cst_0 val_main_call0_v3 val_main_call0_v2 val_main_call0_cst val_main_call0_v1
    val_main_call0_v0 val_main_v20 val_main_v1
  pointwise
  simp only [Ideal.logistic, hz, head_place]

include hz in
/-- Its slope. -/
theorem slope_eq (i : Fin 256) (k : Fin 512) : (k0_pay24 (F := Ideal) z (ix2 i k) : EReal)
    = val_main_v21_1 (F := Ideal) B (ix3 (e i) ⟨k.val / 128, by omega⟩ ⟨k.val % 128, by omega⟩) := by
  unfold k0_pay24 val_main_v21_1 val_main_call0_v7 val_main_call0_v6 val_main_call0_cst_1
  pointwise
  simp only [gate_eq hz]

include hz in
/-- The gate times its logistic. -/
theorem silu_eq (i : Fin 256) (k : Fin 512) : (k0_pay25 (F := Ideal) z (ix2 i k) : EReal)
    = val_main_v21_0 (F := Ideal) B (ix3 (e i) ⟨k.val / 128, by omega⟩ ⟨k.val % 128, by omega⟩) := by
  unfold k0_pay25 val_main_v21_0 val_main_v20 val_main_v1
  pointwise
  simp only [gate_eq hz, hz, head_place]

include ho hz ha in
/-- Both head groups side by side. -/
theorem mixed_eq (i : Fin 256) (j : Fin 1024) : (k0_pay26 (F := Ideal) z a s (k0_pay4 o) (k0_pay5 o) (k0_pay6 o) (k0_pay10 o) (k0_pay14 o) (ix2 i j) : EReal)
    = val_main_v24 (F := Ideal) O B A s (ix2 (e i) j) := by
  unfold k0_pay26 val_main_v24 val_main_v23 val_main_v22
  pointwise
  by_cases h : j.val < 512
  · simp only [dif_pos h]
    exact congrArg₂ (fun a b : EReal => a * b) (scaled_eq ho s i ⟨j.val, h⟩) (silu_eq hz i ⟨j.val, h⟩)
  · simp only [dif_neg h]
    exact ha i _

include ho hz ha hx in
/-- The residual. -/
theorem residual_eq (i : Fin 256) (j : Fin 1024) :
    (k0_pay27 (F := Ideal) z a x s (k0_pay2 w) (k0_pay4 o) (k0_pay5 o) (k0_pay6 o) (k0_pay10 o) (k0_pay14 o) (ix2 i j) : EReal)
      = val_main_v28 (F := Ideal) O B A X s w (ix2 (e i) j) := by
  unfold k0_pay27 k0_pay2 val_main_v28 val_main_v27 val_main_v26 val_main_cst_3 val_main_v25 val_main_v0
  pointwise
  simp only [mixed_eq ho hz ha, hx]

include ho hz ha hx in
/-- Its mean. -/
theorem mean_eq (i : Fin 256) (j : Fin 1) : (k0_pay28 (F := Ideal) z a x s (k0_pay2 w) (k0_pay4 o) (k0_pay5 o) (k0_pay6 o) (k0_pay10 o) (k0_pay14 o) (ix2 i j) : EReal)
      = val_main_v32 (F := Ideal) O B A X s w (ix2 (e i) j) := by
  unfold k0_pay28 val_main_v32 val_main_v31 val_main_cst_5 val_main_v30 val_main_v29 val_main_cst_4
  pointwise
  simp only [residual_eq ho hz ha hx]

/-! The heads' gradients, from that of both head groups. -/

variable {w} {g : Vec Ideal S1x1024 .f32} {Y : Vec Ideal S8192x1024 .f32} {v : Vec Ideal S1024x1024 .f32} {p q n : Vec Ideal S256x1024 .f32} {d : Vec Ideal S256x1 .f32}
  (hm : ∀ i j, (k0_pay44 (F := Ideal) v p d q n (ix2 i j) : EReal) = val_main_v92 (F := Ideal) O B A X s w g Y (ix2 (e i) j))

include hz hm in
/-- The gradient of the scaled heads. -/
theorem dscaled_eq (i : Fin 256) (k : Fin 512) : (k0_pay48 (F := Ideal) v (k0_pay25 z) p d q n (ix2 i k) : EReal)
    = val_main_v97 (F := Ideal) O B A X s w g Y (ix3 (e i) ⟨k.val / 128, by omega⟩ ⟨k.val % 128, by omega⟩) := by
  unfold k0_pay48 k0_pay46 val_main_v97 val_main_v95 val_main_v93
  pointwise
  simp only [hm, silu_eq hz, head_place]

include ho hz hm in
/-- The gradient of the gate. -/
theorem dgate_eq (i : Fin 256) (k : Fin 512) :
    (k0_pay61 (F := Ideal) (k0_pay49 z v (k0_pay22 s (k0_pay4 o) (k0_pay5 o) (k0_pay6 o) (k0_pay10 o) (k0_pay14 o)) (k0_pay23 z) (k0_pay24 z) p d q n) (ix2 i k) : EReal)
      = val_main_v122 (F := Ideal) O B A X s w g Y (ix2 (e i) k) := by
  unfold k0_pay61 k0_pay49 k0_pay46 val_main_v122 val_main_v99 val_main_v98 val_main_call1_v2 val_main_call1_v1 val_main_call1_v0 val_main_v96 val_main_v95
    val_main_v93 val_main_v20 val_main_v1
  pointwise
  simp only [hm, hz, scaled_eq ho, gate_eq hz, slope_eq hz, head_place]

include ho hz hm in
/-- The block's share of the gradient of the heads' scale. -/
theorem dheads_scale_eq (i : Fin 1) (k : Fin 512) :
    (k0_pay50 (F := Ideal) v (k0_pay21 (k0_pay4 o) (k0_pay5 o) (k0_pay6 o) (k0_pay10 o) (k0_pay14 o)) (k0_pay25 z) p d q n (ix2 i k) : EReal)
      = ∑ r : Fin 256, (val_main_v100 (F := Ideal) O B A X s w g Y (ix3 (e r) ⟨k.val / 128, by omega⟩ ⟨k.val % 128, by omega⟩) : EReal) := by
  unfold k0_pay50 val_main_v100
  pointwise
  simp only [heads_eq ho, dscaled_eq hz s hm]

include hz hm in
/-- The gradient of the heads over their root mean squares. -/
theorem dheads_eq (i : Fin 256) (k : Fin 512) : (k0_pay51 (F := Ideal) s v (k0_pay25 z) p d q n (ix2 i k) : EReal)
    = val_main_v104 (F := Ideal) O B A X s w g Y (ix3 (e i) ⟨k.val / 128, by omega⟩ ⟨k.val % 128, by omega⟩) := by
  unfold k0_pay51 val_main_v104 val_main_v103 val_main_v17 val_main_v3
  pointwise
  simp only [dscaled_eq hz s hm, head_place]

/-- The gradient of one head through its root mean square. -/
theorem dhead_eq (h : Fin 4) {u t : Vec Ideal S256x128 .f32} (hu : ∀ i (j : Fin 128), (u (ix2 i j) : EReal) = O (ix2 (e i) ⟨h.val * 128 + j.val, by omega⟩))
    (ht : ∀ i j, (t (ix2 i j) : EReal) = val_main_v104 (F := Ideal) O B A X s w g Y (ix3 (e i) h j)) (i : Fin 256) (j : Fin 128) :
    (k0_pay56 (F := Ideal) u (k0_pay16 u) (k0_pay17 u) t (ix2 i j) : EReal) = val_main_v119 (F := Ideal) O B A X s w g Y (ix3 (e i) h j) := by
  unfold k0_pay56 k0_pay17 k0_pay16 k0_pay15 val_main_v119 val_main_v118 val_main_v117 val_main_v116 val_main_v115 val_main_v114 val_main_cst_25 val_main_v113
    val_main_v112 val_main_cst_24 val_main_v111 val_main_v110 val_main_v109 val_main_v108 val_main_v107 val_main_cst_23 val_main_v106 val_main_v14
    val_main_v13 val_main_cst_2 val_main_v12 val_main_v11 val_main_v10 val_main_v9 val_main_cst_1 val_main_v8 val_main_v7 val_main_cst_0 val_main_v6
    val_main_v5 val_main_cst val_main_v4 val_main_v2
  pointwise
  simp only [hu, ht]

omit hm in
include ho in
/-- The heads of a block. -/
theorem slices_eq (i : Fin 256) (j : Fin 128) :
    (k0_pay3 (F := Ideal) o (ix2 i j) : EReal) = O (ix2 (e i) ⟨(0 : Fin 4).val * 128 + j.val, by omega⟩)
    ∧ (k0_pay4 (F := Ideal) o (ix2 i j) : EReal) = O (ix2 (e i) ⟨(1 : Fin 4).val * 128 + j.val, by omega⟩)
    ∧ (k0_pay5 (F := Ideal) o (ix2 i j) : EReal) = O (ix2 (e i) ⟨(2 : Fin 4).val * 128 + j.val, by omega⟩)
    ∧ (k0_pay6 (F := Ideal) o (ix2 i j) : EReal) = O (ix2 (e i) ⟨(3 : Fin 4).val * 128 + j.val, by omega⟩) := by
  refine ⟨?_, ?_, ?_, ?_⟩
  all_goals simp only [k0_pay3, k0_pay4, k0_pay5, k0_pay6]
  all_goals pointwise
  all_goals exact (ho i _).trans (congrArg O (by blk_ext))

include hz hm in
/-- Their gradients. -/
theorem dslices_eq (i : Fin 256) (j : Fin 128) :
    (k0_pay52 (F := Ideal) s v (k0_pay25 z) p d q n (ix2 i j) : EReal) = val_main_v104 (F := Ideal) O B A X s w g Y (ix3 (e i) 0 j)
    ∧ (k0_pay53 (F := Ideal) s v (k0_pay25 z) p d q n (ix2 i j) : EReal) = val_main_v104 (F := Ideal) O B A X s w g Y (ix3 (e i) 1 j)
    ∧ (k0_pay54 (F := Ideal) s v (k0_pay25 z) p d q n (ix2 i j) : EReal) = val_main_v104 (F := Ideal) O B A X s w g Y (ix3 (e i) 2 j)
    ∧ (extractStridedSlice S256x128 ![0, 384] (k0_pay51 s v (k0_pay25 z) p d q n) slices_S256x512_o0_384_S256x128 (ix2 i j) : EReal)
      = val_main_v104 (F := Ideal) O B A X s w g Y (ix3 (e i) 3 j) := by
  refine ⟨?_, ?_, ?_, ?_⟩
  all_goals try simp only [k0_pay52, k0_pay53, k0_pay54]
  all_goals pointwise
  all_goals rw [dheads_eq hz s hm]
  all_goals refine congrArg₂ (fun a b => (val_main_v104 (F := Ideal) O B A X s w g Y (ix3 (e i) a b) : EReal)) (Fin.ext ?_) (Fin.ext ?_)
  all_goals (dsimp only; omega)

omit hm in
/-- The four heads' gradients as the kernel puts them together. -/
theorem joined_eq (o : Vec Ideal S256x512 .f32) (t : Vec Ideal S256x512 .f32) : k0_pay60 (F := Ideal) (k0_pay56 (k0_pay4 o) (k0_pay12 o) (k0_pay13 o) (k0_pay53 s v t p d q n))
      (k0_pay57 (k0_pay3 o) (k0_pay8 o) (k0_pay9 o) (k0_pay52 s v t p d q n))
      (k0_pay58 (k0_pay55 s v (k0_pay6 o) (k0_pay19 (k0_pay6 o)) (k0_pay20 (k0_pay6 o)) t p d q n))
      (Scalar.ofBits .f32 0x00000000#32)
      (k0_pay59 (k0_pay5 o) (k0_pay16 (k0_pay5 o)) (k0_pay17 (k0_pay5 o)) (k0_pay54 s v t p d q n))
    = k0_pay60 (k0_pay56 (k0_pay4 o) (k0_pay16 (k0_pay4 o)) (k0_pay17 (k0_pay4 o)) (k0_pay53 s v t p d q n))
      (k0_pay56 (k0_pay3 o) (k0_pay16 (k0_pay3 o)) (k0_pay17 (k0_pay3 o)) (k0_pay52 s v t p d q n))
      (k0_pay58 (k0_pay56 (k0_pay6 o) (k0_pay16 (k0_pay6 o)) (k0_pay17 (k0_pay6 o))
        (extractStridedSlice S256x128 ![0, 384] (k0_pay51 s v t p d q n) slices_S256x512_o0_384_S256x128)))
      (Scalar.ofBits .f32 0x00000000#32)
      (concatenate S256x384 1 [⟨S256x256, broadcast S256x256 (Scalar.ofBits .f32 0x00000000#32)⟩,
        ⟨S256x128, k0_pay56 (k0_pay5 o) (k0_pay16 (k0_pay5 o)) (k0_pay17 (k0_pay5 o)) (k0_pay54 s v t p d q n)⟩] concatenates_S256x256_S256x128_S256x384_d1) := rfl

include ho hz hm in
/-- The gradient of the recurrence's output. -/
theorem doutput_eq (i : Fin 256) (k : Fin 512) :
    (k0_pay60 (F := Ideal) (k0_pay56 (k0_pay4 o) (k0_pay12 o) (k0_pay13 o) (k0_pay53 s v (k0_pay25 z) p d q n))
      (k0_pay57 (k0_pay3 o) (k0_pay8 o) (k0_pay9 o) (k0_pay52 s v (k0_pay25 z) p d q n))
      (k0_pay58 (k0_pay55 s v (k0_pay6 o) (k0_pay19 (k0_pay6 o)) (k0_pay20 (k0_pay6 o)) (k0_pay25 z) p d q n))
      (Scalar.ofBits .f32 0x00000000#32)
      (k0_pay59 (k0_pay5 o) (k0_pay16 (k0_pay5 o)) (k0_pay17 (k0_pay5 o)) (k0_pay54 s v (k0_pay25 z) p d q n)) (ix2 i k) : EReal)
      = val_main_v121 (F := Ideal) O B A X s w g Y (ix2 (e i) k) := by
  have H0 := fun j => dhead_eq (X := X) s 0 (fun i j => (slices_eq ho i j).1) (fun i j => (dslices_eq hz s hm i j).1) i j
  have H1 := fun j => dhead_eq (X := X) s 1 (fun i j => (slices_eq ho i j).2.1) (fun i j => (dslices_eq hz s hm i j).2.1) i j
  have H2 := fun j => dhead_eq (X := X) s 2 (fun i j => (slices_eq ho i j).2.2.1) (fun i j => (dslices_eq hz s hm i j).2.2.1) i j
  have H3 := fun j => dhead_eq (X := X) s 3 (fun i j => (slices_eq ho i j).2.2.2) (fun i j => (dslices_eq hz s hm i j).2.2.2) i j
  rw [joined_eq]
  unfold k0_pay60 k0_pay58 val_main_v121
  pointwise
  simp only [H0, H1, H2, H3]
  have key : ∀ (a : Fin 4) (b : Fin 128), 128 * a.val + b.val = k.val → (val_main_v119 (F := Ideal) O B A X s w g Y (ix3 (e i) a b) : EReal)
      = val_main_v119 (F := Ideal) O B A X s w g Y (ix3 (e i) ⟨k.val / 128, by omega⟩ ⟨k.val % 128, by omega⟩) := fun a b h =>
    congrArg₂ (fun a b => (val_main_v119 (F := Ideal) O B A X s w g Y (ix3 (e i) a b) : EReal)) (Fin.ext (by dsimp only; omega)) (Fin.ext (by dsimp only; omega))
  rcases head_cases k with h | ⟨_, h⟩ | ⟨_, _, h⟩ | ⟨_, _, h⟩
  · have h1 : k.val < 256 := by omega
    have h2 : k.val < 384 := by omega
    simp only [dif_pos h, dif_pos h1, dif_pos h2, zero_add]
    exact key 0 ⟨k.val, h⟩ (Nat.zero_add _)
  · have h0 : ¬k.val < 128 := by omega
    have h1 : k.val < 256 := by omega
    have h2 : k.val < 384 := by omega
    simp only [dif_neg h0, dif_pos h1, dif_pos h2, zero_add, add_zero]
    exact key 1 ⟨k.val - 128, h⟩ (by show 128 * 1 + (k.val - 128) = k.val; omega)
  · have h0 : ¬k.val < 128 := by omega
    have h1 : ¬k.val < 256 := by omega
    have h2 : k.val < 384 := by omega
    simp only [dif_neg h0, dif_neg h1, dif_pos h2, zero_add, add_zero]
    exact key 2 ⟨k.val - 256, by omega⟩ (by show 128 * 2 + (k.val - 256) = k.val; omega)
  · have h0 : ¬k.val < 128 := by omega
    have h1 : ¬k.val < 256 := by omega
    have h2 : ¬k.val < 384 := by omega
    simp only [dif_neg h0, dif_neg h1, dif_neg h2, add_zero]
    exact key 3 ⟨k.val - 384, by omega⟩ (by show 128 * 3 + (k.val - 384) = k.val; omega)

end Cert.Kernel14Ideal.Gen
-- ==== Proof.MixedNorm.lean ====
module

public import proofs.«01_k».proof.Defs
public import proofs.«01_k».proof.Proof.Gen.Kernel14Ideal.Value
public import proofs.«01_k».proof.Proof.Gen.Reference14Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The gated heads, the output projection and the first norm, and their gradients: the rows of a block, read as rows of the whole arrays. -/

namespace Cert.Kernel14Ideal.Gen

open Idealize.ShloMosaic Idealize.ShloMosaic.TcCoe Idealize.SL.Sem
open Cert.Reference14Ideal.Read
open scoped BigOperators

/-! The norm's gradients, from the residual and its mean. -/

section Norm

variable {e : Fin 256 → Fin 8192} {O A : Vec Ideal S8192x512 .f32} {B : Vec Ideal S8192x3072 .f32} {X Y : Vec Ideal S8192x1024 .f32}
  {s : Vec Ideal S1x512 .f32} {w : Vec Ideal S1024x1024 .bf16} {r y : Vec Ideal S256x1024 .f32} {u : Vec Ideal S256x1 .f32}
  (hr : ∀ i j, (r (ix2 i j) : EReal) = val_main_v28 (F := Ideal) O B A X s w (ix2 (e i) j))
  (hu : ∀ i j, (u (ix2 i j) : EReal) = val_main_v32 (F := Ideal) O B A X s w (ix2 (e i) j))
  (hy : ∀ i j, (y (ix2 i j) : EReal) = Y (ix2 (e i) j)) (g : Vec Ideal S1x1024 .f32)

include hr hu in
/-- The variance and its small constant. -/
theorem variance_eq (i : Fin 256) (j : Fin 1) : (k0_pay31 (F := Ideal) r u (ix2 i j) : EReal) = val_main_v45 (F := Ideal) O B A X s w (ix2 (e i) j) := by
  unfold k0_pay31 k0_pay29 val_main_v45 val_main_v44 val_main_cst_9 val_main_v41 val_main_v40 val_main_cst_8 val_main_v39 val_main_v38 val_main_cst_7
    val_main_v35 val_main_v34 val_main_v33
  pointwise
  simp only [hr, hu]

include hr hu in
/-- The normed residual before scale and shift. -/
theorem unit_eq (i : Fin 256) (j : Fin 1024) : (k0_pay30 (F := Ideal) r u (ix2 i j) * Ideal.rsqrt (k0_pay31 (F := Ideal) r u (ix2 i 0)) : EReal)
    = val_main_v51 (F := Ideal) O B A X s w (ix2 (e i) j) := by
  unfold k0_pay30 val_main_v51 val_main_v50 val_main_v46 val_main_v43 val_main_v42
  pointwise
  simp only [hr, hu, variance_eq hr hu]

include hr hu hy in
/-- The gradient of the unit through the deviation. -/
theorem dcentred_eq (i : Fin 256) (j : Fin 1024) : (k0_pay37 (F := Ideal) g r u y (ix2 i j) : EReal) = val_main_v68 (F := Ideal) O B A X s w g Y (ix2 (e i) j) := by
  unfold k0_pay37 k0_pay36 k0_pay33 k0_pay32 val_main_v68 val_main_v67 val_main_v63 val_main_v62 val_main_v56 val_main_v46
  pointwise
  simp only [hy, variance_eq hr hu]

include hr hu hy in
/-- Its sum along the row, negated. -/
theorem dmean_eq (i : Fin 256) (j : Fin 1) : (k0_pay38 (F := Ideal) g r u y (ix2 i j) : EReal) = val_main_v72 (F := Ideal) O B A X s w g Y (ix2 (e i) j) := by
  unfold k0_pay38 val_main_v72 val_main_v71 val_main_cst_14 val_main_v70
  pointwise
  simp only [dcentred_eq hr hu hy, zero_sub]

include hr hu hy in
/-- The gradient through the squares. -/
theorem dsquare_eq (i : Fin 256) (j : Fin 1024) : (k0_pay39 (F := Ideal) g r u y (ix2 i j) : EReal) = val_main_v77 (F := Ideal) O B A X s w g Y (ix2 (e i) j) := by
  unfold k0_pay39 k0_pay36 k0_pay33 k0_pay32 k0_pay30 k0_pay29 val_main_v77 val_main_v76 val_main_v75 val_main_cst_16 val_main_v74 val_main_v73 val_main_cst_15
    val_main_v69 val_main_v66 val_main_v65 val_main_cst_13 val_main_v64 val_main_v63 val_main_v62 val_main_v56 val_main_v49 val_main_v48 val_main_cst_10
    val_main_v47 val_main_v46 val_main_v43 val_main_v42 val_main_v37 val_main_v36 val_main_cst_6 val_main_v34 val_main_v33
  pointwise
  simp only [hr, hu, hy, variance_eq hr hu]

include hr hu hy in
/-- The gradient of the residual. -/
theorem dresidual_eq (i : Fin 256) (j : Fin 1024) : (k0_pay41 (F := Ideal) (k0_pay37 g r u y) (k0_pay38 g r u y) (k0_pay39 g r u y) k0_pay40 (ix2 i j) : EReal)
    = val_main_v87 (F := Ideal) O B A X s w g Y (ix2 (e i) j) := by
  unfold k0_pay41 k0_pay40 val_main_v87 val_main_v86 val_main_v85 val_main_cst_19 val_main_v84 val_main_v83 val_main_cst_18 val_main_v82 val_main_v81
    val_main_v80 val_main_v79 val_main_cst_17 val_main_v78
  pointwise
  simp only [dcentred_eq hr hu hy, dmean_eq hr hu hy, dsquare_eq hr hu hy, zero_sub]

include hr hu hy in
/-- The block's share of the gradient of the scale. -/
theorem dscale_eq (i : Fin 1) (j : Fin 1024) : (k0_pay35 (F := Ideal) r u y (ix2 i j) : EReal) = ∑ k : Fin 256, (val_main_v59 (F := Ideal) O B A X s w Y (ix2 (e k) j) : EReal) := by
  unfold k0_pay35 k0_pay33 k0_pay32 val_main_v59 val_main_v56
  pointwise
  refine Finset.sum_congr rfl fun k _ => ?_
  rw [← unit_eq hr hu, ← hy]

include hy in
/-- The block's share of the gradient of the shift. -/
theorem dshift_eq (i : Fin 1) (j : Fin 1024) : (k0_pay34 (F := Ideal) y (ix2 i j) : EReal) = ∑ k : Fin 256, (Y (ix2 (e k) j) : EReal) := by
  unfold k0_pay34
  pointwise
  exact Finset.sum_congr rfl fun k _ => hy k j

end Norm

/-! The rows' gradients, from that of the residual. -/

section Rows

variable {e : Fin 256 → Fin 8192} {O A : Vec Ideal S8192x512 .f32} {B : Vec Ideal S8192x3072 .f32} {X Y : Vec Ideal S8192x1024 .f32}
  {s : Vec Ideal S1x512 .f32} {w : Vec Ideal S1024x1024 .bf16} {g : Vec Ideal S1x1024 .f32} {p q n : Vec Ideal S256x1024 .f32} {d : Vec Ideal S256x1 .f32}
  (hd : ∀ i j, (k0_pay41 (F := Ideal) p d q n (ix2 i j) : EReal) = val_main_v87 (F := Ideal) O B A X s w g Y (ix2 (e i) j))

include hd

/-- The gradient of what is added to the layer's output. -/
theorem drow_eq (i : Fin 256) (j : Fin 1024) : (k0_pay42 (F := Ideal) p d q n (ix2 i j) : EReal) = val_main_v89 (F := Ideal) O B A X s w g Y (ix2 (e i) j) := by
  unfold k0_pay42 val_main_v89 val_main_v88 val_main_cst_20
  pointwise
  rw [hd]

/-- The gradient of both head groups. -/
theorem dmixed_eq (i : Fin 256) (j : Fin 1024) : (k0_pay44 (F := Ideal) (k0_pay2 w) p d q n (ix2 i j) : EReal) = val_main_v92 (F := Ideal) O B A X s w g Y (ix2 (e i) j) := by
  unfold k0_pay44 k0_pay43 k0_pay2 val_main_v92 val_main_v0
  pointwise
  simp only [hd]

/-- The gradient of the second head group. -/
theorem dsecond_eq (i : Fin 256) (j : Fin 512) : (k0_pay47 (F := Ideal) (k0_pay2 w) p d q n (ix2 i j) : EReal) = val_main_v94 (F := Ideal) O B A X s w g Y (ix2 (e i) j) := by
  unfold k0_pay47 val_main_v94
  pointwise
  simp only [dmixed_eq hd]

/-- The block's share of the gradient of the projection's weight. -/
theorem dweight_eq {v : FVec Ideal S256x1024 .f32} (hv : ∀ i j, (v (ix2 i j) : EReal) = val_main_v24 (F := Ideal) O B A s (ix2 (e i) j)) (i j : Fin 1024) :
    (k0_pay45 (F := Ideal) v p d q n (ix2 i j) : EReal)
      = ∑ k : Fin 256, (val_main_v87 (F := Ideal) O B A X s w g Y (ix2 (e k) j) * val_main_v24 (F := Ideal) O B A s (ix2 (e k) i) : EReal) := by
  unfold k0_pay45 k0_pay43
  pointwise
  simp only [hd, hv, mul_comm]

end Rows

end Cert.Kernel14Ideal.Gen
-- ==== Proof.Mixed.lean ====
module

public import proofs.«01_k».proof.Defs
public import proofs.«01_k».proof.Proof.Heads
public import proofs.«01_k».proof.Proof.MixedNorm

@[expose] public section

set_option maxRecDepth 16384

noncomputable section

/-! The gradients of the gated heads, the output projection and the first norm: the rows block by block, the weights added up over the blocks. -/

namespace Cert.Kernel14Ideal.Gen

open Idealize.ShloMosaic Idealize.ShloMosaic.TcCoe Idealize.SL.Sem
open Idealize.ShloMosaic.Pipeline (Dat)
open Cert.Reference14Ideal.Read
open scoped BigOperators

variable (m : (ℓ : Loc nD τ sig) → Buf (Elt Ideal) ℓ) (c : Dev nD)

/-! The call's arguments: the recurrence's output, the projected layer input, the second head group, the layer's input, the heads' scale, the
    projection's weight, the norm's scale, and the gradient of the norm. -/

abbrev argO : Vec Ideal S8192x512 .f32 := m ((c : Thread nD τ).loc main_arg0)
abbrev argB : Vec Ideal S8192x3072 .f32 := m ((c : Thread nD τ).loc main_arg1)
abbrev argA : Vec Ideal S8192x512 .f32 := m ((c : Thread nD τ).loc main_arg2)
abbrev argX : Vec Ideal S8192x1024 .f32 := m ((c : Thread nD τ).loc main_arg3)
abbrev argS : Vec Ideal S1x512 .f32 := m ((c : Thread nD τ).loc main_arg4)
abbrev argW : Vec Ideal S1024x1024 .bf16 := m ((c : Thread nD τ).loc main_arg5)
abbrev argG : Vec Ideal S1x1024 .f32 := m ((c : Thread nD τ).loc main_arg6)
abbrev argY : Vec Ideal S8192x1024 .f32 := m ((c : Thread nD τ).loc main_arg8)

/-- The windows' blocks: rows, and whole arrays. -/
theorem idx : ∀ t : Fin cfg0.N, win0_0.index t = ![t.val, 0] ∧ win0_1.index t = ![t.val, 3] ∧ win0_2.index t = ![t.val, 0] ∧ win0_3.index t = ![t.val, 0]
    ∧ win0_4.index t = ![0, 0] ∧ win0_5.index t = ![0, 0] ∧ win0_6.index t = ![0, 0] ∧ win0_8.index t = ![t.val, 0] :=
  (by decide +kernel : ∀ t : Fin grid0.N, _)

theorem out_idx : ∀ t : Fin cfg0.N, win0_9.index t = ![t.val, 0] ∧ win0_10.index t = ![t.val, 0] ∧ win0_11.index t = ![t.val, 0] ∧ win0_12.index t = ![t.val, 0]
    ∧ win0_13.index t = ![0, 0] ∧ win0_14.index t = ![0, 0] ∧ win0_15.index t = ![0, 0] ∧ win0_16.index t = ![0, 0] :=
  (by decide +kernel : ∀ t : Fin grid0.N, _)

/-- A block's row among all rows. -/
def row (t : Fin cfg0.N) (i : Fin 256) : Fin 8192 :=
  ⟨t.val * 256 + i.val, by have := lt_of_lt_of_eq t.isLt (show cfg0.N = 32 from N_0); omega⟩

theorem rows_o (t : Fin cfg0.N) (i : Fin 256) (j : Fin 512) : (iblk m c 0 t (ix2 i j) : EReal) = argO m c (ix2 (row t i) j) := by
  have e := (idx t).1
  blk_ext [iblk, V, e, row]

theorem rows_z (t : Fin cfg0.N) (i : Fin 256) (j : Fin 512) : (iblk m c 1 t (ix2 i j) : EReal) = argB m c (ix2 (row t i) ⟨1536 + j.val, gate_place j⟩) := by
  have e := (idx t).2.1
  blk_ext [iblk, V, e, row]

theorem rows_a (t : Fin cfg0.N) (i : Fin 256) (j : Fin 512) : (iblk m c 2 t (ix2 i j) : EReal) = argA m c (ix2 (row t i) j) := by
  have e := (idx t).2.2.1
  blk_ext [iblk, V, e, row]

theorem rows_x (t : Fin cfg0.N) (i : Fin 256) (j : Fin 1024) : (iblk m c 3 t (ix2 i j) : EReal) = argX m c (ix2 (row t i) j) := by
  have e := (idx t).2.2.2.1
  blk_ext [iblk, V, e, row]

theorem rows_y (t : Fin cfg0.N) (i : Fin 256) (j : Fin 1024) : (iblk m c 8 t (ix2 i j) : EReal) = argY m c (ix2 (row t i) j) := by
  have e := (idx t).2.2.2.2.2.2.2
  blk_ext [iblk, V, e, row]

theorem whole_s (t : Fin cfg0.N) : (iblk m c 4 t : Vec Ideal S1x512 .f32) = argS m c := by
  have e := (idx t).2.2.2.2.1
  funext y
  blk_ext [iblk, V, e]

theorem whole_w (t : Fin cfg0.N) : (iblk m c 5 t : Vec Ideal S1024x1024 .bf16) = argW m c := by
  have e := (idx t).2.2.2.2.2.1
  funext y
  blk_ext [iblk, V, e]

theorem whole_g (t : Fin cfg0.N) : (iblk m c 6 t : Vec Ideal S1x1024 .f32) = argG m c := by
  have e := (idx t).2.2.2.2.2.2.1
  funext y
  blk_ext [iblk, V, e]

/-- What starts from zero at the first point, and has a block's rows added at each, is the sum of all rows at the last. -/
theorem summed (f : (n : ℕ) → n < cfg0.N → EReal) (g : Fin 8192 → EReal)
    (h0 : ∀ t : Fin cfg0.N, t.val % 32 = 0 → f t.val t.isLt = 0 + ∑ k, g (row t k))
    (hs : ∀ t : Fin cfg0.N, ¬t.val % 32 = 0 → f t.val t.isLt = f (t.val - 1) (Nat.lt_of_le_of_lt (Nat.sub_le _ _) t.isLt) + ∑ k, g (row t k))
    (t : Fin cfg0.N) (ht : t.val % 32 = 31) : f t.val t.isLt = ∑ r, g r := by
  rw [Pipeline.eq_sum_fin_of_reset_step_of_flush f 32 0 (fun t => ∑ k, g (row t k)) h0 hs t ht, zero_add, Fin.sum_univ_tiles 32 256 rfl]
  have := lt_of_lt_of_eq t.isLt (show cfg0.N = 32 from N_0)
  refine Finset.sum_congr rfl fun s _ => Finset.sum_congr rfl fun k _ => congrArg g (Fin.ext ?_)
  dsimp only [row]
  omega

/-! A point's residual and its mean. -/

abbrev resid (t : Fin cfg0.N) : Vec Ideal S256x1024 .f32 :=
  k0_pay27 (F := Ideal) (iblk m c 1 t) (iblk m c 2 t) (iblk m c 3 t) (iblk m c 4 t) (k0_pay2 (iblk m c 5 t)) (k0_pay4 (iblk m c 0 t)) (k0_pay5 (iblk m c 0 t))
    (k0_pay6 (iblk m c 0 t)) (k0_pay10 (iblk m c 0 t)) (k0_pay14 (iblk m c 0 t))

abbrev mean (t : Fin cfg0.N) : Vec Ideal S256x1 .f32 :=
  k0_pay28 (F := Ideal) (iblk m c 1 t) (iblk m c 2 t) (iblk m c 3 t) (iblk m c 4 t) (k0_pay2 (iblk m c 5 t)) (k0_pay4 (iblk m c 0 t)) (k0_pay5 (iblk m c 0 t))
    (k0_pay6 (iblk m c 0 t)) (k0_pay10 (iblk m c 0 t)) (k0_pay14 (iblk m c 0 t))

theorem resid_at (t : Fin cfg0.N) (i : Fin 256) (j : Fin 1024) : (resid m c t (ix2 i j) : EReal)
    = val_main_v28 (F := Ideal) (argO m c) (argB m c) (argA m c) (argX m c) (argS m c) (argW m c) (ix2 (row t i) j) := by
  rw [← whole_s m c t, ← whole_w m c t]
  exact residual_eq (rows_o m c t) (rows_z m c t) (rows_a m c t) (rows_x m c t) _ _ i j

theorem mean_at (t : Fin cfg0.N) (i : Fin 256) (j : Fin 1) : (mean m c t (ix2 i j) : EReal)
    = val_main_v32 (F := Ideal) (argO m c) (argB m c) (argA m c) (argX m c) (argS m c) (argW m c) (ix2 (row t i) j) := by
  rw [← whole_s m c t, ← whole_w m c t]
  exact mean_eq (rows_o m c t) (rows_z m c t) (rows_a m c t) (rows_x m c t) _ _ i j

/-- The gradient of a point's residual. -/
theorem dresid_at (t : Fin cfg0.N) (i : Fin 256) (j : Fin 1024) :
    (k0_pay41 (F := Ideal) (k0_pay37 (iblk m c 6 t) (resid m c t) (mean m c t) (iblk m c 8 t)) (k0_pay38 (iblk m c 6 t) (resid m c t) (mean m c t) (iblk m c 8 t))
      (k0_pay39 (iblk m c 6 t) (resid m c t) (mean m c t) (iblk m c 8 t)) k0_pay40 (ix2 i j) : EReal)
      = val_main_v87 (F := Ideal) (argO m c) (argB m c) (argA m c) (argX m c) (argS m c) (argW m c) (argG m c) (argY m c) (ix2 (row t i) j) := by
  rw [← whole_g m c t]
  exact dresidual_eq (resid_at m c t) (mean_at m c t) (rows_y m c t) _ i j

/-- The gradient of a point's head groups. -/
theorem dmixed_at (t : Fin cfg0.N) (i : Fin 256) (j : Fin 1024) :
    (k0_pay44 (F := Ideal) (k0_pay2 (iblk m c 5 t)) (k0_pay37 (iblk m c 6 t) (resid m c t) (mean m c t) (iblk m c 8 t))
      (k0_pay38 (iblk m c 6 t) (resid m c t) (mean m c t) (iblk m c 8 t)) (k0_pay39 (iblk m c 6 t) (resid m c t) (mean m c t) (iblk m c 8 t)) k0_pay40 (ix2 i j) : EReal)
      = val_main_v92 (F := Ideal) (argO m c) (argB m c) (argA m c) (argX m c) (argS m c) (argW m c) (argG m c) (argY m c) (ix2 (row t i) j) := by
  rw [whole_w m c t]
  exact dmixed_eq (dresid_at m c t) i j

/-- What a point leaves of the rows' gradients. -/
theorem left (t : Fin cfg0.N) :
    (∀ (i : Fin 256) (j : Fin 512), ((outsAt0 m c t.val t.isLt).1 (ix2 i j) : EReal) = val_main_v121 (F := Ideal) (argO m c) (argB m c) (argA m c) (argX m c) (argS m c) (argW m c) (argG m c) (argY m c) (ix2 (row t i) j))
    ∧ (∀ (i : Fin 256) (j : Fin 512), ((outsAt0 m c t.val t.isLt).2.1 (ix2 i j) : EReal) = val_main_v122 (F := Ideal) (argO m c) (argB m c) (argA m c) (argX m c) (argS m c) (argW m c) (argG m c) (argY m c) (ix2 (row t i) j))
    ∧ (∀ (i : Fin 256) (j : Fin 512), ((outsAt0 m c t.val t.isLt).2.2.1 (ix2 i j) : EReal) = val_main_v94 (F := Ideal) (argO m c) (argB m c) (argA m c) (argX m c) (argS m c) (argW m c) (argG m c) (argY m c) (ix2 (row t i) j))
    ∧ ∀ (i : Fin 256) (j : Fin 1024), ((outsAt0 m c t.val t.isLt).2.2.2.1 (ix2 i j) : EReal) = val_main_v89 (F := Ideal) (argO m c) (argB m c) (argA m c) (argX m c) (argS m c) (argW m c) (argG m c) (argY m c) (ix2 (row t i) j) := by
  have hd := dresid_at m c t
  have hm := dmixed_at m c t
  have hs := whole_s m c t
  have hw := whole_w m c t
  refine ⟨fun i j => ?_, fun i j => ?_, fun i j => ?_, fun i j => ?_⟩
  · refine Eq.trans ?_ (doutput_eq (rows_o m c t) (rows_z m c t) _ hm i j)
    rw [← hs]
    by_cases h : t.val % 32 = 0
    · rw [outsAt0_A m c t h]
      frame_out
    · rw [outsAt0_B m c t h]
      frame_out
  · refine Eq.trans ?_ (dgate_eq (rows_o m c t) (rows_z m c t) _ hm i j)
    rw [← hs]
    by_cases h : t.val % 32 = 0
    · rw [outsAt0_A m c t h]
      frame_out
    · rw [outsAt0_B m c t h]
      frame_out
  · refine Eq.trans ?_ (dsecond_eq hd i j)
    rw [← hw]
    by_cases h : t.val % 32 = 0
    · rw [outsAt0_A m c t h]
      frame_out
    · rw [outsAt0_B m c t h]
      frame_out
  · refine Eq.trans ?_ (drow_eq hd i j)
    by_cases h : t.val % 32 = 0
    · rw [outsAt0_A m c t h]
      frame_out
    · rw [outsAt0_B m c t h]
      frame_out

/-! One step of each sum: what is there, and the block's share; and what each starts from. -/

theorem step_s (u acc : Vec Ideal S1x512 .f32) (y : S1x512.Idx) : (k0_pay66 u acc y : EReal) = acc y + u y ∧ (k0_pay62 (F := Ideal) y : EReal) = 0 := by
  unfold k0_pay66 k0_pay62
  constructor <;> pointwise

theorem step_w (u acc : Vec Ideal S1024x1024 .f32) (y : S1024x1024.Idx) : (k0_pay67 u acc y : EReal) = acc y + u y ∧ (k0_pay63 (F := Ideal) y : EReal) = 0 := by
  unfold k0_pay67 k0_pay63
  constructor <;> pointwise

theorem step_g (u acc : Vec Ideal S1x1024 .f32) (y : S1x1024.Idx) : (k0_pay68 u acc y : EReal) = acc y + u y ∧ (k0_pay64 (F := Ideal) y : EReal) = 0 := by
  unfold k0_pay68 k0_pay64
  constructor <;> pointwise

theorem step_b (u acc : Vec Ideal S1x1024 .f32) (y : S1x1024.Idx) : (k0_pay1 u acc y : EReal) = acc y + u y ∧ (k0_pay65 (F := Ideal) y : EReal) = 0 := by
  unfold k0_pay1 k0_pay65
  constructor <;> pointwise

theorem mixed_at (t : Fin cfg0.N) (i : Fin 256) (j : Fin 1024) :
    (k0_pay26 (F := Ideal) (iblk m c 1 t) (iblk m c 2 t) (iblk m c 4 t) (k0_pay4 (iblk m c 0 t)) (k0_pay5 (iblk m c 0 t)) (k0_pay6 (iblk m c 0 t))
      (k0_pay10 (iblk m c 0 t)) (k0_pay14 (iblk m c 0 t)) (ix2 i j) : EReal)
      = val_main_v24 (F := Ideal) (argO m c) (argB m c) (argA m c) (argS m c) (ix2 (row t i) j) := by
  rw [← whole_s m c t]
  exact mixed_eq (rows_o m c t) (rows_z m c t) (rows_a m c t) _ i j

/-- The gradient of the heads' scale at the last point. -/
theorem total_s (t : Fin cfg0.N) (ht : t.val % 32 = 31) (j : Fin 512) : ((outsAt0 m c t.val t.isLt).2.2.2.2.1 (ix2 0 j) : EReal)
    = ∑ r : Fin 8192, (val_main_v100 (F := Ideal) (argO m c) (argB m c) (argA m c) (argX m c) (argS m c) (argW m c) (argG m c) (argY m c) (ix3 r ⟨j.val / 128, by omega⟩ ⟨j.val % 128, by omega⟩) : EReal) := by
  refine summed (fun n h => (outsAt0 m c n h).2.2.2.2.1 (ix2 0 j)) _ (fun t h => ?_) (fun t h => ?_) t ht
  · rw [outsAt0_A m c t h]
    frame_out
    exact (step_s _ _ _).1.trans (congrArg₂ (fun a c : EReal => a + c) (step_s default default _).2 (dheads_scale_eq (rows_o m c t) (rows_z m c t) (argS m c) (dmixed_at m c t) 0 j))
  · rw [outsAt0_B m c t h]
    frame_out
    exact (step_s _ _ _).1.trans (congrArg (fun a : EReal => _ + a) (dheads_scale_eq (rows_o m c t) (rows_z m c t) (argS m c) (dmixed_at m c t) 0 j))

/-- The gradient of the projection's weight at the last point. -/
theorem total_w (t : Fin cfg0.N) (ht : t.val % 32 = 31) (i j : Fin 1024) : ((outsAt0 m c t.val t.isLt).2.2.2.2.2.1 (ix2 i j) : EReal)
    = ∑ r : Fin 8192, (val_main_v87 (F := Ideal) (argO m c) (argB m c) (argA m c) (argX m c) (argS m c) (argW m c) (argG m c) (argY m c) (ix2 r j) * val_main_v24 (F := Ideal) (argO m c) (argB m c) (argA m c) (argS m c) (ix2 r i) : EReal) := by
  refine summed (fun n h => (outsAt0 m c n h).2.2.2.2.2.1 (ix2 i j)) _ (fun t h => ?_) (fun t h => ?_) t ht
  · rw [outsAt0_A m c t h]
    frame_out
    exact (step_w _ _ _).1.trans (congrArg₂ (fun a c : EReal => a + c) (step_w default default _).2 (dweight_eq (dresid_at m c t) (mixed_at m c t) i j))
  · rw [outsAt0_B m c t h]
    frame_out
    exact (step_w _ _ _).1.trans (congrArg (fun a : EReal => _ + a) (dweight_eq (dresid_at m c t) (mixed_at m c t) i j))

/-- The gradient of the norm's scale at the last point. -/
theorem total_g (t : Fin cfg0.N) (ht : t.val % 32 = 31) (j : Fin 1024) : ((outsAt0 m c t.val t.isLt).2.2.2.2.2.2.1 (ix2 0 j) : EReal)
    = ∑ r : Fin 8192, (val_main_v59 (F := Ideal) (argO m c) (argB m c) (argA m c) (argX m c) (argS m c) (argW m c) (argY m c) (ix2 r j) : EReal) := by
  refine summed (fun n h => (outsAt0 m c n h).2.2.2.2.2.2.1 (ix2 0 j)) _ (fun t h => ?_) (fun t h => ?_) t ht
  · rw [outsAt0_A m c t h]
    frame_out
    exact (step_g _ _ _).1.trans (congrArg₂ (fun a c : EReal => a + c) (step_g default default _).2 (dscale_eq (resid_at m c t) (mean_at m c t) (rows_y m c t) 0 j))
  · rw [outsAt0_B m c t h]
    frame_out
    exact (step_g _ _ _).1.trans (congrArg (fun a : EReal => _ + a) (dscale_eq (resid_at m c t) (mean_at m c t) (rows_y m c t) 0 j))

/-- The gradient of the norm's shift at the last point. -/
theorem total_b (t : Fin cfg0.N) (ht : t.val % 32 = 31) (j : Fin 1024) : ((outsAt0 m c t.val t.isLt).2.2.2.2.2.2.2 (ix2 0 j) : EReal)
    = ∑ r : Fin 8192, (argY m c (ix2 r j) : EReal) := by
  refine summed (fun n h => (outsAt0 m c n h).2.2.2.2.2.2.2 (ix2 0 j)) _ (fun t h => ?_) (fun t h => ?_) t ht
  · rw [outsAt0_A m c t h]
    frame_out
    exact (step_b _ _ _).1.trans (congrArg₂ (fun a c : EReal => a + c) (step_b default default _).2 (dshift_eq (rows_y m c t) 0 j))
  · rw [outsAt0_B m c t h]
    frame_out
    exact (step_b _ _ _).1.trans (congrArg (fun a : EReal => _ + a) (dshift_eq (rows_y m c t) 0 j))

/-! The reference's sums at a place. -/

theorem reference_s (o : Vec Ideal S8192x512 .f32) (b : Vec Ideal S8192x3072 .f32) (a : Vec Ideal S8192x512 .f32) (x : Vec Ideal S8192x1024 .f32) (s : Vec Ideal S1x512 .f32)
    (w : Vec Ideal S1024x1024 .bf16) (g : Vec Ideal S1x1024 .f32) (y : Vec Ideal S8192x1024 .f32) (j : Fin 512) :
    val_main_v120 (F := Ideal) o b a x s w g y (ix2 0 j)
      = (∑ r : Fin 8192, val_main_v100 (F := Ideal) o b a x s w g y (ix3 r ⟨j.val / 128, by omega⟩ ⟨j.val % 128, by omega⟩) : EReal) := by
  rw [val_main_v120_apply, val_main_v105_apply, val_main_cst_22_apply]
  simp only [Finset.univ_unique, Finset.sum_singleton]
  rw [val_main_v102_apply, val_main_v101_apply, val_main_cst_21_apply]
  pointwise
  exact Finset.sum_congr rfl fun r _ => congrArg (val_main_v100 (F := Ideal) o b a x s w g y) (by blk_ext)

theorem reference_w (o : Vec Ideal S8192x512 .f32) (b : Vec Ideal S8192x3072 .f32) (a : Vec Ideal S8192x512 .f32) (x : Vec Ideal S8192x1024 .f32) (s : Vec Ideal S1x512 .f32)
    (w : Vec Ideal S1024x1024 .bf16) (g : Vec Ideal S1x1024 .f32) (y : Vec Ideal S8192x1024 .f32) (i j : Fin 1024) :
    val_main_v91 (F := Ideal) o b a x s w g y (ix2 i j)
      = (∑ r : Fin 8192, val_main_v87 (F := Ideal) o b a x s w g y (ix2 r j) * val_main_v24 (F := Ideal) o b a s (ix2 r i) : EReal) := by
  rw [val_main_v91_apply, val_main_v90_apply]
  exact Finset.sum_congr rfl fun r _ => congrArg₂ (fun p q => (val_main_v87 (F := Ideal) o b a x s w g y p * val_main_v24 (F := Ideal) o b a s q : EReal))
    (by blk_ext) (by blk_ext)

theorem reference_g (o : Vec Ideal S8192x512 .f32) (b : Vec Ideal S8192x3072 .f32) (a : Vec Ideal S8192x512 .f32) (x : Vec Ideal S8192x1024 .f32) (s : Vec Ideal S1x512 .f32)
    (w : Vec Ideal S1024x1024 .bf16) (y : Vec Ideal S8192x1024 .f32) (j : Fin 1024) :
    val_main_v61 (F := Ideal) o b a x s w y (ix2 0 j) = (∑ r : Fin 8192, val_main_v59 (F := Ideal) o b a x s w y (ix2 r j) : EReal) := by
  rw [val_main_v61_apply, val_main_v60_apply, val_main_cst_12_apply]
  pointwise
  exact Finset.sum_congr rfl fun r _ => congrArg (val_main_v59 (F := Ideal) o b a x s w y) (by blk_ext)

theorem reference_b (y : Vec Ideal S8192x1024 .f32) (j : Fin 1024) : val_main_v58 (F := Ideal) y (ix2 0 j) = (∑ r : Fin 8192, y (ix2 r j) : EReal) := by
  rw [val_main_v58_apply, val_main_v57_apply, val_main_cst_11_apply]
  pointwise
  exact Finset.sum_congr rfl fun r _ => congrArg y (by blk_ext)

/-! What the call leaves of each gradient. -/

theorem array_o : (dats m 0 c).arrAt 9 cfg0.N = val_main_v121 (F := Ideal) (argO m c) (argB m c) (argA m c) (argX m c) (argS m c) (argW m c) (argG m c) (argY m c) := by
  refine (dats m 0 c).arrAt_eq_of_covers 9 _ (by decide +kernel) fun t hf y => ?_
  have e := (out_idx t).1
  blk_simp
  rw [after0_9]
  refine Eq.trans ?_ (((left m c t).1 (y 0) (y 1)).trans (congrArg (val_main_v121 (F := Ideal) (argO m c) (argB m c) (argA m c) (argX m c) (argS m c) (argW m c) (argG m c) (argY m c)) ?_))
  · blk_ext
  · blk_ext [e, row]

theorem array_z : (dats m 0 c).arrAt 10 cfg0.N = val_main_v122 (F := Ideal) (argO m c) (argB m c) (argA m c) (argX m c) (argS m c) (argW m c) (argG m c) (argY m c) := by
  refine (dats m 0 c).arrAt_eq_of_covers 10 _ (by decide +kernel) fun t hf y => ?_
  have e := (out_idx t).2.1
  blk_simp
  rw [after0_10]
  refine Eq.trans ?_ (((left m c t).2.1 (y 0) (y 1)).trans (congrArg (val_main_v122 (F := Ideal) (argO m c) (argB m c) (argA m c) (argX m c) (argS m c) (argW m c) (argG m c) (argY m c)) ?_))
  · blk_ext
  · blk_ext [e, row]

theorem array_a : (dats m 0 c).arrAt 11 cfg0.N = val_main_v94 (F := Ideal) (argO m c) (argB m c) (argA m c) (argX m c) (argS m c) (argW m c) (argG m c) (argY m c) := by
  refine (dats m 0 c).arrAt_eq_of_covers 11 _ (by decide +kernel) fun t hf y => ?_
  have e := (out_idx t).2.2.1
  blk_simp
  rw [after0_11]
  refine Eq.trans ?_ (((left m c t).2.2.1 (y 0) (y 1)).trans (congrArg (val_main_v94 (F := Ideal) (argO m c) (argB m c) (argA m c) (argX m c) (argS m c) (argW m c) (argG m c) (argY m c)) ?_))
  · blk_ext
  · blk_ext [e, row]

theorem array_x : (dats m 0 c).arrAt 12 cfg0.N = val_main_v89 (F := Ideal) (argO m c) (argB m c) (argA m c) (argX m c) (argS m c) (argW m c) (argG m c) (argY m c) := by
  refine (dats m 0 c).arrAt_eq_of_covers 12 _ (by decide +kernel) fun t hf y => ?_
  have e := (out_idx t).2.2.2.1
  blk_simp
  rw [after0_12]
  refine Eq.trans ?_ (((left m c t).2.2.2 (y 0) (y 1)).trans (congrArg (val_main_v89 (F := Ideal) (argO m c) (argB m c) (argA m c) (argX m c) (argS m c) (argW m c) (argG m c) (argY m c)) ?_))
  · blk_ext
  · blk_ext [e, row]

theorem array_s : (dats m 0 c).arrAt 13 cfg0.N = val_main_v120 (F := Ideal) (argO m c) (argB m c) (argA m c) (argX m c) (argS m c) (argW m c) (argG m c) (argY m c) := by
  refine (dats m 0 c).arrAt_eq_of_covers 13 _ (by decide +kernel) fun t hf y => ?_
  have e := (out_idx t).2.2.2.2.1
  have ht := (flush0_13 t).mp hf
  blk_simp
  rw [after0_13]
  refine Eq.trans ?_ ((total_s m c t ht (y 1)).trans ((reference_s _ _ _ _ _ _ _ _ (y 1)).symm.trans (congrArg (val_main_v120 (F := Ideal) (argO m c) (argB m c) (argA m c) (argX m c) (argS m c) (argW m c) (argG m c) (argY m c)) ?_)))
  · blk_ext
  · blk_ext [e]

theorem array_w : (dats m 0 c).arrAt 14 cfg0.N = val_main_v91 (F := Ideal) (argO m c) (argB m c) (argA m c) (argX m c) (argS m c) (argW m c) (argG m c) (argY m c) := by
  refine (dats m 0 c).arrAt_eq_of_covers 14 _ (by decide +kernel) fun t hf y => ?_
  have e := (out_idx t).2.2.2.2.2.1
  have ht := (flush0_14 t).mp hf
  blk_simp
  rw [after0_14]
  refine Eq.trans ?_ ((total_w m c t ht (y 0) (y 1)).trans ((reference_w _ _ _ _ _ _ _ _ (y 0) (y 1)).symm.trans (congrArg (val_main_v91 (F := Ideal) (argO m c) (argB m c) (argA m c) (argX m c) (argS m c) (argW m c) (argG m c) (argY m c)) ?_)))
  · blk_ext
  · blk_ext [e]

theorem array_g : (dats m 0 c).arrAt 15 cfg0.N = val_main_v61 (F := Ideal) (argO m c) (argB m c) (argA m c) (argX m c) (argS m c) (argW m c) (argY m c) := by
  refine (dats m 0 c).arrAt_eq_of_covers 15 _ (by decide +kernel) fun t hf y => ?_
  have e := (out_idx t).2.2.2.2.2.2.1
  have ht := (flush0_15 t).mp hf
  blk_simp
  rw [after0_15]
  refine Eq.trans ?_ ((total_g m c t ht (y 1)).trans ((reference_g _ _ _ _ _ _ _ (y 1)).symm.trans (congrArg (val_main_v61 (F := Ideal) (argO m c) (argB m c) (argA m c) (argX m c) (argS m c) (argW m c) (argY m c)) ?_)))
  · blk_ext
  · blk_ext [e]

theorem array_b : (dats m 0 c).arrAt 16 cfg0.N = val_main_v58 (F := Ideal) (argY m c) := by
  refine (dats m 0 c).arrAt_eq_of_covers 16 _ (by decide +kernel) fun t hf y => ?_
  have e := (out_idx t).2.2.2.2.2.2.2
  have ht := (flush0_16 t).mp hf
  blk_simp
  rw [after0_16]
  refine Eq.trans ?_ ((total_b m c t ht (y 1)).trans ((reference_b _ (y 1)).symm.trans (congrArg (val_main_v58 (F := Ideal) (argY m c)) ?_)))
  · blk_ext
  · blk_ext [e]

end Cert.Kernel14Ideal.Gen
-- ==== Proof.PostOne.lean ====
module

public import proofs.«01_k».proof.Defs
public import proofs.«01_k».proof.Proof.Gen.Kernel13Ideal.Value
public import proofs.«01_k».proof.Proof.Gen.Reference13Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The gated norm of the recurrence, the output projection and the first norm, a block of rows at a time. -/

namespace Cert.Kernel13Ideal.Gen

open Idealize.ShloMosaic Idealize.ShloMosaic.TcCoe Idealize.SL.Sem
open Idealize.ShloMosaic.Pipeline (Dat)
open Cert.Reference13Ideal.Read
open scoped BigOperators

set_option maxHeartbeats 2000000 in
/-- A row of a block: the kernel's value is the reference's at the same row of all rows. -/
theorem row_eq {e : Fin 256 → Fin 8192} {o z a : Vec Ideal S256x512 .f32} {x : Vec Ideal S256x1024 .f32} {O A : Vec Ideal S8192x512 .f32} {B : Vec Ideal S8192x3072 .f32}
    {X : Vec Ideal S8192x1024 .f32} (ho : ∀ i j, (o (ix2 i j) : EReal) = O (ix2 (e i) j)) (hz : ∀ i (j : Fin 512), (z (ix2 i j) : EReal) = B (ix2 (e i) ⟨1536 + j.val, by omega⟩))
    (ha : ∀ i j, (a (ix2 i j) : EReal) = A (ix2 (e i) j)) (hx : ∀ i j, (x (ix2 i j) : EReal) = X (ix2 (e i) j))
    (s : Vec Ideal S1x512 .f32) (w : Vec Ideal S1024x1024 .bf16) (g b : Vec Ideal S1x1024 .f32) (i : Fin 256) (j : Fin 1024) :
    (k0_pay1 b (k0_pay7 z a x s w g (k0_pay2 o) (k0_pay3 o) (k0_pay4 o) (k0_pay5 o) (k0_pay6 o) (Scalar.ofBits .f32 0x43000000#32)) (ix2 i j) : EReal)
      = val_main_v47 (F := Ideal) O B A X s w g b (ix2 (e i) j) := by
  unfold k0_pay1 k0_pay7 k0_pay6 k0_pay5 k0_pay4 k0_pay3 k0_pay2 val_main_v47 val_main_v46 val_main_v45 val_main_v44 val_main_v43 val_main_v42
    val_main_v41 val_main_v40 val_main_v39 val_main_cst_7 val_main_v38 val_main_v37 val_main_v36 val_main_v35 val_main_cst_6 val_main_v34 val_main_v33
    val_main_cst_5 val_main_v32 val_main_v31 val_main_v30 val_main_v29 val_main_v28 val_main_cst_4 val_main_v27 val_main_v26 val_main_cst_3
    val_main_v25 val_main_v24 val_main_v23 val_main_cst_2 val_main_v22 val_main_v21 val_main_v20 val_main_v19 val_main_v18 val_main_call0_v5
    val_main_call0_v4 val_main_call0_cst_0 val_main_call0_v3 val_main_call0_v2 val_main_call0_cst val_main_call0_v1 val_main_call0_v0 val_main_v17
    val_main_v16 val_main_v15 val_main_v14 val_main_v13 val_main_v12 val_main_v11 val_main_v10 val_main_v9 val_main_cst_1 val_main_v8 val_main_v7
    val_main_cst_0 val_main_v6 val_main_v5 val_main_cst val_main_v4 val_main_v3 val_main_v2 val_main_v1 val_main_v0
  pointwise
  simp only [Ideal.logistic, ho, hz, ha, hx]
  reads_congr
  all_goals
    refine congrArg (fun a : EReal => _ + a) ((Fin.sum_univ_add (a := 512) (b := 512) _).trans
      (congrArg₂ (fun a b : EReal => a + b) (Finset.sum_congr rfl fun k _ => ?_) (Finset.sum_congr rfl fun k _ => ?_)))
    · rw [dif_pos (show (Fin.castAdd 512 k).val < 512 from k.isLt)]
      have hk : (Fin.castAdd 512 k).val = k.val := rfl
      have hj : k.val / 128 * 128 + k.val % 128 = k.val := by omega
      simp only [hk, ↓reduceDIte, hj]
      rcases (by omega : k.val < 128 ∨ (¬k.val < 128 ∧ k.val - 128 < 128) ∨ (¬k.val < 128 ∧ ¬k.val - 128 < 128 ∧ k.val - 128 - 128 < 128)
        ∨ (¬k.val < 128 ∧ ¬k.val - 128 < 128 ∧ ¬k.val - 128 - 128 < 128)) with h0 | ⟨h0, h1⟩ | ⟨h0, h1, h2⟩ | ⟨h0, h1, h2⟩
      · have hq : k.val / 128 * 128 = 0 := by omega
        rw [dif_pos h0]
        simp only [hq, Nat.zero_add]
        rfl
      · have hq : k.val / 128 * 128 = 128 := by omega
        have hr : 128 + (k.val - 128) = k.val := by omega
        rw [dif_neg h0, dif_pos h1]
        simp only [hq, hr]
        rfl
      · have hq : k.val / 128 * 128 = 256 := by omega
        have hr : 256 + (k.val - 128 - 128) = k.val := by omega
        rw [dif_neg h0, dif_neg h1, dif_pos h2]
        simp only [hq, hr]
        rfl
      · have hq : k.val / 128 * 128 = 384 := by omega
        have hr : 384 + (k.val - 128 - 128 - 128) = k.val := by omega
        rw [dif_neg h0, dif_neg h1, dif_neg h2]
        simp only [hq, hr]
        rfl
    · rw [dif_neg (show ¬(Fin.natAdd 512 k).val < 512 by simp)]
      have hk : (Fin.natAdd 512 k).val = 512 + k.val := rfl
      simp only [hk, Nat.add_sub_cancel_left]
      rfl

variable (m : (ℓ : Loc nD τ sig) → Buf (Elt Ideal) ℓ) (c : Dev nD)

/-- The windows' blocks: rows, and whole arrays. -/
theorem idx : ∀ t : Fin cfg0.N, win0_0.index t = ![t.val, 0] ∧ win0_1.index t = ![t.val, 3] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- A block's row among all rows. -/
def row (t : Fin cfg0.N) (i : Fin 256) : Fin 8192 :=
  ⟨t.val * 256 + i.val, by have := lt_of_lt_of_eq t.isLt (show cfg0.N = 32 from N_0); omega⟩

/-- What the call leaves. -/
theorem array : (dats m 0 c).arrAt 8 cfg0.N
    = val_main_v47 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t hf y => ?_
  obtain ⟨e0, e1, e2, e3, e4, e5, e6, e7, e8⟩ := idx t
  blk_simp
  rw [after0_8]
  frame_out
  have h4 : (iblk m c 4 t : Vec Ideal S1x512 .f32) = m ((c : Thread nD τ).loc main_arg4) := by
    funext y
    blk_ext [iblk, V, e4]
  have h5 : (iblk m c 5 t : Vec Ideal S1024x1024 .bf16) = m ((c : Thread nD τ).loc main_arg5) := by
    funext y
    blk_ext [iblk, V, e5]
  have h6 : (iblk m c 6 t : Vec Ideal S1x1024 .f32) = m ((c : Thread nD τ).loc main_arg6) := by
    funext y
    blk_ext [iblk, V, e6]
  have h7 : (iblk m c 7 t : Vec Ideal S1x1024 .f32) = m ((c : Thread nD τ).loc main_arg7) := by
    funext y
    blk_ext [iblk, V, e7]
  rw [← h4, ← h5, ← h6, ← h7]
  refine Eq.trans ?_ ((row_eq (e := row t) (o := iblk m c 0 t) (z := iblk m c 1 t) (a := iblk m c 2 t) (x := iblk m c 3 t)
    (fun i j => ?_) (fun i j => ?_) (fun i j => ?_) (fun i j => ?_) _ _ _ _ (y 0) (y 1)).trans
    (congrArg (val_main_v47 (F := Ideal) _ _ _ _ _ _ _ _) ?_))
  · blk_ext
  · blk_ext [iblk, V, e0, row]
  · blk_ext [iblk, V, e1, row]
  · blk_ext [iblk, V, e2, row]
  · blk_ext [iblk, V, e3, row]
  · blk_ext [e8, row]

end Cert.Kernel13Ideal.Gen
-- ==== Proof.PostTwo.lean ====
module

public import proofs.«01_k».proof.Defs
public import proofs.«01_k».proof.Proof.Gen.Kernel12Ideal.Value
public import proofs.«01_k».proof.Proof.Gen.Reference12Ideal.Read
public import Idealize.ShloMosaic.PureOps.Ideal.Laws
public import Idealize.ShloMosaic.Lib.Pointwise
public import Idealize.ShloMosaic.Lib.Pipeline.ValueKit

@[expose] public section

set_option maxRecDepth 16384

noncomputable section

/-! The second norm and the per-layer embedding, a block of rows at a time. -/

namespace Cert.Kernel12Ideal.Gen

open Idealize.ShloMosaic Idealize.ShloMosaic.TcCoe Idealize.SL.Sem
open Idealize.ShloMosaic.Pipeline (Dat)
open Cert.Reference12Ideal.Read
open scoped BigOperators

variable (m : (ℓ : Loc nD τ sig) → Buf (Elt Ideal) ℓ) (c : Dev nD)

/-- The windows' blocks: rows, and whole arrays. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-- What the call leaves. -/
theorem array : (dats m 0 c).arrAt 7 cfg0.N
    = val_main_v36 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨e0, e1, e2, e3, e4, e5, e6, e7⟩ := idx t
  blk_simp
  rw [after0_7]
  frame_out
  unfold k0_pay1 k0_pay2 k0_pay3 k0_pay4 k0_pay2 val_main_v36 val_main_v35 val_main_v34 val_main_v33 val_main_v32 val_main_v31 val_main_v30 val_main_v29
    val_main_v28 val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2 val_main_cst_3
    val_main_cst_4 val_main_cst_5 val_main_cst_6
  pointwise
  simp only [Ideal.logistic]
  blk_point [iblk, V, e0, e1, e2, e3, e4, e5, e6, e7]

end Cert.Kernel12Ideal.Gen
-- ==== Proof.Layers.lean ====
module

public import proofs.«01_k».proof.Defs
public import proofs.«01_k».proof.Proof.Embedded
public import proofs.«01_k».proof.Proof.Mixed
public import proofs.«01_k».proof.Proof.PostOne
public import proofs.«01_k».proof.Proof.PostTwo

@[expose] public section

noncomputable section

/-! The claims about the calls on rows: the references' frames, and the equal results. -/

namespace Cert.Proof

open Idealize.ShloMosaic Idealize.ShloMosaic.TcCoe Idealize.SL.Sem

theorem reference11_framed : Cert.quiescent_Reference11Ideal (hReference11Ideal := Cert.Reference11Ideal.Gen.facts) := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

set_option maxHeartbeats 2000000 in
/-- The gradients of the second norm and the per-layer embedding: the call's, and the reference's. -/
theorem equal11 : Cert.algebraic_Kernel11Ideal_Reference11Ideal (hKernel11Ideal := Cert.Kernel11Ideal.Gen.facts) (hReference11Ideal := Cert.Reference11Ideal.Gen.facts) := by
  intro m g m' g' hp hm
  refine ⟨fun c => (Cert.Kernel11Ideal.Gen.dats m 0 c).arrAt 8 Cert.Kernel11Ideal.cfg0.N, fun c => (Cert.Kernel11Ideal.Gen.dats m 0 c).arrAt 9 Cert.Kernel11Ideal.cfg0.N,
    fun c => (Cert.Kernel11Ideal.Gen.dats m 0 c).arrAt 10 Cert.Kernel11Ideal.cfg0.N, fun c => (Cert.Kernel11Ideal.Gen.dats m 0 c).arrAt 11 Cert.Kernel11Ideal.cfg0.N,
    fun c => (Cert.Kernel11Ideal.Gen.dats m 0 c).arrAt 12 Cert.Kernel11Ideal.cfg0.N, fun c => (Cert.Kernel11Ideal.Gen.dats m 0 c).arrAt 13 Cert.Kernel11Ideal.cfg0.N,
    Cert.Kernel11Ideal.Value.run_blocks (F := Ideal) m g, ?_⟩
  refine (θ_run Cert.Reference11Ideal.defs _ _).mono (fun r h c => ?_) (Cert.Reference11Ideal.Value.run (F := Ideal) m' g')
  obtain ⟨m0, m1, m2, m3, m4, m5, m6, m7⟩ := hm c
  have e5 : Cert.Reference11Ideal.Read.val_main_v50 (F := Ideal) (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg7))
      = (Cert.Kernel11Ideal.Gen.dats m 0 c).arrAt 13 Cert.Kernel11Ideal.cfg0.N := by
    rw [m0, m1, m2, m3, m4, m5, m7]
    exact (Cert.Kernel11Ideal.Gen.array_v m c).symm
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.Reference11Ideal.Read.val_main_v88_eq, m0, m1, m2, m3, m4, m5, m6, m7]
    exact (Cert.Kernel11Ideal.Gen.array_x1 m c).symm
  · rw [Cert.Reference11Ideal.Read.val_main_v86_eq, m0, m1, m2, m3, m4, m5, m6, m7]
    exact (Cert.Kernel11Ideal.Gen.array_down m c).symm
  · rw [Cert.Reference11Ideal.Read.val_main_v60_eq, m0, m1, m2, m3, m4, m5, m6, m7]
    exact (Cert.Kernel11Ideal.Gen.array_g m c).symm
  · rw [Cert.Reference11Ideal.Read.val_main_v57_eq, m0, m1, m2, m3, m4, m5, m6, m7]
    exact (Cert.Kernel11Ideal.Gen.array_b m c).symm
  · rw [Cert.Reference11Ideal.Read.val_main_v53_eq, m0, m1, m2, m3, m4, m5, m6, m7]
    exact (Cert.Kernel11Ideal.Gen.array_w m c).symm
  · exact (Cert.Reference11Ideal.Read.val_main_v50_eq (F := Ideal) (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) (m' ((c : Thread Cert.Reference11Ideal.nD Cert.Reference11Ideal.τ).loc Cert.Reference11Ideal.main_arg4)) (m' ((c : Thread Cert.Reference11Ideal.nD Cert.Reference11Ideal.τ).loc Cert.Reference11Ideal.main_arg5)) (m' ((c : Thread Cert.Reference11Ideal.nD Cert.Reference11Ideal.τ).loc Cert.Reference11Ideal.main_arg7))).trans e5

theorem reference12_framed : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The second norm with the per-layer embedding: the call's, and the reference's. -/
theorem equal12 : Cert.algebraic_Kernel12Ideal_Reference12Ideal (hKernel12Ideal := Cert.Kernel12Ideal.Gen.facts) (hReference12Ideal := Cert.Reference12Ideal.Gen.facts) := by
  intro m g m' g' hp hm
  refine ⟨fun c => (Cert.Kernel12Ideal.Gen.dats m 0 c).arrAt 7 Cert.Kernel12Ideal.cfg0.N, Cert.Kernel12Ideal.Value.run_blocks (F := Ideal) m g, ?_⟩
  refine (θ_run Cert.Reference12Ideal.defs _ _).mono (fun r h c => ?_) (Cert.Reference12Ideal.Value.run (F := Ideal) m' g')
  obtain ⟨m0, m1, m2, m3, m4, m5, m6⟩ := hm c
  refine ⟨(h c).1.trans ?_, (h c).2⟩
  rw [Cert.Reference12Ideal.Read.val_main_v36_eq, m0, m1, m2, m3, m4, m5, m6]
  exact (Cert.Kernel12Ideal.Gen.array m c).symm

theorem reference13_framed : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The gated norm, the output projection and the first norm: the call's, and the reference's. -/
theorem equal13 : Cert.algebraic_Kernel13Ideal_Reference13Ideal (hKernel13Ideal := Cert.Kernel13Ideal.Gen.facts) (hReference13Ideal := Cert.Reference13Ideal.Gen.facts) := by
  intro m g m' g' hp hm
  refine ⟨fun c => (Cert.Kernel13Ideal.Gen.dats m 0 c).arrAt 8 Cert.Kernel13Ideal.cfg0.N, Cert.Kernel13Ideal.Value.run_blocks (F := Ideal) m g, ?_⟩
  refine (θ_run Cert.Reference13Ideal.defs _ _).mono (fun r h c => ?_) (Cert.Reference13Ideal.Value.run (F := Ideal) m' g')
  obtain ⟨m0, m1, m2, m3, m4, m5, m6, m7⟩ := hm c
  refine ⟨(h c).1.trans ?_, (h c).2⟩
  rw [Cert.Reference13Ideal.Read.val_main_v47_eq, m0, m1, m2, m3, m4, m5, m6, m7]
  exact (Cert.Kernel13Ideal.Gen.array m c).symm

theorem reference14_framed : Cert.quiescent_Reference14Ideal (hReference14Ideal := Cert.Reference14Ideal.Gen.facts) := fun m ρ _ =>
  (θ_run Cert.Reference14Ideal.defs _ _).mono (fun r h => ⟨fun c => (h c).2.2.2.2.2.2.2.2, sem_eq_zero_of_no_sems (by decide) r.2⟩)
    (Cert.Reference14Ideal.Value.run (F := Ideal) m ρ)

set_option maxHeartbeats 2000000 in
/-- The gradients of the first norm, the output projection and the gated heads: the call's, and the reference's. -/
theorem equal14 : Cert.algebraic_Kernel14Ideal_Reference14Ideal (hKernel14Ideal := Cert.Kernel14Ideal.Gen.facts) (hReference14Ideal := Cert.Reference14Ideal.Gen.facts) := by
  intro m g m' g' hp hm
  refine ⟨fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N,
    fun c => (Cert.Kernel14Ideal.Gen.dats m 0 c).arrAt 12 Cert.Kernel14Ideal.cfg0.N,
    fun c => (Cert.Kernel14Ideal.Gen.dats m 0 c).arrAt 13 Cert.Kernel14Ideal.cfg0.N,
    fun c => (Cert.Kernel14Ideal.Gen.dats m 0 c).arrAt 14 Cert.Kernel14Ideal.cfg0.N,
    fun c => (Cert.Kernel14Ideal.Gen.dats m 0 c).arrAt 15 Cert.Kernel14Ideal.cfg0.N,
    fun c => (Cert.Kernel14Ideal.Gen.dats m 0 c).arrAt 16 Cert.Kernel14Ideal.cfg0.N,
    Cert.Kernel14Ideal.Value.run_blocks (F := Ideal) m g, ?_⟩
  refine (θ_run Cert.Reference14Ideal.defs _ _).mono (fun r h c => ?_) (Cert.Reference14Ideal.Value.run (F := Ideal) m' g')
  obtain ⟨m0, m1, m2, m3, m4, m5, m6, m7, m8⟩ := hm c
  have n0 : StableHlo.launchContents m' c (Proc.tc.devRef Cert.Reference14Ideal.main_arg0) = m ((c : Thread Cert.Kernel14Ideal.nD Cert.Kernel14Ideal.τ).loc Cert.Kernel14Ideal.main_arg0) := m0
  have n1 : StableHlo.launchContents m' c (Proc.tc.devRef Cert.Reference14Ideal.main_arg1) = m ((c : Thread Cert.Kernel14Ideal.nD Cert.Kernel14Ideal.τ).loc Cert.Kernel14Ideal.main_arg1) := m1
  have n2 : StableHlo.launchContents m' c (Proc.tc.devRef Cert.Reference14Ideal.main_arg2) = m ((c : Thread Cert.Kernel14Ideal.nD Cert.Kernel14Ideal.τ).loc Cert.Kernel14Ideal.main_arg2) := m2
  have n3 : StableHlo.launchContents m' c (Proc.tc.devRef Cert.Reference14Ideal.main_arg3) = m ((c : Thread Cert.Kernel14Ideal.nD Cert.Kernel14Ideal.τ).loc Cert.Kernel14Ideal.main_arg3) := m3
  have n4 : StableHlo.launchContents m' c (Proc.tc.devRef Cert.Reference14Ideal.main_arg4) = m ((c : Thread Cert.Kernel14Ideal.nD Cert.Kernel14Ideal.τ).loc Cert.Kernel14Ideal.main_arg4) := m4
  have n5 : StableHlo.launchContents m' c (Proc.tc.devRef Cert.Reference14Ideal.main_arg5) = m ((c : Thread Cert.Kernel14Ideal.nD Cert.Kernel14Ideal.τ).loc Cert.Kernel14Ideal.main_arg5) := m5
  have n6 : StableHlo.launchContents m' c (Proc.tc.devRef Cert.Reference14Ideal.main_arg6) = m ((c : Thread Cert.Kernel14Ideal.nD Cert.Kernel14Ideal.τ).loc Cert.Kernel14Ideal.main_arg6) := m6
  have n8 : StableHlo.launchContents m' c (Proc.tc.devRef Cert.Reference14Ideal.main_arg8) = m ((c : Thread Cert.Kernel14Ideal.nD Cert.Kernel14Ideal.τ).loc Cert.Kernel14Ideal.main_arg8) := m8
  have e8 : Cert.Reference14Ideal.Read.val_main_v58 (F := Ideal) (m' ((c : Thread Cert.Reference14Ideal.nD Cert.Reference14Ideal.τ).loc Cert.Reference14Ideal.main_arg8)) = (Cert.Kernel14Ideal.Gen.dats m 0 c).arrAt 16 Cert.Kernel14Ideal.cfg0.N := by
    rw [m8]
    exact (Cert.Kernel14Ideal.Gen.array_b m c).symm
  refine ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩
  · rw [Cert.Reference14Ideal.Read.val_main_v121_eq, n0, n1, n2, n3, n4, n5, n6, n8]
    exact (Cert.Kernel14Ideal.Gen.array_o m c).symm
  · rw [Cert.Reference14Ideal.Read.val_main_v122_eq, n0, n1, n2, n3, n4, n5, n6, n8]
    exact (Cert.Kernel14Ideal.Gen.array_z m c).symm
  · rw [Cert.Reference14Ideal.Read.val_main_v94_eq, n0, n1, n2, n3, n4, n5, n6, n8]
    exact (Cert.Kernel14Ideal.Gen.array_a m c).symm
  · rw [Cert.Reference14Ideal.Read.val_main_v89_eq, n0, n1, n2, n3, n4, n5, n6, n8]
    exact (Cert.Kernel14Ideal.Gen.array_x m c).symm
  · rw [Cert.Reference14Ideal.Read.val_main_v120_eq, n0, n1, n2, n3, n4, n5, n6, n8]
    exact (Cert.Kernel14Ideal.Gen.array_s m c).symm
  · rw [Cert.Reference14Ideal.Read.val_main_v91_eq, n0, n1, n2, n3, n4, n5, n6, n8]
    exact (Cert.Kernel14Ideal.Gen.array_w m c).symm
  · rw [Cert.Reference14Ideal.Read.val_main_v61_eq, n0, n1, n2, n3, n4, n5, n8]
    exact (Cert.Kernel14Ideal.Gen.array_g m c).symm
  · exact e8

end Cert.Proof

end
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite2
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Frames
public import proofs.«01_k».proof.Proof.Bits.Launch
public import proofs.«01_k».proof.Proof.Value
public import proofs.«01_k».proof.Proof.Ffn
public import proofs.«01_k».proof.Proof.Projection
public import proofs.«01_k».proof.Proof.Layers
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.Gen.facts, Cert.Pre_finite2.Gen.facts,
    fun m ρ _ => Cert.Kernel.Gen.framed m ρ, fun m ρ _ => Cert.KernelIdeal.Gen.framed m ρ, fun m ρ _ => Cert.KernelIdeal.Gen.framed m ρ,
    fun m ρ _ => reference_framed m ρ, fun m ρ _ => reference_framed m ρ,
    fun m ρ _ => Cert.Kernel2.Gen.frame m ρ, fun m ρ _ => Cert.Kernel2Ideal.Gen.frame m ρ, fun m ρ _ => Cert.Kernel2Ideal.Gen.frame m ρ, fun m ρ _ => reference2_framed m ρ trivial, fun m ρ _ => reference2_framed m ρ trivial,
    fun m ρ _ => Cert.Kernel3.Gen.frame m ρ, fun m ρ _ => Cert.Kernel3Ideal.Gen.frame m ρ, fun m ρ _ => reference3_framed m ρ trivial,
    fun m ρ _ => Cert.Kernel4.Gen.frame m ρ, fun m ρ _ => Cert.Kernel4Ideal.Gen.frame m ρ, fun m ρ _ => reference4_framed m ρ trivial,
    fun m ρ _ => Cert.Kernel5.Gen.frame m ρ, fun m ρ _ => Cert.Kernel5Ideal.Gen.frame m ρ, fun m ρ _ => reference5_framed m ρ trivial,
    fun m ρ _ => Cert.Kernel6.Gen.frame m ρ, fun m ρ _ => Cert.Kernel6Ideal.Gen.frame m ρ, fun m ρ _ => reference6_framed m ρ trivial,
    fun m ρ _ => Cert.Kernel7.Gen.frame m ρ, fun m ρ _ => Cert.Kernel7Ideal.Gen.frame m ρ, fun m ρ _ => reference7_framed m ρ trivial,
    fun m ρ _ => Cert.Kernel8.Gen.frame m ρ, fun m ρ _ => Cert.Kernel8Ideal.Gen.frame m ρ, fun m ρ _ => reference8_framed m ρ trivial,
    fun m ρ _ => Cert.Kernel9.Gen.frame m ρ, fun m ρ _ => Cert.Kernel9Ideal.Gen.frame m ρ, fun m ρ _ => reference9_framed m ρ trivial,
    fun m ρ _ => Cert.Kernel10.Gen.frame m ρ, fun m ρ _ => Cert.Kernel10Ideal.Gen.frame m ρ, fun m ρ _ => reference10_framed m ρ trivial,
    fun m ρ _ => Cert.Kernel11.Gen.frame m ρ, fun m ρ _ => Cert.Kernel11Ideal.Gen.frame m ρ, fun m ρ _ => reference11_framed m ρ trivial,
    fun m ρ _ => Cert.Kernel12.Gen.frame m ρ, fun m ρ _ => Cert.Kernel12Ideal.Gen.frame m ρ, fun m ρ _ => reference12_framed m ρ trivial,
    fun m ρ _ => Cert.Kernel13.Gen.frame m ρ, fun m ρ _ => Cert.Kernel13Ideal.Gen.frame m ρ, fun m ρ _ => reference13_framed m ρ trivial,
    fun m ρ _ => Cert.Kernel14.Gen.frame m ρ, fun m ρ _ => Cert.Kernel14Ideal.Gen.frame m ρ, fun m ρ _ => reference14_framed m ρ trivial,
    named, equal_results, trivial, equal2, trivial, equal3, trivial, equal4, trivial, equal5, trivial, equal6, trivial, equal7, trivial, equal8, trivial, equal9, trivial, equal10, trivial, equal11, trivial, equal12, trivial, equal13, trivial, equal14⟩

end Cert.Proof

end
